-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13)) (m ((c.tc : Thread Cert.TailIdeal.nD Cert.TailIdeal.τ).loc Cert.TailIdeal.main_arg14)) (m ((c.tc : Thread Cert.TailIdeal.nD Cert.TailIdeal.τ).loc Cert.TailIdeal.main_arg15)) (m ((c.tc : Thread Cert.TailIdeal.nD Cert.TailIdeal.τ).loc Cert.TailIdeal.main_arg16)) (m ((c.tc : Thread Cert.TailIdeal.nD Cert.TailIdeal.τ).loc Cert.TailIdeal.main_arg17))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_finite_tail [hPre_finite_tail : Cert.Pre_finite_tail.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_finite_tail.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10)) (m ((c.tc : Thread Cert.TailReferenceIdeal.nD Cert.TailReferenceIdeal.τ).loc Cert.TailReferenceIdeal.main_arg11)) (m ((c.tc : Thread Cert.TailReferenceIdeal.nD Cert.TailReferenceIdeal.τ).loc Cert.TailReferenceIdeal.main_arg12)) (m ((c.tc : Thread Cert.TailReferenceIdeal.nD Cert.TailReferenceIdeal.τ).loc Cert.TailReferenceIdeal.main_arg13)) (m ((c.tc : Thread Cert.TailReferenceIdeal.nD Cert.TailReferenceIdeal.τ).loc Cert.TailReferenceIdeal.main_arg14)) (m ((c.tc : Thread Cert.TailReferenceIdeal.nD Cert.TailReferenceIdeal.τ).loc Cert.TailReferenceIdeal.main_arg15)) (m ((c.tc : Thread Cert.TailReferenceIdeal.nD Cert.TailReferenceIdeal.τ).loc Cert.TailReferenceIdeal.main_arg16)) (m ((c.tc : Thread Cert.TailReferenceIdeal.nD Cert.TailReferenceIdeal.τ).loc Cert.TailReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17))
      ∧ r.2.sem = fun _ => 0)

def quiescent_TailReferenceIdeal_pre_finite_tail [hTailReferenceIdeal : Cert.TailReferenceIdeal.Facts] [hPre_finite_tail : Cert.Pre_finite_tail.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_finite_tail m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v101_14) = v1 c
          ∧ r.2.mem ((c.tc : Thread Cert.ReferenceIdeal.nD Cert.ReferenceIdeal.τ).loc Cert.ReferenceIdeal.main_v101_15) = v2 c
          ∧ r.2.mem ((c.tc : Thread Cert.ReferenceIdeal.nD Cert.ReferenceIdeal.τ).loc Cert.ReferenceIdeal.main_v131) = v3 c
          ∧ r.2.mem ((c.tc : Thread Cert.ReferenceIdeal.nD Cert.ReferenceIdeal.τ).loc Cert.ReferenceIdeal.main_v133) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def preserves_Tail_TailIdeal : Prop :=
  True

def algebraic_TailIdeal_TailReferenceIdeal_pre_finite_tail [hTailIdeal : Cert.TailIdeal.Facts] [hTailReferenceIdeal : Cert.TailReferenceIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal_finite_tail m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)
      ∧ m' ((c.tc : Thread Cert.TailReferenceIdeal.nD Cert.TailReferenceIdeal.τ).loc Cert.TailReferenceIdeal.main_arg15) = m ((c.tc : Thread Cert.TailIdeal.nD Cert.TailIdeal.τ).loc Cert.TailIdeal.main_arg15)
      ∧ m' ((c.tc : Thread Cert.TailReferenceIdeal.nD Cert.TailReferenceIdeal.τ).loc Cert.TailReferenceIdeal.main_arg16) = m ((c.tc : Thread Cert.TailIdeal.nD Cert.TailIdeal.τ).loc Cert.TailIdeal.main_arg16)
      ∧ m' ((c.tc : Thread Cert.TailReferenceIdeal.nD Cert.TailReferenceIdeal.τ).loc Cert.TailReferenceIdeal.main_arg17) = m ((c.tc : Thread Cert.TailIdeal.nD Cert.TailIdeal.τ).loc Cert.TailIdeal.main_arg17)) →
    ∃ (v0 : (c : Dev Cert.TailIdeal.nD) → Buf (Elt Ideal) ((c.tc : Thread Cert.TailIdeal.nD Cert.TailIdeal.τ).loc Cert.TailIdeal.main_v10_0)) (v1 : (c : Dev Cert.TailIdeal.nD) → Buf (Elt Ideal) ((c.tc : Thread Cert.TailIdeal.nD Cert.TailIdeal.τ).loc Cert.TailIdeal.main_v10_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v10_0) = v0 c
          ∧ r.2.mem ((c.tc : Thread Cert.TailIdeal.nD Cert.TailIdeal.τ).loc Cert.TailIdeal.main_v10_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v260) = v0 c
          ∧ r.2.mem ((c.tc : Thread Cert.TailReferenceIdeal.nD Cert.TailReferenceIdeal.τ).loc Cert.TailReferenceIdeal.main_v266) = v1 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14)
          ∧ r.2.mem ((c.tc : Thread Cert.TailReferenceIdeal.nD Cert.TailReferenceIdeal.τ).loc Cert.TailReferenceIdeal.main_arg15) = m' ((c.tc : Thread Cert.TailReferenceIdeal.nD Cert.TailReferenceIdeal.τ).loc Cert.TailReferenceIdeal.main_arg15)
          ∧ r.2.mem ((c.tc : Thread Cert.TailReferenceIdeal.nD Cert.TailReferenceIdeal.τ).loc Cert.TailReferenceIdeal.main_arg16) = m' ((c.tc : Thread Cert.TailReferenceIdeal.nD Cert.TailReferenceIdeal.τ).loc Cert.TailReferenceIdeal.main_arg16)
          ∧ r.2.mem ((c.tc : Thread Cert.TailReferenceIdeal.nD Cert.TailReferenceIdeal.τ).loc Cert.TailReferenceIdeal.main_arg17) = m' ((c.tc : Thread Cert.TailReferenceIdeal.nD Cert.TailReferenceIdeal.τ).loc Cert.TailReferenceIdeal.main_arg17))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hPre_finite : Cert.Pre_finite.Facts) (hPre_finite_tail : Cert.Pre_finite_tail.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailReferenceIdeal (hTailReferenceIdeal := hTailReferenceIdeal)
    ∧ quiescent_TailReferenceIdeal_pre_finite_tail (hTailReferenceIdeal := hTailReferenceIdeal) (hPre_finite_tail := hPre_finite_tail)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailReferenceIdeal_pre_finite_tail (hTailIdeal := hTailIdeal) (hTailReferenceIdeal := hTailReferenceIdeal) (hPre_finite_tail := hPre_finite_tail)
-- ==== Pre_finite.lean ====
abbrev S2x1024x1024 : Shape := ⟨3, ![2, 1024, 1024]⟩
abbrev S2x64x64 : Shape := ⟨3, ![2, 64, 64]⟩
abbrev S2x1x1024 : Shape := ⟨3, ![2, 1, 1024]⟩
abbrev S2x16x64x64 : Shape := ⟨4, ![2, 16, 64, 64]⟩
abbrev S2x1024x4 : Shape := ⟨3, ![2, 1024, 4]⟩
abbrev S1024 : Shape := ⟨1, ![1024]⟩
abbrev S2048x1024 : Shape := ⟨2, ![2048, 1024]⟩
abbrev S1024x4 : Shape := ⟨2, ![1024, 4]⟩
abbrev S16x1024 : Shape := ⟨2, ![16, 1024]⟩
abbrev S16 : Shape := ⟨1, ![16]⟩
abbrev S64x1024 : Shape := ⟨2, ![64, 1024]⟩
abbrev S1024x1024 : Shape := ⟨2, ![1024, 1024]⟩
abbrev S1024x64 : Shape := ⟨2, ![1024, 64]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S2x16x64x64 : S_.BroadcastsInDim S2x16x64x64 (![] : Fin 0 → Fin S2x16x64x64.rank)
  reducesTo_S2x16x64x64_S_d0_1_2_3 : S2x16x64x64.ReducesTo [0, 1, 2, 3] S_
  bcast_S_S2x1024x4 : S_.BroadcastsInDim S2x1024x4 (![] : Fin 0 → Fin S2x1024x4.rank)
  reducesTo_S2x1024x4_S_d0_1_2 : S2x1024x4.ReducesTo [0, 1, 2] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_
  bcast_S_S64x1024 : S_.BroadcastsInDim S64x1024 (![] : Fin 0 → Fin S64x1024.rank)
  reducesTo_S64x1024_S_d0_1 : S64x1024.ReducesTo [0, 1] S_

variable [Facts]

def fn_part5 {F : FTy → Type} [FloatOps F] (main_arg19 : FVec F S64x1024 .f32) (main_v83 : IVec S_ 1) (main_v84 : FVec F S64x1024 .f32) (main_cst_32 : FVec F S_ .f32) : IVec S_ 1 :=
  let main_v85 : FVec F S64x1024 .f32 := broadcastInDim S64x1024 ![] bcast_S_S64x1024 main_cst_32
  let main_v86 : IVec S64x1024 1 := cmpf .olt main_v84 main_v85
  let main_c_33 : IVec S_ 1 := constantI S_ 1 1#1
  let main_v87 : IVec S_ 1 := (fun x v => Host.reduce IntOp.andi x v reducesTo_S64x1024_S_d0_1 h_S_) main_v86 main_c_33
  let main_v88 : IVec S_ 1 := andi main_v83 main_v87
  let main_v89 : FVec F S64x1024 .f32 := Host.absf main_arg19
  let main_cst_34 : FVec F S_ .f32 := constant S_ .f32 0x7F800000#32
  let main_v90 : FVec F S64x1024 .f32 := broadcastInDim S64x1024 ![] bcast_S_S64x1024 main_cst_34
  let main_v91 : IVec S64x1024 1 := cmpf .olt main_v89 main_v90
  let main_c_35 : IVec S_ 1 := constantI S_ 1 1#1
  let main_v92 : IVec S_ 1 := (fun x v => Host.reduce IntOp.andi x v reducesTo_S64x1024_S_d0_1 h_S_) main_v91 main_c_35
  let main_v93 : IVec S_ 1 := andi main_v88 main_v92
  main_v93

def fn_part4 {F : FTy → Type} [FloatOps F] (main_arg14 : FVec F S64x1024 .f32) (main_arg16 : FVec F S64x1024 .f32) (main_arg17 : FVec F S64x1024 .f32) (main_arg18 : FVec F S64x1024 .f32) (main_arg19 : FVec F S64x1024 .f32) (main_v63 : IVec S_ 1) (main_v67 : IVec S_ 1) : IVec S_ 1 :=
  let main_v68 : IVec S_ 1 := andi main_v63 main_v67
  let main_v69 : FVec F S64x1024 .f32 := Host.absf main_arg14
  let main_cst_26 : FVec F S_ .f32 := constant S_ .f32 0x7F800000#32
  let main_v70 : FVec F S64x1024 .f32 := broadcastInDim S64x1024 ![] bcast_S_S64x1024 main_cst_26
  let main_v71 : IVec S64x1024 1 := cmpf .olt main_v69 main_v70
  let main_c_27 : IVec S_ 1 := constantI S_ 1 1#1
  let main_v72 : IVec S_ 1 := (fun x v => Host.reduce IntOp.andi x v reducesTo_S64x1024_S_d0_1 h_S_) main_v71 main_c_27
  let main_v73 : IVec S_ 1 := andi main_v68 main_v72
  let main_v74 : FVec F S64x1024 .f32 := Host.absf main_arg16
  let main_cst_28 : FVec F S_ .f32 := constant S_ .f32 0x7F800000#32
  let main_v75 : FVec F S64x1024 .f32 := broadcastInDim S64x1024 ![] bcast_S_S64x1024 main_cst_28
  let main_v76 : IVec S64x1024 1 := cmpf .olt main_v74 main_v75
  let main_c_29 : IVec S_ 1 := constantI S_ 1 1#1
  let main_v77 : IVec S_ 1 := (fun x v => Host.reduce IntOp.andi x v reducesTo_S64x1024_S_d0_1 h_S_) main_v76 main_c_29
  let main_v78 : IVec S_ 1 := andi main_v73 main_v77
  let main_v79 : FVec F S64x1024 .f32 := Host.absf main_arg17
  let main_cst_30 : FVec F S_ .f32 := constant S_ .f32 0x7F800000#32
  let main_v80 : FVec F S64x1024 .f32 := broadcastInDim S64x1024 ![] bcast_S_S64x1024 main_cst_30
  let main_v81 : IVec S64x1024 1 := cmpf .olt main_v79 main_v80
  let main_c_31 : IVec S_ 1 := constantI S_ 1 1#1
  let main_v82 : IVec S_ 1 := (fun x v => Host.reduce IntOp.andi x v reducesTo_S64x1024_S_d0_1 h_S_) main_v81 main_c_31
  let main_v83 : IVec S_ 1 := andi main_v78 main_v82
  let main_v84 : FVec F S64x1024 .f32 := Host.absf main_arg18
  let main_cst_32 : FVec F S_ .f32 := constant S_ .f32 0x7F800000#32
  fn_part5 (F := F) main_arg19 main_v83 main_v84 main_cst_32

def fn_part3 {F : FTy → Type} [FloatOps F] (main_arg11 : FVec F S16 .f32) (main_arg12 : FVec F S16 .f32) (main_arg13 : FVec F S64x1024 .f32) (main_arg14 : FVec F S64x1024 .f32) (main_arg16 : FVec F S64x1024 .f32) (main_arg17 : FVec F S64x1024 .f32) (main_arg18 : FVec F S64x1024 .f32) (main_arg19 : FVec F S64x1024 .f32) (main_v48 : IVec S_ 1) (main_v49 : FVec F S16x1024 .f32) (main_v50 : FVec F S16x1024 .f32) : IVec S_ 1 :=
  let main_v51 : IVec S16x1024 1 := cmpf .olt main_v49 main_v50
  let main_c_19 : IVec S_ 1 := constantI S_ 1 1#1
  let main_v52 : IVec S_ 1 := (fun x v => Host.reduce IntOp.andi x v reducesTo_S16x1024_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S64x1024 .f32 := Host.absf main_arg13
  let main_cst_24 : FVec F S_ .f32 := constant S_ .f32 0x7F800000#32
  let main_v65 : FVec F S64x1024 .f32 := broadcastInDim S64x1024 ![] bcast_S_S64x1024 main_cst_24
  let main_v66 : IVec S64x1024 1 := cmpf .olt main_v64 main_v65
  let main_c_25 : IVec S_ 1 := constantI S_ 1 1#1
  let main_v67 : IVec S_ 1 := (fun x v => Host.reduce IntOp.andi x v reducesTo_S64x1024_S_d0_1 h_S_) main_v66 main_c_25
  fn_part4 (F := F) main_arg14 main_arg16 main_arg17 main_arg18 main_arg19 main_v63 main_v67

def fn_part2 {F : FTy → Type} [FloatOps F] (main_arg7 : FVec F S2048x1024 .f32) (main_arg8 : FVec F S1024x4 .f32) (main_arg9 : FVec F S1024 .f32) (main_arg10 : FVec F S16x1024 .f32) (main_arg11 : FVec F S16 .f32) (main_arg12 : FVec F S16 .f32) (main_arg13 : FVec F S64x1024 .f32) (main_arg14 : FVec F S64x1024 .f32) (main_arg16 : FVec F S64x1024 .f32) (main_arg17 : FVec F S64x1024 .f32) (main_arg18 : FVec F S64x1024 .f32) (main_arg19 : FVec F S64x1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024x4 .f32 := Host.absf main_arg8
  let main_cst_14 : FVec F S_ .f32 := constant S_ .f32 0x7F800000#32
  let main_v40 : FVec F S1024x4 .f32 := broadcastInDim S1024x4 ![] bcast_S_S1024x4 main_cst_14
  let main_v41 : IVec S1024x4 1 := cmpf .olt main_v39 main_v40
  let main_c_15 : IVec S_ 1 := constantI S_ 1 1#1
  let main_v42 : IVec S_ 1 := (fun x v => Host.reduce IntOp.andi x v reducesTo_S1024x4_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S16x1024 .f32 := Host.absf main_arg10
  let main_cst_18 : FVec F S_ .f32 := constant S_ .f32 0x7F800000#32
  let main_v50 : FVec F S16x1024 .f32 := broadcastInDim S16x1024 ![] bcast_S_S16x1024 main_cst_18
  fn_part3 (F := F) main_arg11 main_arg12 main_arg13 main_arg14 main_arg16 main_arg17 main_arg18 main_arg19 main_v48 main_v49 main_v50

def fn_part1 {F : FTy → Type} [FloatOps F] (main_arg4 : FVec F S2x1024x4 .f32) (main_arg5 : FVec F S1024 .f32) (main_arg6 : FVec F S1024 .f32) (main_arg7 : FVec F S2048x1024 .f32) (main_arg8 : FVec F S1024x4 .f32) (main_arg9 : FVec F S1024 .f32) (main_arg10 : FVec F S16x1024 .f32) (main_arg11 : FVec F S16 .f32) (main_arg12 : FVec F S16 .f32) (main_arg13 : FVec F S64x1024 .f32) (main_arg14 : FVec F S64x1024 .f32) (main_arg16 : FVec F S64x1024 .f32) (main_arg17 : FVec F S64x1024 .f32) (main_arg18 : FVec F S64x1024 .f32) (main_arg19 : FVec F S64x1024 .f32) (main_v13 : IVec S_ 1) (main_v16 : IVec S2x16x64x64 1) : IVec S_ 1 :=
  let main_c_5 : IVec S_ 1 := constantI S_ 1 1#1
  let main_v17 : IVec S_ 1 := (fun x v => Host.reduce IntOp.andi x v reducesTo_S2x16x64x64_S_d0_1_2_3 h_S_) main_v16 main_c_5
  let main_v18 : IVec S_ 1 := andi main_v13 main_v17
  let main_v19 : FVec F S2x1024x4 .f32 := Host.absf main_arg4
  let main_cst_6 : FVec F S_ .f32 := constant S_ .f32 0x7F800000#32
  let main_v20 : FVec F S2x1024x4 .f32 := broadcastInDim S2x1024x4 ![] bcast_S_S2x1024x4 main_cst_6
  let main_v21 : IVec S2x1024x4 1 := cmpf .olt main_v19 main_v20
  let main_c_7 : IVec S_ 1 := constantI S_ 1 1#1
  let main_v22 : IVec S_ 1 := (fun x v => Host.reduce IntOp.andi x v reducesTo_S2x1024x4_S_d0_1_2 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg16 main_arg17 main_arg18 main_arg19 main_v33

def fn {F : FTy → Type} [FloatOps F] (main_arg0 : FVec F S2x1024x1024 .f32) (main_arg1 : FVec F S2x64x64 .f32) (main_arg2 : FVec F S2x1x1024 .f32) (main_arg3 : FVec F S2x16x64x64 .f32) (main_arg4 : FVec F S2x1024x4 .f32) (main_arg5 : FVec F S1024 .f32) (main_arg6 : FVec F S1024 .f32) (main_arg7 : FVec F S2048x1024 .f32) (main_arg8 : FVec F S1024x4 .f32) (main_arg9 : FVec F S1024 .f32) (main_arg10 : FVec F S16x1024 .f32) (main_arg11 : FVec F S16 .f32) (main_arg12 : FVec F S16 .f32) (main_arg13 : FVec F S64x1024 .f32) (main_arg14 : FVec F S64x1024 .f32) (main_arg15 : FVec F S1024x1024 .f32) (main_arg16 : FVec F S64x1024 .f32) (main_arg17 : FVec F S64x1024 .f32) (main_arg18 : FVec F S64x1024 .f32) (main_arg19 : FVec F S64x1024 .f32) (main_arg20 : FVec F S1024x64 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  let main_v4 : FVec F S2x64x64 .f32 := Host.absf main_arg1
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S2x1x1024 .f32 := Host.absf main_arg2
  let main_cst_2 : FVec F S_ .f32 := constant S_ .f32 0x7F800000#32
  let main_v10 : FVec F S2x1x1024 .f32 := broadcastInDim S2x1x1024 ![] bcast_S_S2x1x1024 main_cst_2
  let main_v11 : IVec S2x1x1024 1 := cmpf .olt main_v9 main_v10
  let main_c_3 : IVec S_ 1 := constantI S_ 1 1#1
  let main_v12 : IVec S_ 1 := (fun x v => Host.reduce IntOp.andi x v reducesTo_S2x1x1024_S_d0_1_2 h_S_) main_v11 main_c_3
  let main_v13 : IVec S_ 1 := andi main_v8 main_v12
  let main_v14 : FVec F S2x16x64x64 .f32 := Host.absf main_arg3
  let main_cst_4 : FVec F S_ .f32 := constant S_ .f32 0x7F800000#32
  let main_v15 : FVec F S2x16x64x64 .f32 := broadcastInDim S2x16x64x64 ![] bcast_S_S2x16x64x64 main_cst_4
  let main_v16 : IVec S2x16x64x64 1 := cmpf .olt main_v14 main_v15
  fn_part1 (F := F) main_arg4 main_arg5 main_arg6 main_arg7 main_arg8 main_arg9 main_arg10 main_arg11 main_arg12 main_arg13 main_arg14 main_arg16 main_arg17 main_arg18 main_arg19 main_v13 main_v16
-- ==== Pre_finite_tail.lean ====
abbrev S2x1024x1024 : Shape := ⟨3, ![2, 1024, 1024]⟩
abbrev S2x384 : Shape := ⟨2, ![2, 384]⟩
abbrev S2x64x64 : Shape := ⟨3, ![2, 64, 64]⟩
abbrev S32x32 : Shape := ⟨2, ![32, 32]⟩
abbrev S32x1024 : Shape := ⟨2, ![32, 1024]⟩
abbrev S1024x32 : Shape := ⟨2, ![1024, 32]⟩
abbrev S8x1024 : Shape := ⟨2, ![8, 1024]⟩
abbrev S8x1024x8 : Shape := ⟨3, ![8, 1024, 8]⟩
abbrev S8x8x1024 : Shape := ⟨3, ![8, 8, 1024]⟩
abbrev S1x2048 : Shape := ⟨2, ![1, 2048]⟩
abbrev S1 : Shape := ⟨1, ![1]⟩
abbrev S64x1024 : Shape := ⟨2, ![64, 1024]⟩
abbrev S1024x64 : Shape := ⟨2, ![1024, 64]⟩
abbrev S384x1024 : Shape := ⟨2, ![384, 1024]⟩
abbrev S1024x384 : Shape := ⟨2, ![1024, 384]⟩
abbrev S1x1408 : Shape := ⟨2, ![1, 1408]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S32x32 : S_.BroadcastsInDim S32x32 (![] : Fin 0 → Fin S32x32.rank)
  reducesTo_S32x32_S_d0_1 : S32x32.ReducesTo [0, 1] S_
  bcast_S_S32x1024 : S_.BroadcastsInDim S32x1024 (![] : Fin 0 → Fin S32x1024.rank)
  reducesTo_S32x1024_S_d0_1 : S32x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S8x1024 : S_.BroadcastsInDim S8x1024 (![] : Fin 0 → Fin S8x1024.rank)
  reducesTo_S8x1024_S_d0_1 : S8x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part2 {F : FTy → Type} [FloatOps F] (main_arg13 : FVec F S1024x64 .f32) (main_v33 : IVec S_ 1) : IVec S_ 1 :=
  let main_v34 : FVec F S1024x64 .f32 := Host.absf main_arg13
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  main_v38

def fn_part1 {F : FTy → Type} [FloatOps F] (main_arg6 : FVec F S1024x32 .f32) (main_arg7 : FVec F S8x1024 .f32) (main_arg12 : FVec F S64x1024 .f32) (main_arg13 : FVec F S1024x64 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S1024x32 .f32 := Host.absf main_arg6
  let main_cst_6 : FVec F S_ .f32 := constant S_ .f32 0x7F800000#32
  let main_v20 : FVec F S1024x32 .f32 := broadcastInDim S1024x32 ![] bcast_S_S1024x32 main_cst_6
  let main_v21 : IVec S1024x32 1 := cmpf .olt main_v19 main_v20
  let main_c_7 : IVec S_ 1 := constantI S_ 1 1#1
  let main_v22 : IVec S_ 1 := (fun x v => Host.reduce IntOp.andi x v reducesTo_S1024x32_S_d0_1 h_S_) main_v21 main_c_7
  let main_v23 : IVec S_ 1 := andi main_v18 main_v22
  let main_v24 : FVec F S8x1024 .f32 := Host.absf main_arg7
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  let main_v29 : FVec F S64x1024 .f32 := Host.absf main_arg12
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  fn_part2 (F := F) main_arg13 main_v33

def fn {F : FTy → Type} [FloatOps F] (main_arg0 : FVec F S2x1024x1024 .f32) (main_arg1 : FVec F S2x1024x1024 .f32) (main_arg2 : FVec F S2x384 .f32) (main_arg3 : FVec F S2x64x64 .f32) (main_arg4 : FVec F S32x32 .f32) (main_arg5 : FVec F S32x1024 .f32) (main_arg6 : FVec F S1024x32 .f32) (main_arg7 : FVec F S8x1024 .f32) (main_arg8 : FVec F S8x1024x8 .f32) (main_arg9 : FVec F S8x8x1024 .f32) (main_arg10 : FVec F S1x2048 .f32) (main_arg11 : FVec F S1 .f32) (main_arg12 : FVec F S64x1024 .f32) (main_arg13 : FVec F S1024x64 .f32) (main_arg14 : FVec F S384x1024 .f32) (main_arg15 : FVec F S1024x384 .f32) (main_arg16 : FVec F S1x1408 .f32) (main_arg17 : FVec F S1 .f32) : IVec S_ 1 :=
  let main_v0 : FVec F S2x1024x1024 .f32 := Host.absf main_arg1
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  let main_v4 : FVec F S2x64x64 .f32 := Host.absf main_arg3
  let main_cst_0 : FVec F S_ .f32 := constant S_ .f32 0x7F800000#32
  let main_v5 : FVec F S2x64x64 .f32 := broadcastInDim S2x64x64 ![] bcast_S_S2x64x64 main_cst_0
  let main_v6 : IVec S2x64x64 1 := cmpf .olt main_v4 main_v5
  let main_c_1 : IVec S_ 1 := constantI S_ 1 1#1
  let main_v7 : IVec S_ 1 := (fun x v => Host.reduce IntOp.andi x v reducesTo_S2x64x64_S_d0_1_2 h_S_) main_v6 main_c_1
  let main_v8 : IVec S_ 1 := andi main_v3 main_v7
  let main_v9 : FVec F S32x32 .f32 := Host.absf main_arg4
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x1024 .f32 := Host.absf main_arg5
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg6 main_arg7 main_arg12 main_arg13 main_v13 main_v16
-- ==== Kernel.lean ====
abbrev S2x1024x1024 : Shape := ⟨3, ![2, 1024, 1024]⟩
abbrev S2x64x64 : Shape := ⟨3, ![2, 64, 64]⟩
abbrev S2x1x1024 : Shape := ⟨3, ![2, 1, 1024]⟩
abbrev S2x16x64x64 : Shape := ⟨4, ![2, 16, 64, 64]⟩
abbrev S2x1024x4 : Shape := ⟨3, ![2, 1024, 4]⟩
abbrev S1024 : Shape := ⟨1, ![1024]⟩
abbrev S2048x1024 : Shape := ⟨2, ![2048, 1024]⟩
abbrev S1024x4 : Shape := ⟨2, ![1024, 4]⟩
abbrev S16x1024 : Shape := ⟨2, ![16, 1024]⟩
abbrev S16 : Shape := ⟨1, ![16]⟩
abbrev S64x1024 : Shape := ⟨2, ![64, 1024]⟩
abbrev S1024x1024 : Shape := ⟨2, ![1024, 1024]⟩
abbrev S1024x64 : Shape := ⟨2, ![1024, 64]⟩
abbrev S_ : Shape := ⟨0, ![]⟩
abbrev S112x1024 : Shape := ⟨2, ![112, 1024]⟩
abbrev S256x1024 : Shape := ⟨2, ![256, 1024]⟩
abbrev S1x16 : Shape := ⟨2, ![1, 16]⟩
abbrev S2x4x1024 : Shape := ⟨3, ![2, 4, 1024]⟩
abbrev S2x8x1024 : Shape := ⟨3, ![2, 8, 1024]⟩
abbrev S4x1024 : Shape := ⟨2, ![4, 1024]⟩
abbrev S8x1024 : Shape := ⟨2, ![8, 1024]⟩
abbrev S1x1024 : Shape := ⟨2, ![1, 1024]⟩
abbrev S1032x1024 : Shape := ⟨2, ![1032, 1024]⟩
abbrev S16x64x64 : Shape := ⟨3, ![16, 64, 64]⟩
abbrev S128x128 : Shape := ⟨2, ![128, 128]⟩
abbrev S32x32 : Shape := ⟨2, ![32, 32]⟩
abbrev S32x32x1 : Shape := ⟨3, ![32, 32, 1]⟩
abbrev S1x1024x1024 : Shape := ⟨3, ![1, 1024, 1024]⟩
abbrev S1024x1 : Shape := ⟨2, ![1024, 1]⟩
abbrev S1x1x1024 : Shape := ⟨3, ![1, 1, 1024]⟩
abbrev S1023x1024 : Shape := ⟨2, ![1023, 1024]⟩
abbrev S1024x256 : Shape := ⟨2, ![1024, 256]⟩
abbrev S1024x16 : Shape := ⟨2, ![1024, 16]⟩
abbrev S1x8x1024 : Shape := ⟨3, ![1, 8, 1024]⟩
abbrev S1x4x1024 : Shape := ⟨3, ![1, 4, 1024]⟩
abbrev S1x16x64x64 : Shape := ⟨4, ![1, 16, 64, 64]⟩
abbrev S128x16 : Shape := ⟨2, ![128, 16]⟩
abbrev S128x64 : Shape := ⟨2, ![128, 64]⟩
abbrev S16x128 : Shape := ⟨2, ![16, 128]⟩
abbrev S1x1 : Shape := ⟨2, ![1, 1]⟩
abbrev S128x1 : Shape := ⟨2, ![128, 1]⟩
abbrev S1x128 : Shape := ⟨2, ![1, 128]⟩
abbrev S1x64x64 : Shape := ⟨3, ![1, 64, 64]⟩
abbrev S64x64 : Shape := ⟨2, ![64, 64]⟩
abbrev S128x1024 : Shape := ⟨2, ![128, 1024]⟩
abbrev S32x64 : Shape := ⟨2, ![32, 64]⟩
abbrev S32x1x64 : Shape := ⟨3, ![32, 1, 64]⟩
abbrev S1x32x64 : Shape := ⟨3, ![1, 32, 64]⟩
abbrev S32x32x64 : Shape := ⟨3, ![32, 32, 64]⟩
abbrev S1x64 : Shape := ⟨2, ![1, 64]⟩
abbrev S64x1 : Shape := ⟨2, ![64, 1]⟩

abbrev nBuf : Space → Nat
  | .hbm => 47
  | .vmem => 27
  | .smem => 0
  | _ => 0

abbrev bufTy : (tb : Table) → Fin (tcTables nBuf tb) → BufTy
  | .hbm, ⟨0, _⟩ => ⟨S2x1024x1024, .f32⟩
  | .hbm, ⟨1, _⟩ => ⟨S2x64x64, .f32⟩
  | .hbm, ⟨2, _⟩ => ⟨S2x1x1024, .f32⟩
  | .hbm, ⟨3, _⟩ => ⟨S2x16x64x64, .f32⟩
  | .hbm, ⟨4, _⟩ => ⟨S2x1024x4, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S1024x4, .f32⟩
  | .hbm, ⟨9, _⟩ => ⟨S1024, .f32⟩
  | .hbm, ⟨10, _⟩ => ⟨S16x1024, .f32⟩
  | .hbm, ⟨11, _⟩ => ⟨S16, .f32⟩
  | .hbm, ⟨12, _⟩ => ⟨S16, .f32⟩
  | .hbm, ⟨13, _⟩ => ⟨S64x1024, .f32⟩
  | .hbm, ⟨14, _⟩ => ⟨S64x1024, .f32⟩
  | .hbm, ⟨15, _⟩ => ⟨S1024x1024, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S64x1024, .f32⟩
  | .hbm, ⟨20, _⟩ => ⟨S1024x64, .f32⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S_, .f32⟩
  | .hbm, ⟨26, _⟩ => ⟨S112x1024, .f32⟩
  | .hbm, ⟨27, _⟩ => ⟨S256x1024, .f32⟩
  | .hbm, ⟨28, _⟩ => ⟨S256x1024, .f32⟩
  | .hbm, ⟨29, _⟩ => ⟨S1x16, .f32⟩
  | .hbm, ⟨30, _⟩ => ⟨S2x4x1024, .f32⟩
  | .hbm, ⟨31, _⟩ => ⟨S_, .i32⟩
  | .hbm, ⟨32, _⟩ => ⟨S_, .f32⟩
  | .hbm, ⟨33, _⟩ => ⟨S2x8x1024, .f32⟩
  | .hbm, ⟨34, _⟩ => ⟨S4x1024, .f32⟩
  | .hbm, ⟨35, _⟩ => ⟨S_, .i32⟩
  | .hbm, ⟨36, _⟩ => ⟨S_, .f32⟩
  | .hbm, ⟨37, _⟩ => ⟨S8x1024, .f32⟩
  | .hbm, ⟨38, _⟩ => ⟨S1x1024, .f32⟩
  | .hbm, ⟨39, _⟩ => ⟨S1x16, .f32⟩
  | .hbm, ⟨40, _⟩ => ⟨S1024x1024, .bf16⟩
  | .hbm, ⟨41, _⟩ => ⟨S1024x64, .bf16⟩
  | .hbm, ⟨42, _⟩ => ⟨S2x1024x1024, .f32⟩
  | .hbm, ⟨43, _⟩ => ⟨S2x16x64x64, .f32⟩
  | .hbm, ⟨44, _⟩ => ⟨S2x64x64, .f32⟩
  | .hbm, ⟨45, _⟩ => ⟨S2x8x1024, .f32⟩
  | .hbm, ⟨46, _⟩ => ⟨S2x1x1024, .f32⟩
  | .local _ .vmem, ⟨0, _⟩ => ⟨S2x1024x1024, .f32⟩
  | .local _ .vmem, ⟨1, _⟩ => ⟨S2x1x1024, .f32⟩
  | .local _ .vmem, ⟨2, _⟩ => ⟨S1024, .f32⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S1x16, .f32⟩
  | .local _ .vmem, ⟨9, _⟩ => ⟨S2x8x1024, .f32⟩
  | .local _ .vmem, ⟨10, _⟩ => ⟨S8x1024, .f32⟩
  | .local _ .vmem, ⟨11, _⟩ => ⟨S1x1024, .f32⟩
  | .local _ .vmem, ⟨12, _⟩ => ⟨S1x16, .f32⟩
  | .local _ .vmem, ⟨13, _⟩ => ⟨S2x16x64x64, .f32⟩
  | .local _ .vmem, ⟨14, _⟩ => ⟨S2x64x64, .f32⟩
  | .local _ .vmem, ⟨15, _⟩ => ⟨S1024x1024, .bf16⟩
  | .local _ .vmem, ⟨16, _⟩ => ⟨S1024x64, .bf16⟩
  | .local _ .vmem, ⟨17, _⟩ => ⟨S2x1024x1024, .f32⟩
  | .local _ .vmem, ⟨18, _⟩ => ⟨S2x16x64x64, .f32⟩
  | .local _ .vmem, ⟨19, _⟩ => ⟨S2x64x64, .f32⟩
  | .local _ .vmem, ⟨20, _⟩ => ⟨S2x8x1024, .f32⟩
  | .local _ .vmem, ⟨21, _⟩ => ⟨S2x1x1024, .f32⟩
  | .local _ .vmem, ⟨22, _⟩ => ⟨S1032x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S16x64x64, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_call0_v0 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_call1_v0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16_0 : Ref sig .tc := ⟨.hbm, 42, rfl⟩
abbrev main_v16_1 : Ref sig .tc := ⟨.hbm, 43, rfl⟩
abbrev main_v16_2 : Ref sig .tc := ⟨.hbm, 44, rfl⟩
abbrev main_v16_3 : Ref sig .tc := ⟨.hbm, 45, rfl⟩
abbrev main_v16_4 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S2x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x16x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x64 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x16x64x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x1024x1024 : Shape := ⟨3, ![2, 1024, 1024]⟩
abbrev S2x64x64 : Shape := ⟨3, ![2, 64, 64]⟩
abbrev S2x1x1024 : Shape := ⟨3, ![2, 1, 1024]⟩
abbrev S2x16x64x64 : Shape := ⟨4, ![2, 16, 64, 64]⟩
abbrev S2x1024x4 : Shape := ⟨3, ![2, 1024, 4]⟩
abbrev S1024 : Shape := ⟨1, ![1024]⟩
abbrev S2048x1024 : Shape := ⟨2, ![2048, 1024]⟩
abbrev S1024x4 : Shape := ⟨2, ![1024, 4]⟩
abbrev S16x1024 : Shape := ⟨2, ![16, 1024]⟩
abbrev S16 : Shape := ⟨1, ![16]⟩
abbrev S64x1024 : Shape := ⟨2, ![64, 1024]⟩
abbrev S1024x1024 : Shape := ⟨2, ![1024, 1024]⟩
abbrev S1024x64 : Shape := ⟨2, ![1024, 64]⟩
abbrev S_ : Shape := ⟨0, ![]⟩
abbrev S2x1024 : Shape := ⟨2, ![2, 1024]⟩
abbrev S2x1024x1 : Shape := ⟨3, ![2, 1024, 1]⟩
abbrev S1x1x1024 : Shape := ⟨3, ![1, 1, 1024]⟩
abbrev S1024x2048 : Shape := ⟨2, ![1024, 2048]⟩
abbrev S2x1024x2048 : Shape := ⟨3, ![2, 1024, 2048]⟩
abbrev S2x4x1024 : Shape := ⟨3, ![2, 4, 1024]⟩
abbrev S2x1028x1024 : Shape := ⟨3, ![2, 1028, 1024]⟩
abbrev S1024x1 : Shape := ⟨2, ![1024, 1]⟩
abbrev S1024x16 : Shape := ⟨2, ![1024, 16]⟩
abbrev S2x1024x16 : Shape := ⟨3, ![2, 1024, 16]⟩
abbrev S1x1x16 : Shape := ⟨3, ![1, 1, 16]⟩
abbrev S2x1024x64 : Shape := ⟨3, ![2, 1024, 64]⟩
abbrev S2x1024x16x64 : Shape := ⟨4, ![2, 1024, 16, 64]⟩
abbrev S2x1023x1024 : Shape := ⟨3, ![2, 1023, 1024]⟩
abbrev S1024x2x1024 : Shape := ⟨3, ![1024, 2, 1024]⟩
abbrev S1024x2x16 : Shape := ⟨3, ![1024, 2, 16]⟩
abbrev S1024x2x16x64 : Shape := ⟨4, ![1024, 2, 16, 64]⟩
abbrev S1024x2x64 : Shape := ⟨3, ![1024, 2, 64]⟩
abbrev S1x2x1024 : Shape := ⟨3, ![1, 2, 1024]⟩
abbrev S1x2x16 : Shape := ⟨3, ![1, 2, 16]⟩
abbrev S2x16 : Shape := ⟨2, ![2, 16]⟩
abbrev S1x2x16x64 : Shape := ⟨4, ![1, 2, 16, 64]⟩
abbrev S2x16x64 : Shape := ⟨3, ![2, 16, 64]⟩
abbrev S1x2x64 : Shape := ⟨3, ![1, 2, 64]⟩
abbrev S2x64 : Shape := ⟨2, ![2, 64]⟩
abbrev S1x16 : Shape := ⟨2, ![1, 16]⟩
abbrev S2x16x1x1 : Shape := ⟨4, ![2, 16, 1, 1]⟩
abbrev S2x16x64x1 : Shape := ⟨4, ![2, 16, 64, 1]⟩
abbrev S2x1x1x64 : Shape := ⟨4, ![2, 1, 1, 64]⟩
abbrev S2x64x1 : Shape := ⟨3, ![2, 64, 1]⟩
abbrev S2x1x64 : Shape := ⟨3, ![2, 1, 64]⟩
abbrev S2x4 : Shape := ⟨2, ![2, 4]⟩
abbrev S2x4x1 : Shape := ⟨3, ![2, 4, 1]⟩
abbrev S2x8x1024 : Shape := ⟨3, ![2, 8, 1024]⟩

abbrev nBuf : Space → Nat
  | .hbm => 299
  | .vmem => 0
  | .smem => 0
  | _ => 0

abbrev hbmTy0_0 (i : Nat) : BufTy := match i % 128 with
  | 0 => ⟨S2x1024x1024, .f32⟩
  | 1 => ⟨S2x64x64, .f32⟩
  | 2 => ⟨S2x1x1024, .f32⟩
  | 3 => ⟨S2x16x64x64, .f32⟩
  | 4 => ⟨S2x1024x4, .f32⟩
  | 5 => ⟨S1024, .f32⟩
  | 6 => ⟨S1024, .f32⟩
  | 7 => ⟨S2048x1024, .f32⟩
  | 8 => ⟨S1024x4, .f32⟩
  | 9 => ⟨S1024, .f32⟩
  | 10 => ⟨S16x1024, .f32⟩
  | 11 => ⟨S16, .f32⟩
  | 12 => ⟨S16, .f32⟩
  | 13 => ⟨S64x1024, .f32⟩
  | 14 => ⟨S64x1024, .f32⟩
  | 15 => ⟨S1024x1024, .f32⟩
  | 16 => ⟨S64x1024, .f32⟩
  | 17 => ⟨S64x1024, .f32⟩
  | 18 => ⟨S64x1024, .f32⟩
  | 19 => ⟨S64x1024, .f32⟩
  | 20 => ⟨S1024x64, .f32⟩
  | 21 => ⟨S_, .f32⟩
  | 22 => ⟨S2x1024, .f32⟩
  | 23 => ⟨S2x1024x1, .f32⟩
  | 24 => ⟨S_, .f32⟩
  | 25 => ⟨S2x1024x1, .f32⟩
  | 26 => ⟨S2x1024x1, .f32⟩
  | 27 => ⟨S2x1024x1024, .f32⟩
  | 28 => ⟨S2x1024x1024, .f32⟩
  | 29 => ⟨S2x1024x1024, .f32⟩
  | 30 => ⟨S_, .f32⟩
  | 31 => ⟨S2x1024, .f32⟩
  | 32 => ⟨S2x1024x1, .f32⟩
  | 33 => ⟨S_, .f32⟩
  | 34 => ⟨S2x1024x1, .f32⟩
  | 35 => ⟨S2x1024x1, .f32⟩
  | 36 => ⟨S2x1024x1024, .f32⟩
  | 37 => ⟨S2x1024x1024, .f32⟩
  | 38 => ⟨S_, .f32⟩
  | 39 => ⟨S2x1024x1, .f32⟩
  | 40 => ⟨S2x1024x1, .f32⟩
  | 41 => ⟨S2x1024x1, .f32⟩
  | 42 => ⟨S2x1024x1024, .f32⟩
  | 43 => ⟨S2x1024x1024, .f32⟩
  | 44 => ⟨S1x1x1024, .f32⟩
  | 45 => ⟨S2x1024x1024, .f32⟩
  | 46 => ⟨S2x1024x1024, .f32⟩
  | 47 => ⟨S1x1x1024, .f32⟩
  | 48 => ⟨S2x1024x1024, .f32⟩
  | 49 => ⟨S2x1024x1024, .f32⟩
  | 50 => ⟨S1024x2048, .f32⟩
  | 51 => ⟨S2x1024x2048, .f32⟩
  | 52 => ⟨S2x1024x1024, .f32⟩
  | 53 => ⟨S2x1024x1024, .f32⟩
  | 54 => ⟨S2x4x1024, .f32⟩
  | 55 => ⟨S2x1028x1024, .f32⟩
  | 56 => ⟨S2x1024x1024, .f32⟩
  | 57 => ⟨S1024x1, .f32⟩
  | 58 => ⟨S1024, .f32⟩
  | 59 => ⟨S1x1x1024, .f32⟩
  | 60 => ⟨S2x1024x1024, .f32⟩
  | 61 => ⟨S2x1024x1024, .f32⟩
  | 62 => ⟨S1x1x1024, .f32⟩
  | 63 => ⟨S2x1024x1024, .f32⟩
  | 64 => ⟨S2x1024x1024, .f32⟩
  | 65 => ⟨S2x1024x1024, .f32⟩
  | 66 => ⟨S1024x1, .f32⟩
  | 67 => ⟨S1024, .f32⟩
  | 68 => ⟨S1x1x1024, .f32⟩
  | 69 => ⟨S2x1024x1024, .f32⟩
  | 70 => ⟨S2x1024x1024, .f32⟩
  | 71 => ⟨S2x1024x1024, .f32⟩
  | 72 => ⟨S2x1024x1024, .f32⟩
  | 73 => ⟨S1024x1, .f32⟩
  | 74 => ⟨S1024, .f32⟩
  | 75 => ⟨S1x1x1024, .f32⟩
  | 76 => ⟨S2x1024x1024, .f32⟩
  | 77 => ⟨S2x1024x1024, .f32⟩
  | 78 => ⟨S2x1024x1024, .f32⟩
  | 79 => ⟨S2x1024x1024, .f32⟩
  | 80 => ⟨S1024x1, .f32⟩
  | 81 => ⟨S1024, .f32⟩
  | 82 => ⟨S1x1x1024, .f32⟩
  | 83 => ⟨S2x1024x1024, .f32⟩
  | 84 => ⟨S2x1024x1024, .f32⟩
  | 85 => ⟨S2x1024x1024, .f32⟩
  | 86 => ⟨S2x1024x1024, .f32⟩
  | 87 => ⟨S2x1024x1024, .f32⟩
  | 88 => ⟨S_, .f32⟩
  | 89 => ⟨S2x1024x1024, .f32⟩
  | 90 => ⟨S2x1024x1024, .f32⟩
  | 91 => ⟨S_, .f32⟩
  | 92 => ⟨S2x1024x1024, .f32⟩
  | 93 => ⟨S2x1024x1024, .f32⟩
  | 94 => ⟨S2x1024x1024, .f32⟩
  | 95 => ⟨S1024x16, .f32⟩
  | 96 => ⟨S2x1024x16, .f32⟩
  | 97 => ⟨S1x1x16, .f32⟩
  | 98 => ⟨S2x1024x16, .f32⟩
  | 99 => ⟨S2x1024x16, .f32⟩
  | 100 => ⟨S_, .f32⟩
  | 101 => ⟨S2x1024x16, .f32⟩
  | 102 => ⟨S2x1024x16, .f32⟩
  | 103 => ⟨S2x1024x16, .f32⟩
  | 104 => ⟨S2x1024x16, .f32⟩
  | 105 => ⟨S2x1024x16, .i1⟩
  | 106 => ⟨S2x1024x16, .f32⟩
  | 107 => ⟨S2x1024x16, .f32⟩
  | 108 => ⟨S2x1024x16, .f32⟩
  | 109 => ⟨S2x1024x16, .f32⟩
  | 110 => ⟨S2x1024x16, .f32⟩
  | 111 => ⟨S2x1024x16, .f32⟩
  | 112 => ⟨S2x1024x16, .f32⟩
  | 113 => ⟨S2x1024x16, .f32⟩
  | 114 => ⟨S16, .f32⟩
  | 115 => ⟨S16, .f32⟩
  | 116 => ⟨S1024x64, .f32⟩
  | 117 => ⟨S2x1024x64, .f32⟩
  | 118 => ⟨S1024x64, .f32⟩
  | 119 => ⟨S2x1024x64, .f32⟩
  | 120 => ⟨S2x1024x16x64, .f32⟩
  | 121 => ⟨S2x1023x1024, .f32⟩
  | 122 => ⟨S2x1024x1024, .f32⟩
  | 123 => ⟨S2x1024x1024, .f32⟩
  | 124 => ⟨S_, .f32⟩
  | 125 => ⟨S2x1024x1024, .f32⟩
  | 126 => ⟨S2x1024x1024, .f32⟩
  | 127 => ⟨S1024x64, .f32⟩
  | _ => ⟨S2x1024x1024, .f32⟩

abbrev hbmTy0_1 (i : Nat) : BufTy := match i % 128 with
  | 0 => ⟨S2x1024x64, .f32⟩
  | 1 => ⟨S1024x64, .f32⟩
  | 2 => ⟨S2x1024x64, .f32⟩
  | 3 => ⟨S1024x64, .f32⟩
  | 4 => ⟨S2x1024x64, .f32⟩
  | 5 => ⟨S1024x64, .f32⟩
  | 6 => ⟨S2x1024x64, .f32⟩
  | 7 => ⟨S2x1024x64, .f32⟩
  | 8 => ⟨S2x1024x64, .f32⟩
  | 9 => ⟨S2x1024x64, .f32⟩
  | 10 => ⟨S1024x2x1024, .f32⟩
  | 11 => ⟨S1024x2x1024, .f32⟩
  | 12 => ⟨S1024x2x16, .f32⟩
  | 13 => ⟨S1024x2x16x64, .f32⟩
  | 14 => ⟨S1024x2x64, .f32⟩
  | 15 => ⟨S1024x2x64, .f32⟩
  | 16 => ⟨S1024x2x64, .f32⟩
  | 17 => ⟨S1024x2x64, .f32⟩
  | 18 => ⟨S1024x2x64, .f32⟩
  | 19 => ⟨S1024x2x64, .f32⟩
  | 20 => ⟨S_, .f32⟩
  | 21 => ⟨S1024x2x1024, .f32⟩
  | 22 => ⟨S_, .i32⟩
  | 23 => ⟨S1024x2x1024, .f32⟩
  | 24 => ⟨S1024x2x1024, .f32⟩
  | 25 => ⟨S1024x2x16, .f32⟩
  | 26 => ⟨S1024x2x16x64, .f32⟩
  | 27 => ⟨S1024x2x64, .f32⟩
  | 28 => ⟨S1024x2x64, .f32⟩
  | 29 => ⟨S1024x2x64, .f32⟩
  | 30 => ⟨S1024x2x64, .f32⟩
  | 31 => ⟨S1024x2x64, .f32⟩
  | 32 => ⟨S1024x2x64, .f32⟩
  | 33 => ⟨S16, .f32⟩
  | 34 => ⟨S1024x1024, .f32⟩
  | 35 => ⟨S1024x64, .f32⟩
  | 36 => ⟨S_, .i32⟩
  | 37 => ⟨S2x16x64x64, .f32⟩
  | 38 => ⟨S2x64x64, .f32⟩
  | 39 => ⟨S1024x2x1024, .f32⟩
  | 40 => ⟨S_, .i32⟩
  | 41 => ⟨S_, .i1⟩
  | 42 => ⟨S_, .i32⟩
  | 43 => ⟨S_, .i32⟩
  | 44 => ⟨S1x2x1024, .f32⟩
  | 45 => ⟨S2x1024, .f32⟩
  | 46 => ⟨S_, .i32⟩
  | 47 => ⟨S_, .i32⟩
  | 48 => ⟨S1x2x1024, .f32⟩
  | 49 => ⟨S2x1024, .f32⟩
  | 50 => ⟨S_, .i32⟩
  | 51 => ⟨S_, .i32⟩
  | 52 => ⟨S1x2x16, .f32⟩
  | 53 => ⟨S2x16, .f32⟩
  | 54 => ⟨S_, .i32⟩
  | 55 => ⟨S_, .i32⟩
  | 56 => ⟨S_, .i32⟩
  | 57 => ⟨S1x2x16x64, .f32⟩
  | 58 => ⟨S2x16x64, .f32⟩
  | 59 => ⟨S_, .i32⟩
  | 60 => ⟨S_, .i32⟩
  | 61 => ⟨S1x2x64, .f32⟩
  | 62 => ⟨S2x64, .f32⟩
  | 63 => ⟨S_, .i32⟩
  | 64 => ⟨S_, .i32⟩
  | 65 => ⟨S1x2x64, .f32⟩
  | 66 => ⟨S2x64, .f32⟩
  | 67 => ⟨S_, .i32⟩
  | 68 => ⟨S_, .i32⟩
  | 69 => ⟨S1x2x64, .f32⟩
  | 70 => ⟨S2x64, .f32⟩
  | 71 => ⟨S_, .i32⟩
  | 72 => ⟨S_, .i32⟩
  | 73 => ⟨S1x2x64, .f32⟩
  | 74 => ⟨S2x64, .f32⟩
  | 75 => ⟨S_, .i32⟩
  | 76 => ⟨S_, .i32⟩
  | 77 => ⟨S1x2x64, .f32⟩
  | 78 => ⟨S2x64, .f32⟩
  | 79 => ⟨S_, .i32⟩
  | 80 => ⟨S_, .i32⟩
  | 81 => ⟨S1x2x64, .f32⟩
  | 82 => ⟨S2x64, .f32⟩
  | 83 => ⟨S1x16, .f32⟩
  | 84 => ⟨S2x16, .f32⟩
  | 85 => ⟨S2x16, .f32⟩
  | 86 => ⟨S2x16, .f32⟩
  | 87 => ⟨S2x16x1x1, .f32⟩
  | 88 => ⟨S2x16x64x64, .f32⟩
  | 89 => ⟨S2x16x64x64, .f32⟩
  | 90 => ⟨S2x16x1x1, .f32⟩
  | 91 => ⟨S2x16x64x1, .f32⟩
  | 92 => ⟨S2x16x64x1, .f32⟩
  | 93 => ⟨S2x16x64x1, .f32⟩
  | 94 => ⟨S2x1x1x64, .f32⟩
  | 95 => ⟨S2x16x64x64, .f32⟩
  | 96 => ⟨S2x16x64x64, .f32⟩
  | 97 => ⟨S2x16x64x64, .f32⟩
  | 98 => ⟨S2x16x64x64, .f32⟩
  | 99 => ⟨S2x64x1, .f32⟩
  | 100 => ⟨S2x64x64, .f32⟩
  | 101 => ⟨S2x64x64, .f32⟩
  | 102 => ⟨S2x64x1, .f32⟩
  | 103 => ⟨S2x1x64, .f32⟩
  | 104 => ⟨S2x64x64, .f32⟩
  | 105 => ⟨S2x64x64, .f32⟩
  | 106 => ⟨S2x64x64, .f32⟩
  | 107 => ⟨S2x64x64, .f32⟩
  | 108 => ⟨S2x16x64, .f32⟩
  | 109 => ⟨S2x64, .f32⟩
  | 110 => ⟨S2x1024, .f32⟩
  | 111 => ⟨S1024x1024, .f32⟩
  | 112 => ⟨S2x1024, .f32⟩
  | 113 => ⟨S64x1024, .f32⟩
  | 114 => ⟨S2x1024, .f32⟩
  | 115 => ⟨S2x1024, .f32⟩
  | 116 => ⟨S2x1024, .f32⟩
  | 117 => ⟨S_, .f32⟩
  | 118 => ⟨S2x1024, .f32⟩
  | 119 => ⟨S2x1024, .f32⟩
  | 120 => ⟨S_, .f32⟩
  | 121 => ⟨S2x1024, .f32⟩
  | 122 => ⟨S2x1024, .f32⟩
  | 123 => ⟨S2x1024, .f32⟩
  | 124 => ⟨S2x1024, .f32⟩
  | 125 => ⟨S2x1024, .f32⟩
  | 126 => ⟨S2x1024, .f32⟩
  | 127 => ⟨S1x2x1024, .f32⟩
  | _ => ⟨S2x1024x1024, .f32⟩

abbrev hbmTy0_2 (i : Nat) : BufTy := match i % 128 with
  | 0 => ⟨S_, .i32⟩
  | 1 => ⟨S_, .i32⟩
  | 2 => ⟨S1024x2x1024, .f32⟩
  | 3 => ⟨S_, .i32⟩
  | 4 => ⟨S_, .i32⟩
  | 5 => ⟨S2x4x1024, .f32⟩
  | 6 => ⟨S_, .f32⟩
  | 7 => ⟨S2x4, .f32⟩
  | 8 => ⟨S2x4x1, .f32⟩
  | 9 => ⟨S_, .f32⟩
  | 10 => ⟨S2x4x1, .f32⟩
  | 11 => ⟨S2x4x1, .f32⟩
  | 12 => ⟨S2x4x1024, .f32⟩
  | 13 => ⟨S2x4x1024, .f32⟩
  | 14 => ⟨S2x4x1024, .f32⟩
  | 15 => ⟨S_, .f32⟩
  | 16 => ⟨S2x4, .f32⟩
  | 17 => ⟨S2x4x1, .f32⟩
  | 18 => ⟨S_, .f32⟩
  | 19 => ⟨S2x4x1, .f32⟩
  | 20 => ⟨S2x4x1, .f32⟩
  | 21 => ⟨S2x4x1024, .f32⟩
  | 22 => ⟨S2x4x1024, .f32⟩
  | 23 => ⟨S_, .f32⟩
  | 24 => ⟨S2x4x1, .f32⟩
  | 25 => ⟨S2x4x1, .f32⟩
  | 26 => ⟨S2x4x1, .f32⟩
  | 27 => ⟨S2x4x1024, .f32⟩
  | 28 => ⟨S2x4x1024, .f32⟩
  | 29 => ⟨S1x1x1024, .f32⟩
  | 30 => ⟨S2x4x1024, .f32⟩
  | 31 => ⟨S2x4x1024, .f32⟩
  | 32 => ⟨S1x1x1024, .f32⟩
  | 33 => ⟨S2x4x1024, .f32⟩
  | 34 => ⟨S2x4x1024, .f32⟩
  | 35 => ⟨S1024x1024, .f32⟩
  | 36 => ⟨S1024x1024, .f32⟩
  | 37 => ⟨S2x4x1024, .f32⟩
  | 38 => ⟨S_, .f32⟩
  | 39 => ⟨S2x4x1024, .f32⟩
  | 40 => ⟨S2x8x1024, .f32⟩
  | 41 => ⟨S2x1024x1024, .f32⟩
  | 42 => ⟨S2x1x1024, .f32⟩
  | _ => ⟨S2x1024x1024, .f32⟩

abbrev hbmTy (i : Nat) : BufTy := match i / 128 with
  | 0 => hbmTy0_0 i
  | 1 => hbmTy0_1 i
  | 2 => hbmTy0_2 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_1 : Ref sig .tc := ⟨.hbm, 30, rfl⟩
abbrev main_v7 : Ref sig .tc := ⟨.hbm, 31, rfl⟩
abbrev main_v8 : Ref sig .tc := ⟨.hbm, 32, rfl⟩
abbrev main_cst_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_4 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_5 : Ref sig .tc := ⟨.hbm, 148, rfl⟩
abbrev main_v100 : Ref sig .tc := ⟨.hbm, 149, rfl⟩
abbrev main_c : Ref sig .tc := ⟨.hbm, 150, rfl⟩
abbrev main_v101_0 : Ref sig .tc := ⟨.hbm, 151, rfl⟩
abbrev main_v101_1 : Ref sig .tc := ⟨.hbm, 152, rfl⟩
abbrev main_v101_2 : Ref sig .tc := ⟨.hbm, 153, rfl⟩
abbrev main_v101_3 : Ref sig .tc := ⟨.hbm, 154, rfl⟩
abbrev main_v101_4 : Ref sig .tc := ⟨.hbm, 155, rfl⟩
abbrev main_v101_5 : Ref sig .tc := ⟨.hbm, 156, rfl⟩
abbrev main_v101_6 : Ref sig .tc := ⟨.hbm, 157, rfl⟩
abbrev main_v101_7 : Ref sig .tc := ⟨.hbm, 158, rfl⟩
abbrev main_v101_8 : Ref sig .tc := ⟨.hbm, 159, rfl⟩
abbrev main_v101_9 : Ref sig .tc := ⟨.hbm, 160, rfl⟩
abbrev main_v101_10 : Ref sig .tc := ⟨.hbm, 161, rfl⟩
abbrev main_v101_11 : Ref sig .tc := ⟨.hbm, 162, rfl⟩
abbrev main_v101_12 : Ref sig .tc := ⟨.hbm, 163, rfl⟩
abbrev main_v101_13 : Ref sig .tc := ⟨.hbm, 164, rfl⟩
abbrev main_v101_14 : Ref sig .tc := ⟨.hbm, 165, rfl⟩
abbrev main_v101_15 : Ref sig .tc := ⟨.hbm, 166, rfl⟩
abbrev main_v101_16 : Ref sig .tc := ⟨.hbm, 167, rfl⟩
abbrev main_while0c_c_28 : Ref sig .tc := ⟨.hbm, 168, rfl⟩
abbrev main_while0c_v134 : Ref sig .tc := ⟨.hbm, 169, rfl⟩
abbrev main_while0b_call2_c : Ref sig .tc := ⟨.hbm, 170, rfl⟩
abbrev main_while0b_call2_c_0 : Ref sig .tc := ⟨.hbm, 171, rfl⟩
abbrev main_while0b_call2_v0 : Ref sig .tc := ⟨.hbm, 172, rfl⟩
abbrev main_while0b_v134 : Ref sig .tc := ⟨.hbm, 173, rfl⟩
abbrev main_while0b_call3_c : Ref sig .tc := ⟨.hbm, 174, rfl⟩
abbrev main_while0b_call3_c_0 : Ref sig .tc := ⟨.hbm, 175, rfl⟩
abbrev main_while0b_call3_v0 : Ref sig .tc := ⟨.hbm, 176, rfl⟩
abbrev main_while0b_v135 : Ref sig .tc := ⟨.hbm, 177, rfl⟩
abbrev main_while0b_call4_c : Ref sig .tc := ⟨.hbm, 178, rfl⟩
abbrev main_while0b_call4_c_0 : Ref sig .tc := ⟨.hbm, 179, rfl⟩
abbrev main_while0b_call4_v0 : Ref sig .tc := ⟨.hbm, 180, rfl⟩
abbrev main_while0b_v136 : Ref sig .tc := ⟨.hbm, 181, rfl⟩
abbrev main_while0b_call5_c : Ref sig .tc := ⟨.hbm, 182, rfl⟩
abbrev main_while0b_call5_c_0 : Ref sig .tc := ⟨.hbm, 183, rfl⟩
abbrev main_while0b_call5_c_1 : Ref sig .tc := ⟨.hbm, 184, rfl⟩
abbrev main_while0b_call5_v0 : Ref sig .tc := ⟨.hbm, 185, rfl⟩
abbrev main_while0b_v137 : Ref sig .tc := ⟨.hbm, 186, rfl⟩
abbrev main_while0b_call6_c : Ref sig .tc := ⟨.hbm, 187, rfl⟩
abbrev main_while0b_call6_c_0 : Ref sig .tc := ⟨.hbm, 188, rfl⟩
abbrev main_while0b_call6_v0 : Ref sig .tc := ⟨.hbm, 189, rfl⟩
abbrev main_while0b_v138 : Ref sig .tc := ⟨.hbm, 190, rfl⟩
abbrev main_while0b_call7_c : Ref sig .tc := ⟨.hbm, 191, rfl⟩
abbrev main_while0b_call7_c_0 : Ref sig .tc := ⟨.hbm, 192, rfl⟩
abbrev main_while0b_call7_v0 : Ref sig .tc := ⟨.hbm, 193, rfl⟩
abbrev main_while0b_v139 : Ref sig .tc := ⟨.hbm, 194, rfl⟩
abbrev main_while0b_call8_c : Ref sig .tc := ⟨.hbm, 195, rfl⟩
abbrev main_while0b_call8_c_0 : Ref sig .tc := ⟨.hbm, 196, rfl⟩
abbrev main_while0b_call8_v0 : Ref sig .tc := ⟨.hbm, 197, rfl⟩
abbrev main_while0b_v140 : Ref sig .tc := ⟨.hbm, 198, rfl⟩
abbrev main_while0b_call9_c : Ref sig .tc := ⟨.hbm, 199, rfl⟩
abbrev main_while0b_call9_c_0 : Ref sig .tc := ⟨.hbm, 200, rfl⟩
abbrev main_while0b_call9_v0 : Ref sig .tc := ⟨.hbm, 201, rfl⟩
abbrev main_while0b_v141 : Ref sig .tc := ⟨.hbm, 202, rfl⟩
abbrev main_while0b_call10_c : Ref sig .tc := ⟨.hbm, 203, rfl⟩
abbrev main_while0b_call10_c_0 : Ref sig .tc := ⟨.hbm, 204, rfl⟩
abbrev main_while0b_call10_v0 : Ref sig .tc := ⟨.hbm, 205, rfl⟩
abbrev main_while0b_v142 : Ref sig .tc := ⟨.hbm, 206, rfl⟩
abbrev main_while0b_call11_c : Ref sig .tc := ⟨.hbm, 207, rfl⟩
abbrev main_while0b_call11_c_0 : Ref sig .tc := ⟨.hbm, 208, rfl⟩
abbrev main_while0b_call11_v0 : Ref sig .tc := ⟨.hbm, 209, rfl⟩
abbrev main_while0b_v143 : Ref sig .tc := ⟨.hbm, 210, rfl⟩
abbrev main_while0b_v144 : Ref sig .tc := ⟨.hbm, 211, rfl⟩
abbrev main_while0b_v145 : Ref sig .tc := ⟨.hbm, 212, rfl⟩
abbrev main_while0b_v146 : Ref sig .tc := ⟨.hbm, 213, rfl⟩
abbrev main_while0b_v147 : Ref sig .tc := ⟨.hbm, 214, rfl⟩
abbrev main_while0b_v148 : Ref sig .tc := ⟨.hbm, 215, rfl⟩
abbrev main_while0b_v149 : Ref sig .tc := ⟨.hbm, 216, rfl⟩
abbrev main_while0b_v150 : Ref sig .tc := ⟨.hbm, 217, rfl⟩
abbrev main_while0b_v151 : Ref sig .tc := ⟨.hbm, 218, rfl⟩
abbrev main_while0b_v152 : Ref sig .tc := ⟨.hbm, 219, rfl⟩
abbrev main_while0b_v153 : Ref sig .tc := ⟨.hbm, 220, rfl⟩
abbrev main_while0b_v154 : Ref sig .tc := ⟨.hbm, 221, rfl⟩
abbrev main_while0b_v155 : Ref sig .tc := ⟨.hbm, 222, rfl⟩
abbrev main_while0b_v156 : Ref sig .tc := ⟨.hbm, 223, rfl⟩
abbrev main_while0b_v157 : Ref sig .tc := ⟨.hbm, 224, rfl⟩
abbrev main_while0b_v158 : Ref sig .tc := ⟨.hbm, 225, rfl⟩
abbrev main_while0b_v159 : Ref sig .tc := ⟨.hbm, 226, rfl⟩
abbrev main_while0b_v160 : Ref sig .tc := ⟨.hbm, 227, rfl⟩
abbrev main_while0b_v161 : Ref sig .tc := ⟨.hbm, 228, rfl⟩
abbrev main_while0b_v162 : Ref sig .tc := ⟨.hbm, 229, rfl⟩
abbrev main_while0b_v163 : Ref sig .tc := ⟨.hbm, 230, rfl⟩
abbrev main_while0b_v164 : Ref sig .tc := ⟨.hbm, 231, rfl⟩
abbrev main_while0b_v165 : Ref sig .tc := ⟨.hbm, 232, rfl⟩
abbrev main_while0b_v166 : Ref sig .tc := ⟨.hbm, 233, rfl⟩
abbrev main_while0b_v167 : Ref sig .tc := ⟨.hbm, 234, rfl⟩
abbrev main_while0b_v168 : Ref sig .tc := ⟨.hbm, 235, rfl⟩
abbrev main_while0b_v169 : Ref sig .tc := ⟨.hbm, 236, rfl⟩
abbrev main_while0b_v170 : Ref sig .tc := ⟨.hbm, 237, rfl⟩
abbrev main_while0b_v171 : Ref sig .tc := ⟨.hbm, 238, rfl⟩
abbrev main_while0b_v172 : Ref sig .tc := ⟨.hbm, 239, rfl⟩
abbrev main_while0b_v173 : Ref sig .tc := ⟨.hbm, 240, rfl⟩
abbrev main_while0b_v174 : Ref sig .tc := ⟨.hbm, 241, rfl⟩
abbrev main_while0b_v175 : Ref sig .tc := ⟨.hbm, 242, rfl⟩
abbrev main_while0b_call12_v0 : Ref sig .tc := ⟨.hbm, 243, rfl⟩
abbrev main_while0b_call12_v1 : Ref sig .tc := ⟨.hbm, 244, rfl⟩
abbrev main_while0b_call12_cst : Ref sig .tc := ⟨.hbm, 245, rfl⟩
abbrev main_while0b_call12_v2 : Ref sig .tc := ⟨.hbm, 246, rfl⟩
abbrev main_while0b_call12_v3 : Ref sig .tc := ⟨.hbm, 247, rfl⟩
abbrev main_while0b_call12_cst_0 : Ref sig .tc := ⟨.hbm, 248, rfl⟩
abbrev main_while0b_call12_v4 : Ref sig .tc := ⟨.hbm, 249, rfl⟩
abbrev main_while0b_call12_v5 : Ref sig .tc := ⟨.hbm, 250, rfl⟩
abbrev main_while0b_v176 : Ref sig .tc := ⟨.hbm, 251, rfl⟩
abbrev main_while0b_v177 : Ref sig .tc := ⟨.hbm, 252, rfl⟩
abbrev main_while0b_v178 : Ref sig .tc := ⟨.hbm, 253, rfl⟩
abbrev main_while0b_v179 : Ref sig .tc := ⟨.hbm, 254, rfl⟩
abbrev main_while0b_call13_v0 : Ref sig .tc := ⟨.hbm, 255, rfl⟩
abbrev main_while0b_call13_c : Ref sig .tc := ⟨.hbm, 256, rfl⟩
abbrev main_while0b_call13_c_0 : Ref sig .tc := ⟨.hbm, 257, rfl⟩
abbrev main_while0b_v180 : Ref sig .tc := ⟨.hbm, 258, rfl⟩
abbrev main_while0b_c_28 : Ref sig .tc := ⟨.hbm, 259, rfl⟩
abbrev main_while0b_v181 : Ref sig .tc := ⟨.hbm, 260, rfl⟩
abbrev main_v102 : Ref sig .tc := ⟨.hbm, 261, rfl⟩
abbrev main_cst_6 : Ref sig .tc := ⟨.hbm, 262, rfl⟩
abbrev main_v103 : Ref sig .tc := ⟨.hbm, 263, rfl⟩
abbrev main_v104 : Ref sig .tc := ⟨.hbm, 264, rfl⟩
abbrev main_cst_7 : Ref sig .tc := ⟨.hbm, 265, rfl⟩
abbrev main_v105 : Ref sig .tc := ⟨.hbm, 266, rfl⟩
abbrev main_v106 : Ref sig .tc := ⟨.hbm, 267, rfl⟩
abbrev main_v107 : Ref sig .tc := ⟨.hbm, 268, rfl⟩
abbrev main_v108 : Ref sig .tc := ⟨.hbm, 269, rfl⟩
abbrev main_v109 : Ref sig .tc := ⟨.hbm, 270, rfl⟩
abbrev main_cst_8 : Ref sig .tc := ⟨.hbm, 271, rfl⟩
abbrev main_v110 : Ref sig .tc := ⟨.hbm, 272, rfl⟩
abbrev main_v111 : Ref sig .tc := ⟨.hbm, 273, rfl⟩
abbrev main_cst_9 : Ref sig .tc := ⟨.hbm, 274, rfl⟩
abbrev main_v112 : Ref sig .tc := ⟨.hbm, 275, rfl⟩
abbrev main_v113 : Ref sig .tc := ⟨.hbm, 276, rfl⟩
abbrev main_v114 : Ref sig .tc := ⟨.hbm, 277, rfl⟩
abbrev main_v115 : Ref sig .tc := ⟨.hbm, 278, rfl⟩
abbrev main_cst_10 : Ref sig .tc := ⟨.hbm, 279, rfl⟩
abbrev main_v116 : Ref sig .tc := ⟨.hbm, 280, rfl⟩
abbrev main_v117 : Ref sig .tc := ⟨.hbm, 281, rfl⟩
abbrev main_v118 : Ref sig .tc := ⟨.hbm, 282, rfl⟩
abbrev main_v119 : Ref sig .tc := ⟨.hbm, 283, rfl⟩
abbrev main_v120 : Ref sig .tc := ⟨.hbm, 284, rfl⟩
abbrev main_v121 : Ref sig .tc := ⟨.hbm, 285, rfl⟩
abbrev main_v122 : Ref sig .tc := ⟨.hbm, 286, rfl⟩
abbrev main_v123 : Ref sig .tc := ⟨.hbm, 287, rfl⟩
abbrev main_v124 : Ref sig .tc := ⟨.hbm, 288, rfl⟩
abbrev main_v125 : Ref sig .tc := ⟨.hbm, 289, rfl⟩
abbrev main_v126 : Ref sig .tc := ⟨.hbm, 290, rfl⟩
abbrev main_v127 : Ref sig .tc := ⟨.hbm, 291, rfl⟩
abbrev main_v128 : Ref sig .tc := ⟨.hbm, 292, rfl⟩
abbrev main_v129 : Ref sig .tc := ⟨.hbm, 293, rfl⟩
abbrev main_cst_11 : Ref sig .tc := ⟨.hbm, 294, rfl⟩
abbrev main_v130 : Ref sig .tc := ⟨.hbm, 295, rfl⟩
abbrev main_v131 : Ref sig .tc := ⟨.hbm, 296, rfl⟩
abbrev main_v132 : Ref sig .tc := ⟨.hbm, 297, rfl⟩
abbrev main_v133 : Ref sig .tc := ⟨.hbm, 298, rfl⟩

abbrev nD : Nat := 1
abbrev τ : Topo := Topo.v7x

variable {F : FTy → Type} [FloatOps F]

abbrev main_while0_count : Scf.Loop 32 := ⟨0#32, 1024#32, 1#32⟩
-- ==== Tail.lean ====
abbrev S2x1024x1024 : Shape := ⟨3, ![2, 1024, 1024]⟩
abbrev S2x384 : Shape := ⟨2, ![2, 384]⟩
abbrev S2x64x64 : Shape := ⟨3, ![2, 64, 64]⟩
abbrev S32x32 : Shape := ⟨2, ![32, 32]⟩
abbrev S32x1024 : Shape := ⟨2, ![32, 1024]⟩
abbrev S1024x32 : Shape := ⟨2, ![1024, 32]⟩
abbrev S8x1024 : Shape := ⟨2, ![8, 1024]⟩
abbrev S8x1024x8 : Shape := ⟨3, ![8, 1024, 8]⟩
abbrev S8x8x1024 : Shape := ⟨3, ![8, 8, 1024]⟩
abbrev S1x2048 : Shape := ⟨2, ![1, 2048]⟩
abbrev S1 : Shape := ⟨1, ![1]⟩
abbrev S64x1024 : Shape := ⟨2, ![64, 1024]⟩
abbrev S1024x64 : Shape := ⟨2, ![1024, 64]⟩
abbrev S384x1024 : Shape := ⟨2, ![384, 1024]⟩
abbrev S1024x384 : Shape := ⟨2, ![1024, 384]⟩
abbrev S1x1408 : Shape := ⟨2, ![1, 1408]⟩
abbrev S1x1024 : Shape := ⟨2, ![1, 1024]⟩
abbrev S1x384 : Shape := ⟨2, ![1, 384]⟩
abbrev S2x1x384 : Shape := ⟨3, ![2, 1, 384]⟩
abbrev S2x8x8 : Shape := ⟨3, ![2, 8, 8]⟩
abbrev S32 : Shape := ⟨1, ![32]⟩
abbrev S1x32 : Shape := ⟨2, ![1, 32]⟩
abbrev S1x1 : Shape := ⟨2, ![1, 1]⟩
abbrev S1024x8 : Shape := ⟨2, ![1024, 8]⟩
abbrev S1x1024x1024 : Shape := ⟨3, ![1, 1024, 1024]⟩
abbrev S1024x1024 : Shape := ⟨2, ![1024, 1024]⟩
abbrev S1024 : Shape := ⟨1, ![1024]⟩
abbrev S1x64 : Shape := ⟨2, ![1, 64]⟩
abbrev S1x64x64 : Shape := ⟨3, ![1, 64, 64]⟩
abbrev S64x64 : Shape := ⟨2, ![64, 64]⟩
abbrev S1024x1 : Shape := ⟨2, ![1024, 1]⟩
abbrev S1x1024x8 : Shape := ⟨3, ![1, 1024, 8]⟩
abbrev S1x8x1024 : Shape := ⟨3, ![1, 8, 1024]⟩
abbrev S8 : Shape := ⟨1, ![8]⟩
abbrev S1x8 : Shape := ⟨2, ![1, 8]⟩
abbrev S6x8 : Shape := ⟨2, ![6, 8]⟩
abbrev S8x8 : Shape := ⟨2, ![8, 8]⟩
abbrev S1x8x8 : Shape := ⟨3, ![1, 8, 8]⟩
abbrev S1x1x384 : Shape := ⟨3, ![1, 1, 384]⟩
abbrev S1x1x1 : Shape := ⟨3, ![1, 1, 1]⟩

abbrev nBuf : Space → Nat
  | .hbm => 30
  | .vmem => 20
  | .smem => 2
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x384, .f32⟩
  | .hbm, ⟨3, _⟩ => ⟨S2x64x64, .f32⟩
  | .hbm, ⟨4, _⟩ => ⟨S32x32, .f32⟩
  | .hbm, ⟨5, _⟩ => ⟨S32x1024, .f32⟩
  | .hbm, ⟨6, _⟩ => ⟨S1024x32, .f32⟩
  | .hbm, ⟨7, _⟩ => ⟨S8x1024, .f32⟩
  | .hbm, ⟨8, _⟩ => ⟨S8x1024x8, .f32⟩
  | .hbm, ⟨9, _⟩ => ⟨S8x8x1024, .f32⟩
  | .hbm, ⟨10, _⟩ => ⟨S1x2048, .f32⟩
  | .hbm, ⟨11, _⟩ => ⟨S1, .f32⟩
  | .hbm, ⟨12, _⟩ => ⟨S64x1024, .f32⟩
  | .hbm, ⟨13, _⟩ => ⟨S1024x64, .f32⟩
  | .hbm, ⟨14, _⟩ => ⟨S384x1024, .f32⟩
  | .hbm, ⟨15, _⟩ => ⟨S1024x384, .f32⟩
  | .hbm, ⟨16, _⟩ => ⟨S1x1408, .f32⟩
  | .hbm, ⟨17, _⟩ => ⟨S1, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x384, .f32⟩
  | .hbm, ⟨22, _⟩ => ⟨S2x1x384, .f32⟩
  | .hbm, ⟨23, _⟩ => ⟨S32x1024, .bf16⟩
  | .hbm, ⟨24, _⟩ => ⟨S1024x32, .bf16⟩
  | .hbm, ⟨25, _⟩ => ⟨S8x1024, .bf16⟩
  | .hbm, ⟨26, _⟩ => ⟨S8x1024x8, .bf16⟩
  | .hbm, ⟨27, _⟩ => ⟨S8x8x1024, .bf16⟩
  | .hbm, ⟨28, _⟩ => ⟨S2x1024x1024, .f32⟩
  | .hbm, ⟨29, _⟩ => ⟨S2x8x8, .f32⟩
  | .local _ .vmem, ⟨0, _⟩ => ⟨S2x1024x1024, .f32⟩
  | .local _ .vmem, ⟨1, _⟩ => ⟨S2x1024x1024, .f32⟩
  | .local _ .vmem, ⟨2, _⟩ => ⟨S2x64x64, .f32⟩
  | .local _ .vmem, ⟨3, _⟩ => ⟨S2x1x384, .f32⟩
  | .local _ .vmem, ⟨4, _⟩ => ⟨S64x1024, .f32⟩
  | .local _ .vmem, ⟨5, _⟩ => ⟨S1024x64, .f32⟩
  | .local _ .vmem, ⟨6, _⟩ => ⟨S32x32, .f32⟩
  | .local _ .vmem, ⟨7, _⟩ => ⟨S32x1024, .bf16⟩
  | .local _ .vmem, ⟨8, _⟩ => ⟨S1024x32, .bf16⟩
  | .local _ .vmem, ⟨9, _⟩ => ⟨S8x1024, .bf16⟩
  | .local _ .vmem, ⟨10, _⟩ => ⟨S8x1024x8, .bf16⟩
  | .local _ .vmem, ⟨11, _⟩ => ⟨S8x8x1024, .bf16⟩
  | .local _ .vmem, ⟨12, _⟩ => ⟨S1x1024, .f32⟩
  | .local _ .vmem, ⟨13, _⟩ => ⟨S1x1024, .f32⟩
  | .local _ .vmem, ⟨14, _⟩ => ⟨S384x1024, .f32⟩
  | .local _ .vmem, ⟨15, _⟩ => ⟨S1024x384, .f32⟩
  | .local _ .vmem, ⟨16, _⟩ => ⟨S1x1024, .f32⟩
  | .local _ .vmem, ⟨17, _⟩ => ⟨S1x384, .f32⟩
  | .local _ .vmem, ⟨18, _⟩ => ⟨S2x1024x1024, .f32⟩
  | .local _ .vmem, ⟨19, _⟩ => ⟨S2x8x8, .f32⟩
  | .local _ .smem, ⟨0, _⟩ => ⟨S1, .f32⟩
  | .local _ .smem, ⟨1, _⟩ => ⟨S1, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg20_0 : Ref sig .tc := ⟨.vmem, 18, rfl⟩
abbrev cc0_stg21_0 : Ref sig .tc := ⟨.vmem, 19, rfl⟩
abbrev cc0_stg14_0 : Ref sig .tc := ⟨.smem, 0, rfl⟩
abbrev cc0_stg19_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S2x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1024x8 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x8x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .smem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S384x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .smem S1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x8x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== TailReferenceIdeal.lean ====
abbrev S2x1024x1024 : Shape := ⟨3, ![2, 1024, 1024]⟩
abbrev S2x384 : Shape := ⟨2, ![2, 384]⟩
abbrev S2x64x64 : Shape := ⟨3, ![2, 64, 64]⟩
abbrev S32x32 : Shape := ⟨2, ![32, 32]⟩
abbrev S32x1024 : Shape := ⟨2, ![32, 1024]⟩
abbrev S1024x32 : Shape := ⟨2, ![1024, 32]⟩
abbrev S8x1024 : Shape := ⟨2, ![8, 1024]⟩
abbrev S8x1024x8 : Shape := ⟨3, ![8, 1024, 8]⟩
abbrev S8x8x1024 : Shape := ⟨3, ![8, 8, 1024]⟩
abbrev S1x2048 : Shape := ⟨2, ![1, 2048]⟩
abbrev S1 : Shape := ⟨1, ![1]⟩
abbrev S64x1024 : Shape := ⟨2, ![64, 1024]⟩
abbrev S1024x64 : Shape := ⟨2, ![1024, 64]⟩
abbrev S384x1024 : Shape := ⟨2, ![384, 1024]⟩
abbrev S1024x384 : Shape := ⟨2, ![1024, 384]⟩
abbrev S1x1408 : Shape := ⟨2, ![1, 1408]⟩
abbrev S_ : Shape := ⟨0, ![]⟩
abbrev S2x1024 : Shape := ⟨2, ![2, 1024]⟩
abbrev S2x64 : Shape := ⟨2, ![2, 64]⟩
abbrev S2x1x1024 : Shape := ⟨3, ![2, 1, 1024]⟩
abbrev S32 : Shape := ⟨1, ![32]⟩
abbrev S2x1024x32 : Shape := ⟨3, ![2, 1024, 32]⟩
abbrev S1024x8 : Shape := ⟨2, ![1024, 8]⟩
abbrev S2x1024x8 : Shape := ⟨3, ![2, 1024, 8]⟩
abbrev S2x1024x1 : Shape := ⟨3, ![2, 1024, 1]⟩
abbrev S8x8 : Shape := ⟨2, ![8, 8]⟩
abbrev S2x1024x8x1 : Shape := ⟨4, ![2, 1024, 8, 1]⟩
abbrev S2x1024x1x8 : Shape := ⟨4, ![2, 1024, 1, 8]⟩
abbrev S2x1024x8x8 : Shape := ⟨4, ![2, 1024, 8, 8]⟩
abbrev S1x1x8x8 : Shape := ⟨4, ![1, 1, 8, 8]⟩
abbrev S2x2048 : Shape := ⟨2, ![2, 2048]⟩
abbrev S2048x1 : Shape := ⟨2, ![2048, 1]⟩
abbrev S2x1 : Shape := ⟨2, ![2, 1]⟩
abbrev S1x1 : Shape := ⟨2, ![1, 1]⟩
abbrev S2 : Shape := ⟨1, ![2]⟩
abbrev S2x1x1 : Shape := ⟨3, ![2, 1, 1]⟩
abbrev S2x1408 : Shape := ⟨2, ![2, 1408]⟩
abbrev S1408x1 : Shape := ⟨2, ![1408, 1]⟩
abbrev S2x8 : Shape := ⟨2, ![2, 8]⟩
abbrev S2x1x8 : Shape := ⟨3, ![2, 1, 8]⟩
abbrev S2x6x8 : Shape := ⟨3, ![2, 6, 8]⟩
abbrev S2x8x8 : Shape := ⟨3, ![2, 8, 8]⟩

abbrev nBuf : Space → Nat
  | .hbm => 340
  | .vmem => 0
  | .smem => 0
  | _ => 0

abbrev hbmTy0_0 (i : Nat) : BufTy := match i % 128 with
  | 0 => ⟨S2x1024x1024, .f32⟩
  | 1 => ⟨S2x1024x1024, .f32⟩
  | 2 => ⟨S2x384, .f32⟩
  | 3 => ⟨S2x64x64, .f32⟩
  | 4 => ⟨S32x32, .f32⟩
  | 5 => ⟨S32x1024, .f32⟩
  | 6 => ⟨S1024x32, .f32⟩
  | 7 => ⟨S8x1024, .f32⟩
  | 8 => ⟨S8x1024x8, .f32⟩
  | 9 => ⟨S8x8x1024, .f32⟩
  | 10 => ⟨S1x2048, .f32⟩
  | 11 => ⟨S1, .f32⟩
  | 12 => ⟨S64x1024, .f32⟩
  | 13 => ⟨S1024x64, .f32⟩
  | 14 => ⟨S384x1024, .f32⟩
  | 15 => ⟨S1024x384, .f32⟩
  | 16 => ⟨S1x1408, .f32⟩
  | 17 => ⟨S1, .f32⟩
  | 18 => ⟨S_, .f32⟩
  | 19 => ⟨S2x1024, .f32⟩
  | 20 => ⟨S_, .f32⟩
  | 21 => ⟨S2x1024, .f32⟩
  | 22 => ⟨S2x1024, .f32⟩
  | 23 => ⟨S1024x64, .f32⟩
  | 24 => ⟨S2x64, .f32⟩
  | 25 => ⟨S2x64, .f32⟩
  | 26 => ⟨S64x1024, .f32⟩
  | 27 => ⟨S2x1024, .f32⟩
  | 28 => ⟨S2x1x1024, .f32⟩
  | 29 => ⟨S_, .f32⟩
  | 30 => ⟨S2x1x1024, .f32⟩
  | 31 => ⟨S2x1x1024, .f32⟩
  | 32 => ⟨S2x1024x1024, .f32⟩
  | 33 => ⟨S2x1024x1024, .f32⟩
  | 34 => ⟨S32x32, .f32⟩
  | 35 => ⟨S32x32, .f32⟩
  | 36 => ⟨S_, .f32⟩
  | 37 => ⟨S32x32, .f32⟩
  | 38 => ⟨S32x32, .f32⟩
  | 39 => ⟨S32x32, .i32⟩
  | 40 => ⟨S32x32, .i32⟩
  | 41 => ⟨S_, .i32⟩
  | 42 => ⟨S32x32, .i32⟩
  | 43 => ⟨S32x32, .i32⟩
  | 44 => ⟨S32x32, .i1⟩
  | 45 => ⟨S32x32, .f32⟩
  | 46 => ⟨S32x32, .f32⟩
  | 47 => ⟨S32x32, .i32⟩
  | 48 => ⟨S32x32, .i32⟩
  | 49 => ⟨S_, .i32⟩
  | 50 => ⟨S32x32, .i32⟩
  | 51 => ⟨S32x32, .i32⟩
  | 52 => ⟨S32x32, .i1⟩
  | 53 => ⟨S32x32, .f32⟩
  | 54 => ⟨S32x32, .f32⟩
  | 55 => ⟨S32x32, .f32⟩
  | 56 => ⟨S_, .f32⟩
  | 57 => ⟨S32, .f32⟩
  | 58 => ⟨S_, .f32⟩
  | 59 => ⟨S_, .f32⟩
  | 60 => ⟨S32x32, .f32⟩
  | 61 => ⟨S_, .f32⟩
  | 62 => ⟨S32, .f32⟩
  | 63 => ⟨S_, .f32⟩
  | 64 => ⟨S_, .f32⟩
  | 65 => ⟨S_, .f32⟩
  | 66 => ⟨S32x32, .f32⟩
  | 67 => ⟨S32x32, .f32⟩
  | 68 => ⟨S_, .f32⟩
  | 69 => ⟨S32x32, .f32⟩
  | 70 => ⟨S32x32, .f32⟩
  | 71 => ⟨S32x32, .f32⟩
  | 72 => ⟨S32x32, .f32⟩
  | 73 => ⟨S32x32, .f32⟩
  | 74 => ⟨S_, .f32⟩
  | 75 => ⟨S32x32, .f32⟩
  | 76 => ⟨S32x32, .f32⟩
  | 77 => ⟨S32x32, .f32⟩
  | 78 => ⟨S32x32, .f32⟩
  | 79 => ⟨S32x32, .f32⟩
  | 80 => ⟨S_, .f32⟩
  | 81 => ⟨S32x32, .f32⟩
  | 82 => ⟨S32x32, .f32⟩
  | 83 => ⟨S32x32, .f32⟩
  | 84 => ⟨S32x32, .f32⟩
  | 85 => ⟨S32x32, .f32⟩
  | 86 => ⟨S_, .f32⟩
  | 87 => ⟨S32x32, .f32⟩
  | 88 => ⟨S32x32, .f32⟩
  | 89 => ⟨S32x32, .f32⟩
  | 90 => ⟨S32x32, .f32⟩
  | 91 => ⟨S32x32, .f32⟩
  | 92 => ⟨S_, .f32⟩
  | 93 => ⟨S32x32, .f32⟩
  | 94 => ⟨S32x32, .f32⟩
  | 95 => ⟨S32x32, .f32⟩
  | 96 => ⟨S32x32, .f32⟩
  | 97 => ⟨S32x32, .f32⟩
  | 98 => ⟨S_, .f32⟩
  | 99 => ⟨S32x32, .f32⟩
  | 100 => ⟨S32x32, .f32⟩
  | 101 => ⟨S32x32, .f32⟩
  | 102 => ⟨S32x32, .f32⟩
  | 103 => ⟨S32x32, .f32⟩
  | 104 => ⟨S_, .f32⟩
  | 105 => ⟨S32x32, .f32⟩
  | 106 => ⟨S32x32, .f32⟩
  | 107 => ⟨S32x32, .f32⟩
  | 108 => ⟨S32x32, .f32⟩
  | 109 => ⟨S32x32, .f32⟩
  | 110 => ⟨S_, .f32⟩
  | 111 => ⟨S32x32, .f32⟩
  | 112 => ⟨S32x32, .f32⟩
  | 113 => ⟨S32x32, .f32⟩
  | 114 => ⟨S32x32, .f32⟩
  | 115 => ⟨S32x32, .f32⟩
  | 116 => ⟨S_, .f32⟩
  | 117 => ⟨S32x32, .f32⟩
  | 118 => ⟨S32x32, .f32⟩
  | 119 => ⟨S32x32, .f32⟩
  | 120 => ⟨S32x32, .f32⟩
  | 121 => ⟨S32x32, .f32⟩
  | 122 => ⟨S_, .f32⟩
  | 123 => ⟨S32x32, .f32⟩
  | 124 => ⟨S32x32, .f32⟩
  | 125 => ⟨S32x32, .f32⟩
  | 126 => ⟨S32x32, .f32⟩
  | 127 => ⟨S32x32, .f32⟩
  | _ => ⟨S2x1024x1024, .f32⟩

abbrev hbmTy0_1 (i : Nat) : BufTy := match i % 128 with
  | 0 => ⟨S_, .f32⟩
  | 1 => ⟨S32x32, .f32⟩
  | 2 => ⟨S32x32, .f32⟩
  | 3 => ⟨S32x32, .f32⟩
  | 4 => ⟨S32x32, .f32⟩
  | 5 => ⟨S32x32, .f32⟩
  | 6 => ⟨S_, .f32⟩
  | 7 => ⟨S32x32, .f32⟩
  | 8 => ⟨S32x32, .f32⟩
  | 9 => ⟨S32x32, .f32⟩
  | 10 => ⟨S32x32, .f32⟩
  | 11 => ⟨S32x32, .f32⟩
  | 12 => ⟨S_, .f32⟩
  | 13 => ⟨S32x32, .f32⟩
  | 14 => ⟨S32x32, .f32⟩
  | 15 => ⟨S32x32, .f32⟩
  | 16 => ⟨S32x32, .f32⟩
  | 17 => ⟨S32x32, .f32⟩
  | 18 => ⟨S_, .f32⟩
  | 19 => ⟨S32x32, .f32⟩
  | 20 => ⟨S32x32, .f32⟩
  | 21 => ⟨S32x32, .f32⟩
  | 22 => ⟨S32x32, .f32⟩
  | 23 => ⟨S32x32, .f32⟩
  | 24 => ⟨S_, .f32⟩
  | 25 => ⟨S32x32, .f32⟩
  | 26 => ⟨S32x32, .f32⟩
  | 27 => ⟨S32x32, .f32⟩
  | 28 => ⟨S32x32, .f32⟩
  | 29 => ⟨S32x32, .f32⟩
  | 30 => ⟨S_, .f32⟩
  | 31 => ⟨S32x32, .f32⟩
  | 32 => ⟨S32x32, .f32⟩
  | 33 => ⟨S32x32, .f32⟩
  | 34 => ⟨S32x32, .f32⟩
  | 35 => ⟨S32x32, .f32⟩
  | 36 => ⟨S_, .f32⟩
  | 37 => ⟨S32x32, .f32⟩
  | 38 => ⟨S32x32, .f32⟩
  | 39 => ⟨S32x32, .f32⟩
  | 40 => ⟨S32x32, .f32⟩
  | 41 => ⟨S32x32, .f32⟩
  | 42 => ⟨S_, .f32⟩
  | 43 => ⟨S32x32, .f32⟩
  | 44 => ⟨S32x32, .f32⟩
  | 45 => ⟨S32x32, .f32⟩
  | 46 => ⟨S32x32, .f32⟩
  | 47 => ⟨S32x32, .f32⟩
  | 48 => ⟨S_, .f32⟩
  | 49 => ⟨S32x32, .f32⟩
  | 50 => ⟨S32x32, .f32⟩
  | 51 => ⟨S32x32, .f32⟩
  | 52 => ⟨S32x32, .f32⟩
  | 53 => ⟨S32x32, .f32⟩
  | 54 => ⟨S_, .f32⟩
  | 55 => ⟨S32x32, .f32⟩
  | 56 => ⟨S32x32, .f32⟩
  | 57 => ⟨S32x32, .f32⟩
  | 58 => ⟨S32x32, .f32⟩
  | 59 => ⟨S32x32, .f32⟩
  | 60 => ⟨S32x32, .f32⟩
  | 61 => ⟨S32x32, .f32⟩
  | 62 => ⟨S1024x32, .f32⟩
  | 63 => ⟨S2x1024x32, .f32⟩
  | 64 => ⟨S32x32, .f32⟩
  | 65 => ⟨S2x1024x32, .f32⟩
  | 66 => ⟨S32x1024, .f32⟩
  | 67 => ⟨S2x1024x1024, .f32⟩
  | 68 => ⟨S2x1024x1024, .f32⟩
  | 69 => ⟨S1024x8, .f32⟩
  | 70 => ⟨S2x1024x8, .f32⟩
  | 71 => ⟨S_, .f32⟩
  | 72 => ⟨S2x1024, .f32⟩
  | 73 => ⟨S_, .f32⟩
  | 74 => ⟨S2x1024, .f32⟩
  | 75 => ⟨S2x1024, .f32⟩
  | 76 => ⟨S2x1024x1, .f32⟩
  | 77 => ⟨S2x1024x8, .f32⟩
  | 78 => ⟨S2x1024x8, .f32⟩
  | 79 => ⟨S2x1024x8, .f32⟩
  | 80 => ⟨S_, .f32⟩
  | 81 => ⟨S2x1024, .f32⟩
  | 82 => ⟨S2x1024x1, .f32⟩
  | 83 => ⟨S2x1024x8, .f32⟩
  | 84 => ⟨S2x1024x8, .f32⟩
  | 85 => ⟨S8x8, .i32⟩
  | 86 => ⟨S8x8, .i32⟩
  | 87 => ⟨S2x1024x8x1, .f32⟩
  | 88 => ⟨S2x1024x1x8, .f32⟩
  | 89 => ⟨S2x1024x8x8, .f32⟩
  | 90 => ⟨S2x1024x8x8, .f32⟩
  | 91 => ⟨S2x1024x8x8, .i1⟩
  | 92 => ⟨S2x1024x8x8, .f32⟩
  | 93 => ⟨S2x1024x8x8, .f32⟩
  | 94 => ⟨S2x1024x8x8, .i1⟩
  | 95 => ⟨S8x8, .i1⟩
  | 96 => ⟨S1x1x8x8, .i1⟩
  | 97 => ⟨S2x1024x8x8, .i1⟩
  | 98 => ⟨S2x1024x8x8, .i1⟩
  | 99 => ⟨S2x1024x8x8, .i1⟩
  | 100 => ⟨S2x1024x8x8, .f32⟩
  | 101 => ⟨S_, .f32⟩
  | 102 => ⟨S2x1024x8, .f32⟩
  | 103 => ⟨S_, .f32⟩
  | 104 => ⟨S2x1024x8, .f32⟩
  | 105 => ⟨S2x1024x8, .i1⟩
  | 106 => ⟨S2x1024x8, .f32⟩
  | 107 => ⟨S2x1024x8, .f32⟩
  | 108 => ⟨S_, .f32⟩
  | 109 => ⟨S2x1024, .f32⟩
  | 110 => ⟨S2x1024x1, .f32⟩
  | 111 => ⟨S_, .f32⟩
  | 112 => ⟨S2x1024x1, .f32⟩
  | 113 => ⟨S2x1024x1, .f32⟩
  | 114 => ⟨S2x1024x8, .f32⟩
  | 115 => ⟨S2x1024x8, .f32⟩
  | 116 => ⟨S2x1024x8x8, .f32⟩
  | 117 => ⟨S2x1024x8x1, .f32⟩
  | 118 => ⟨S2x1024x8x8, .f32⟩
  | 119 => ⟨S2x1024x8x8, .f32⟩
  | 120 => ⟨S2x1024x1024, .f32⟩
  | 121 => ⟨S2x1024x1024, .f32⟩
  | 122 => ⟨S_, .f32⟩
  | 123 => ⟨S2x1024, .f32⟩
  | 124 => ⟨S_, .f32⟩
  | 125 => ⟨S2x1024, .f32⟩
  | 126 => ⟨S2x1024, .f32⟩
  | 127 => ⟨S_, .f32⟩
  | _ => ⟨S2x1024x1024, .f32⟩

abbrev hbmTy0_2 (i : Nat) : BufTy := match i % 128 with
  | 0 => ⟨S2x1024, .f32⟩
  | 1 => ⟨S_, .f32⟩
  | 2 => ⟨S2x1024, .f32⟩
  | 3 => ⟨S2x1024, .f32⟩
  | 4 => ⟨S2x2048, .f32⟩
  | 5 => ⟨S2048x1, .f32⟩
  | 6 => ⟨S2x1, .f32⟩
  | 7 => ⟨S1x1, .f32⟩
  | 8 => ⟨S2x1, .f32⟩
  | 9 => ⟨S2x1, .f32⟩
  | 10 => ⟨S2x1, .f32⟩
  | 11 => ⟨S2x1, .f32⟩
  | 12 => ⟨S_, .f32⟩
  | 13 => ⟨S2x1, .f32⟩
  | 14 => ⟨S2x1, .f32⟩
  | 15 => ⟨S_, .f32⟩
  | 16 => ⟨S2x1, .f32⟩
  | 17 => ⟨S2x1, .f32⟩
  | 18 => ⟨S2, .f32⟩
  | 19 => ⟨S2x1x1, .f32⟩
  | 20 => ⟨S2x1024x1024, .f32⟩
  | 21 => ⟨S2x1024x1024, .f32⟩
  | 22 => ⟨S_, .f32⟩
  | 23 => ⟨S2x1x1, .f32⟩
  | 24 => ⟨S2x1x1, .f32⟩
  | 25 => ⟨S2x1024x1024, .f32⟩
  | 26 => ⟨S2x1024x1024, .f32⟩
  | 27 => ⟨S2x1024x1024, .f32⟩
  | 28 => ⟨S_, .f32⟩
  | 29 => ⟨S2x1024, .f32⟩
  | 30 => ⟨S_, .f32⟩
  | 31 => ⟨S2x1024, .f32⟩
  | 32 => ⟨S2x1024, .f32⟩
  | 33 => ⟨S1024x384, .f32⟩
  | 34 => ⟨S2x384, .f32⟩
  | 35 => ⟨S2x384, .f32⟩
  | 36 => ⟨S_, .f32⟩
  | 37 => ⟨S2, .f32⟩
  | 38 => ⟨S2x384, .f32⟩
  | 39 => ⟨S_, .f32⟩
  | 40 => ⟨S2, .f32⟩
  | 41 => ⟨S2, .f32⟩
  | 42 => ⟨S2x384, .f32⟩
  | 43 => ⟨S_, .f32⟩
  | 44 => ⟨S2, .f32⟩
  | 45 => ⟨S2, .f32⟩
  | 46 => ⟨S2, .f32⟩
  | 47 => ⟨S_, .f32⟩
  | 48 => ⟨S2, .f32⟩
  | 49 => ⟨S2, .f32⟩
  | 50 => ⟨S2, .f32⟩
  | 51 => ⟨S2x1408, .f32⟩
  | 52 => ⟨S1408x1, .f32⟩
  | 53 => ⟨S2x1, .f32⟩
  | 54 => ⟨S1x1, .f32⟩
  | 55 => ⟨S2x1, .f32⟩
  | 56 => ⟨S2x1, .f32⟩
  | 57 => ⟨S2x1, .f32⟩
  | 58 => ⟨S2x1, .f32⟩
  | 59 => ⟨S_, .f32⟩
  | 60 => ⟨S2x1, .f32⟩
  | 61 => ⟨S2x1, .f32⟩
  | 62 => ⟨S_, .f32⟩
  | 63 => ⟨S2x1, .f32⟩
  | 64 => ⟨S2x1, .f32⟩
  | 65 => ⟨S2, .f32⟩
  | 66 => ⟨S2, .f32⟩
  | 67 => ⟨S2x1x1, .f32⟩
  | 68 => ⟨S384x1024, .f32⟩
  | 69 => ⟨S2x1024, .f32⟩
  | 70 => ⟨S2x1x1024, .f32⟩
  | 71 => ⟨S2x1x1024, .f32⟩
  | 72 => ⟨S2x1x1024, .f32⟩
  | 73 => ⟨S2x1024x1024, .f32⟩
  | 74 => ⟨S2x1024x1024, .f32⟩
  | 75 => ⟨S_, .f32⟩
  | 76 => ⟨S2x8, .f32⟩
  | 77 => ⟨S2x1x8, .f32⟩
  | 78 => ⟨S_, .f32⟩
  | 79 => ⟨S2x8, .f32⟩
  | 80 => ⟨S2x1x8, .f32⟩
  | 81 => ⟨S_, .f32⟩
  | 82 => ⟨S2x6x8, .f32⟩
  | 83 => ⟨S2x8x8, .f32⟩
  | _ => ⟨S2x1024x1024, .f32⟩

abbrev hbmTy (i : Nat) : BufTy := match i / 128 with
  | 0 => hbmTy0_0 i
  | 1 => hbmTy0_1 i
  | 2 => hbmTy0_2 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_18 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_19 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_20 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_21 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_22 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_23 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_24 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_25 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_26 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_27 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_28 : Ref sig .tc := ⟨.hbm, 199, rfl⟩
abbrev main_v151 : Ref sig .tc := ⟨.hbm, 200, rfl⟩
abbrev main_cst_29 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_30 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_cst_31 : Ref sig .tc := ⟨.hbm, 229, rfl⟩
abbrev main_v178 : Ref sig .tc := ⟨.hbm, 230, rfl⟩
abbrev main_cst_32 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_cst_33 : Ref sig .tc := ⟨.hbm, 236, rfl⟩
abbrev main_v183 : Ref sig .tc := ⟨.hbm, 237, rfl⟩
abbrev main_v184 : Ref sig .tc := ⟨.hbm, 238, rfl⟩
abbrev main_cst_34 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_cst_35 : Ref sig .tc := ⟨.hbm, 250, rfl⟩
abbrev main_v195 : Ref sig .tc := ⟨.hbm, 251, rfl⟩
abbrev main_cst_36 : Ref sig .tc := ⟨.hbm, 252, rfl⟩
abbrev main_v196 : Ref sig .tc := ⟨.hbm, 253, rfl⟩
abbrev main_v197 : Ref sig .tc := ⟨.hbm, 254, rfl⟩
abbrev main_cst_37 : Ref sig .tc := ⟨.hbm, 255, rfl⟩
abbrev main_v198 : Ref sig .tc := ⟨.hbm, 256, rfl⟩
abbrev main_cst_38 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_cst_39 : Ref sig .tc := ⟨.hbm, 268, rfl⟩
abbrev main_v209 : Ref sig .tc := ⟨.hbm, 269, rfl⟩
abbrev main_v210 : Ref sig .tc := ⟨.hbm, 270, rfl⟩
abbrev main_cst_40 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_cst_41 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_cst_42 : Ref sig .tc := ⟨.hbm, 284, rfl⟩
abbrev main_v222 : Ref sig .tc := ⟨.hbm, 285, rfl⟩
abbrev main_cst_43 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_cst_44 : Ref sig .tc := ⟨.hbm, 292, rfl⟩
abbrev main_v228 : Ref sig .tc := ⟨.hbm, 293, rfl⟩
abbrev main_v229 : Ref sig .tc := ⟨.hbm, 294, rfl⟩
abbrev main_cst_45 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_cst_46 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_cst_47 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_cst_48 : Ref sig .tc := ⟨.hbm, 315, rfl⟩
abbrev main_v247 : Ref sig .tc := ⟨.hbm, 316, rfl⟩
abbrev main_v248 : Ref sig .tc := ⟨.hbm, 317, rfl⟩
abbrev main_cst_49 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_cst_50 : Ref sig .tc := ⟨.hbm, 331, rfl⟩
abbrev main_v261 : Ref sig .tc := ⟨.hbm, 332, rfl⟩
abbrev main_v262 : Ref sig .tc := ⟨.hbm, 333, rfl⟩
abbrev main_cst_51 : Ref sig .tc := ⟨.hbm, 334, rfl⟩
abbrev main_v263 : Ref sig .tc := ⟨.hbm, 335, rfl⟩
abbrev main_v264 : Ref sig .tc := ⟨.hbm, 336, rfl⟩
abbrev main_cst_52 : Ref sig .tc := ⟨.hbm, 337, rfl⟩
abbrev main_v265 : Ref sig .tc := ⟨.hbm, 338, rfl⟩
abbrev main_v266 : Ref sig .tc := ⟨.hbm, 339, rfl⟩

abbrev nD : Nat := 1
abbrev τ : Topo := Topo.v7x

variable {F : FTy → Type} [FloatOps F]
-- ==== Proof.KFold.lean ====
/-
  The kernel's body as a function of the blocks it reads, written once for a batch row, a chunk and a head, and the
  statement that the pieces its run leaves in the five output buffers are this function's.
-/
module

public import proofs.«01_k».proof.Proof.Gen.KernelIdeal.Frame

@[expose] public section

set_option maxRecDepth 16384

noncomputable section

namespace Cert.KernelIdeal.Fold

open Idealize.ShloMosaic
open Cert.KernelIdeal Cert.KernelIdeal.Gen

variable {F : FTy → Type} [FloatOps F] [Named F]

/-- The blocks the body reads and the scratch buffers it works in. -/
structure In (F : FTy → Type) where
  x0 : Vec F S2x1024x1024 .f32
  x1 : Vec F S2x1x1024 .f32
  x2 : Vec F S1024 .f32
  x3 : Vec F S1024 .f32
  x4 : Vec F S1024x1024 .bf16
  x5 : Vec F S1024x1024 .bf16
  x6 : Vec F S256x1024 .f32
  x7 : Vec F S256x1024 .f32
  x8 : Vec F S1x16 .f32
  x9 : Vec F S2x8x1024 .f32
  x10 : Vec F S8x1024 .f32
  x11 : Vec F S1x1024 .f32
  x12 : Vec F S1x16 .f32
  x13 : Vec F S2x16x64x64 .f32
  x14 : Vec F S2x64x64 .f32
  x15 : Vec F S1024x1024 .bf16
  x16 : Vec F S1024x64 .bf16
  w22 : Memref sig .tc .vmem S1032x1024 .f32
  w23 : Memref sig .tc .vmem S1024x1024 .f32
  w24 : Memref sig .tc .vmem S1024x1024 .f32
  w25 : Memref sig .tc .vmem S1024x1024 .f32
  w26 : Memref sig .tc .vmem S16x64x64 .f32

/-! ## Where the windows of a batch row, a chunk and a head lie -/

theorem inb_x (b : Fin 2) : ∀ a, (![b.val, 0, 0] : Fin 3 → ℕ) a + S1x1024x1024.size a ≤ S2x1024x1024.size a := by
  revert b; decide
theorem inb_row (b : Fin 2) : ∀ a, (![b.val, 0, 0] : Fin 3 → ℕ) a + S1x1x1024.size a ≤ S2x1x1024.size a := by
  revert b; decide
theorem inb_pad (b : Fin 2) : ∀ a, (![b.val, 0, 0] : Fin 3 → ℕ) a + S1x8x1024.size a ≤ S2x8x1024.size a := by
  revert b; decide
theorem inb_pad0 (b : Fin 2) : ∀ a, (![b.val, 0, 0] : Fin 3 → ℕ) a + S1x4x1024.size a ≤ S2x8x1024.size a := by
  revert b; decide
theorem inb_pad4 (b : Fin 2) : ∀ a, (![b.val, 4, 0] : Fin 3 → ℕ) a + S1x4x1024.size a ≤ S2x8x1024.size a := by
  revert b; decide
theorem inb_st (b : Fin 2) : ∀ a, (![b.val, 0, 0, 0] : Fin 4 → ℕ) a + S1x16x64x64.size a ≤ S2x16x64x64.size a := by
  revert b; decide
theorem inb_wk (b : Fin 2) : ∀ a, (![b.val, 0, 0] : Fin 3 → ℕ) a + S1x64x64.size a ≤ S2x64x64.size a := by
  revert b; decide
theorem inb_tap (k : Fin 4) : ∀ a, (![k.val, 0] : Fin 2 → ℕ) a + S1x1024.size a ≤ S8x1024.size a := by
  revert k; decide
theorem inb_shift (k : Fin 4) : ∀ a, (![4 + k.val, 0] : Fin 2 → ℕ) a + S1024x1024.size a ≤ S1032x1024.size a := by
  revert k; decide
theorem inb_uc (c : Fin 8) (h : Fin 16) :
    ∀ a, (![128 * c.val, 64 * h.val] : Fin 2 → ℕ) a + S128x64.size a ≤ S1024x1024.size a := by
  revert c h; decide
theorem inb_ys (c : Fin 8) : ∀ a, (![128 * c.val, 0] : Fin 2 → ℕ) a + S128x1024.size a ≤ S1024x1024.size a := by
  revert c; decide
theorem inb_hd (h : Fin 16) : ∀ a, (![h.val, 0, 0] : Fin 3 → ℕ) a + S1x64x64.size a ≤ S16x64x64.size a := by
  revert h; decide
theorem sl_c16 (c : Fin 8) : S1024x16.Slices ![128 * c.val, 0] S128x16 := by revert c; decide
theorem sl_c64 (c : Fin 8) : S1024x64.Slices ![128 * c.val, 0] S128x64 := by revert c; decide
theorem sl_a (h : Fin 16) : S1x16.Slices ![0, h.val] S1x1 := by revert h; decide
theorem sl_col (h : Fin 16) : S128x16.Slices ![0, h.val] S128x1 := by revert h; decide
theorem sl_rowT (h : Fin 16) : S16x128.Slices ![h.val, 0] S1x128 := by revert h; decide
theorem sl_r64 (c : Fin 32) : S1024x64.Slices ![32 * c.val, 0] S32x64 := by revert c; decide

/-- A chunk number of the state scan, from any number. -/
def m8 (n : ℕ) : Fin 8 := ⟨n % 8, Nat.mod_lt _ (by decide)⟩
/-- A chunk number of the key-value scan, from any number. -/
def m32 (n : ℕ) : Fin 32 := ⟨n % 32, Nat.mod_lt _ (by decide)⟩

/-! ## The pure steps -/

/-- The normalised rows of a batch row `x`, scaled by `g` and shifted by `b`. -/
def mean (x : FVec F S1024x1024 .f32) : FVec F S1024x1 .f32 :=
  divf (shapeCast S1024x1 (multiReduction .add [1] S1024 x 0x00000000#32 reduces_S1024x1024_S1024 (.inl rfl) rfl)
    shapeCasts_S1024_S1024x1) (broadcast S1024x1 (Scalar.ofBits .f32 0x44800000#32))

/-- The rows less their means. -/
def cent (x : FVec F S1024x1024 .f32) : FVec F S1024x1024 .f32 :=
  subf x (broadcastTo S1024x1024 (mean x) broadcasts_S1024x1_S1024x1024)

/-- The normalised rows of a batch row `x`, scaled by `g` and shifted by `b`. -/
def norm (g b : Vec F S1024 .f32) (x : FVec F S1024x1024 .f32) : FVec F S1024x1024 .f32 :=
  addf (mulf (mulf (cent x) (broadcastTo S1024x1024
      (rsqrt (addf (mean (mulf (cent x) (cent x))) (broadcast S1024x1 (Scalar.ofBits .f32 0x3727C5AC#32))))
      broadcasts_S1024x1_S1024x1024))
    (broadcastTo S1024x1024 (shapeCast S1x1024 g shapeCasts_S1024_S1x1024) broadcasts_S1x1024_S1024x1024))
    (broadcastTo S1024x1024 (shapeCast S1x1024 b shapeCasts_S1024_S1x1024) broadcasts_S1x1024_S1024x1024)

/-- Half the sum of each row and the row before it (`p` before the first). -/
def mixed (p : FVec F S1x1024 .f32) (x : FVec F S1024x1024 .f32) : FVec F S1024x1024 .f32 :=
  mulf (broadcast S1024x1024 (Scalar.ofBits .f32 0x3F000000#32)) (addf x (concatenate S1024x1024 0
    [⟨S1x1024, p⟩, ⟨S1023x1024, extractStridedSlice S1023x1024 ![0, 0] x slices_S1024x1024_o0_0_S1023x1024⟩]
    concatenates_S1x1024_S1023x1024_S1024x1024_d0))

/-- The wide projections: rows of `x` against the rows of a weight. -/
def wide (x : FVec F S1024x1024 .f32) (w : Vec F S1024x1024 .bf16) : FVec F S1024x1024 .f32 :=
  matmul dot_S1024x1024_S1024x1024_S1024x1024_1_1_0_0_n_n none (truncf .bf16 x bitsLt_bf16_f32)
    (shapeCast S1024x1024 w shapeCasts_S1024x1024_S1024x1024) (constant S1024x1024 .f32 0x00000000#32)

/-- The narrow projections: rows of `x` against the 256 stacked weight rows. -/
def narrow (x : FVec F S1024x1024 .f32) (w : Vec F S256x1024 .f32) : FVec F S1024x256 .f32 :=
  matmul dot_S1024x1024_S256x1024_S1024x256_1_1_0_0_n_n none x
    (shapeCast S256x1024 w shapeCasts_S256x1024_S256x1024) (constant S1024x256 .f32 0x00000000#32)

/-- The step sizes' argument: the projection's columns 128–143 and the bias. -/
def dtArg (p : FVec F S1024x256 .f32) (bias : Vec F S1x16 .f32) : FVec F S1024x16 .f32 :=
  addf (extractStridedSlice S1024x16 ![0, 128] p slices_S1024x256_o0_128_S1024x16)
    (broadcastTo S1024x16 (shapeCast S1x16 bias shapeCasts_S1x16_S1x16) broadcasts_S1x16_S1024x16)

/-- The softplus as printed. -/
def soft (a : FVec F S1024x16 .f32) : FVec F S1024x16 .f32 :=
  select (cmpf .one (subf a (broadcast S1024x16 (Scalar.ofBits .f32 0x00000000#32)))
      (subf a (broadcast S1024x16 (Scalar.ofBits .f32 0x00000000#32))))
    (addf a (broadcast S1024x16 (Scalar.ofBits .f32 0x00000000#32)))
    (addf (maximumf a (broadcast S1024x16 (Scalar.ofBits .f32 0x00000000#32)))
      (log1p (exp (subf (broadcast S1024x16 (Scalar.ofBits .f32 0x00000000#32))
        (absf (subf a (broadcast S1024x16 (Scalar.ofBits .f32 0x00000000#32))))))))

/-- `x · 1/(1 + exp(−x))`. -/
def silu (x : FVec F S1024x1024 .f32) : FVec F S1024x1024 .f32 :=
  mulf x (divf (broadcast S1024x1024 (Scalar.ofBits .f32 0x3F800000#32))
    (addf (broadcast S1024x1024 (Scalar.ofBits .f32 0x3F800000#32))
      (exp (subf (broadcast S1024x1024 (Scalar.ofBits .f32 0x00000000#32)) x))))

/-- One tap of the convolution: the shifted rows times the tap's weights. -/
def tap (e : Vec F S1024x1024 .f32) (w : Vec F S1x1024 .f32) : FVec F S1024x1024 .f32 :=
  mulf e (broadcastTo S1024x1024 (shapeCast S1x1024 w shapeCasts_S1x1024_S1x1024) broadcasts_S1x1024_S1024x1024)

/-! ## The state scan's chunk -/

/-- The row and column numbers of a 128 × 128 square, and their comparison. -/
def tri : IVec S128x128 1 :=
  cmpi .sge (iota .tc S128x128 32 [0] iota_S128x128_d0_w32) (iota .tc S128x128 32 [1] iota_S128x128_d1_w32)

/-- The lower triangle of ones. -/
def trif : FVec F S128x128 .f32 := sitofp .f32 (extui 32 tri natLt_1_32)

/-- Cumulative sums down a chunk of step sizes. -/
def cum (d : FVec F S128x16 .f32) : FVec F S128x16 .f32 :=
  matmul dot_S128x128_S128x16_S128x16_1_0_0_1_n_n none trif d (constant S128x16 .f32 0x00000000#32)

/-- The chunk's last cumulative sum. -/
def tot (d : FVec F S128x16 .f32) : FVec F S1x16 .f32 :=
  extractStridedSlice S1x16 ![127, 0] (cum d) slices_S128x16_o127_0_S1x16

/-- The decay from the chunk's start to each row. -/
def e0 (A : FVec F S1x16 .f32) (d : FVec F S128x16 .f32) : FVec F S128x16 .f32 :=
  exp (mulf (cum d) (broadcastTo S128x16 A broadcasts_S1x16_S128x16))

/-- The decay from each row to the chunk's end, times the step size. -/
def w0 (A : FVec F S1x16 .f32) (d : FVec F S128x16 .f32) : FVec F S128x16 .f32 :=
  mulf (exp (mulf (subf (broadcastTo S128x16 (tot d) broadcasts_S1x16_S128x16) (cum d))
    (broadcastTo S128x16 A broadcasts_S1x16_S128x16))) d

/-- The decay across the whole chunk. -/
def dv (A : FVec F S1x16 .f32) (d : FVec F S128x16 .f32) : FVec F S1x16 .f32 := exp (mulf (tot d) A)

/-- The chunk's inner products of reads and writes. -/
def cb (B C : FVec F S128x64 .f32) : FVec F S128x128 .f32 :=
  matmul dot_S128x64_S128x64_S128x128_1_1_0_0_n_n none C B (constant S128x128 .f32 0x00000000#32)

/-- Head `h`'s decays between two rows of the chunk, times the step size, 0 above the diagonal. -/
def gg (A : FVec F S1x16 .f32) (d : FVec F S128x16 .f32) (h : Fin 16) : FVec F S128x128 .f32 :=
  mulf (exp (select tri (mulf (subf
      (broadcastTo S128x128 (extractStridedSlice S128x1 ![0, h.val] (cum d) (sl_col h)) broadcasts_S128x1_S128x128)
      (broadcastTo S128x128 (extractStridedSlice S1x128 ![h.val, 0]
        (transpose S16x128 [1, 0] (cum d) transposes_S128x16_p1_0_S16x128) (sl_rowT h)) broadcasts_S1x128_S128x128))
      (broadcastTo S128x128 (extractStridedSlice S1x1 ![0, h.val] A (sl_a h)) broadcasts_S1x1_S128x128))
    (broadcast S128x128 (Named.named κ "mask" 0xF149F2CA#32))))
    (broadcastTo S128x128 (extractStridedSlice S1x128 ![h.val, 0]
      (transpose S16x128 [1, 0] d transposes_S128x16_p1_0_S16x128) (sl_rowT h)) broadcasts_S1x128_S128x128)

/-- Head `h`'s outputs over the chunk, from its inputs `u` and the state `s` before the chunk. -/
def yy (A : FVec F S1x16 .f32) (d : FVec F S128x16 .f32) (B C : FVec F S128x64 .f32) (h : Fin 16)
    (u : Vec F S128x64 .f32) (s : FVec F S64x64 .f32) : FVec F S128x64 .f32 :=
  addf (matmul dot_S128x128_S128x64_S128x64_1_0_0_1_n_n none (mulf (cb B C) (gg A d h)) u
      (constant S128x64 .f32 0x00000000#32))
    (mulf (matmul dot_S128x64_S64x64_S128x64_1_1_0_0_n_n none C s (constant S128x64 .f32 0x00000000#32))
      (broadcastTo S128x64 (extractStridedSlice S128x1 ![0, h.val] (e0 A d) (sl_col h)) broadcasts_S128x1_S128x64))

/-- Head `h`'s state after the chunk. -/
def ss (A : FVec F S1x16 .f32) (d : FVec F S128x16 .f32) (B : FVec F S128x64 .f32) (h : Fin 16)
    (u : Vec F S128x64 .f32) (s : FVec F S64x64 .f32) : FVec F S64x64 .f32 :=
  addf (mulf s (broadcastTo S64x64 (extractStridedSlice S1x1 ![0, h.val] (dv A d) (sl_a h)) broadcasts_S1x1_S64x64))
    (matmul dot_S128x64_S128x64_S64x64_0_0_1_1_n_n none
      (mulf u (broadcastTo S128x64 (extractStridedSlice S128x1 ![0, h.val] (w0 A d) (sl_col h)) broadcasts_S128x1_S128x64))
      B (constant S64x64 .f32 0x00000000#32))

/-- Sixteen heads' outputs side by side. -/
def cat16 (y : Fin 16 → FVec F S128x64 .f32) : FVec F S128x1024 .f32 :=
  concatenate S128x1024 1 [⟨S128x64, y 0⟩, ⟨S128x64, y 1⟩, ⟨S128x64, y 2⟩, ⟨S128x64, y 3⟩, ⟨S128x64, y 4⟩, ⟨S128x64, y 5⟩,
    ⟨S128x64, y 6⟩, ⟨S128x64, y 7⟩, ⟨S128x64, y 8⟩, ⟨S128x64, y 9⟩, ⟨S128x64, y 10⟩, ⟨S128x64, y 11⟩, ⟨S128x64, y 12⟩,
    ⟨S128x64, y 13⟩, ⟨S128x64, y 14⟩, ⟨S128x64, y 15⟩]
    concatenates_S128x64_S128x64_S128x64_S128x64_S128x64_S128x64_S128x64_S128x64_S128x64_S128x64_S128x64_S128x64_S128x64_S128x64_S128x64_S128x64_S128x1024_d1

/-- Sixteen heads' states stacked. -/
def stack16 (s : Fin 16 → FVec F S64x64 .f32) : FVec F S16x64x64 .f32 :=
  let p : Fin 16 → FVec F S1x64x64 .f32 := fun h => shapeCast S1x64x64 (s h) shapeCasts_S64x64_S1x64x64
  concatenate S16x64x64 0 [⟨S1x64x64, p 0⟩, ⟨S1x64x64, p 1⟩, ⟨S1x64x64, p 2⟩, ⟨S1x64x64, p 3⟩, ⟨S1x64x64, p 4⟩,
    ⟨S1x64x64, p 5⟩, ⟨S1x64x64, p 6⟩, ⟨S1x64x64, p 7⟩, ⟨S1x64x64, p 8⟩, ⟨S1x64x64, p 9⟩, ⟨S1x64x64, p 10⟩,
    ⟨S1x64x64, p 11⟩, ⟨S1x64x64, p 12⟩, ⟨S1x64x64, p 13⟩, ⟨S1x64x64, p 14⟩, ⟨S1x64x64, p 15⟩]
    concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0

/-! ## The key-value scan's chunk -/

/-- The lower triangle of ones, 32 × 32. -/
def trir : FVec F S32x32 .f32 := sitofp .f32 (extui 32
  (cmpi .sge (iota .tc S32x32 32 [0] iota_S32x32_d0_w32) (iota .tc S32x32 32 [1] iota_S32x32_d1_w32)) natLt_1_32)

/-- The comparison of the first two axes of a 32 × 32 × 1 box. -/
def tri3 : IVec S32x32x1 1 := cmpi .sge (iota .tc S32x32x1 32 [0] iota_S32x32x1_d0_w32)
  (iota .tc S32x32x1 32 [1] iota_S32x32x1_d1_w32)

/-- A chunk's rows. -/
def rows (x : FVec F S1024x64 .f32) (c : Fin 32) : FVec F S32x64 .f32 :=
  extractStridedSlice S32x64 ![32 * c.val, 0] x (sl_r64 c)

/-- Cumulative log decays down a chunk. -/
def el (l : FVec F S32x64 .f32) : FVec F S32x64 .f32 :=
  matmul dot_S32x32_S32x64_S32x64_1_0_0_1_n_n none trir l (constant S32x64 .f32 0x00000000#32)

/-- The decays between two rows of the chunk, per channel, 0 above the diagonal. -/
def pd (l : FVec F S32x64 .f32) : FVec F S32x32x64 .f32 :=
  exp (select (broadcastTo S32x32x64 (shapeCast S32x32x1 tri3 shapeCasts_S32x32x1_S32x32x1) broadcasts_S32x32x1_S32x32x64)
    (subf (broadcastTo S32x32x64 (shapeCast S32x1x64 (el l) shapeCasts_S32x64_S32x1x64) broadcasts_S32x1x64_S32x32x64)
      (broadcastTo S32x32x64 (shapeCast S1x32x64 (el l) shapeCasts_S32x64_S1x32x64) broadcasts_S1x32x64_S32x32x64))
    (broadcast S32x32x64 (Named.named κ "mask" 0xF149F2CA#32)))

/-- The chunk's outputs from the state `s` before it. -/
def yk (l r k v : FVec F S32x64 .f32) (s : FVec F S64x64 .f32) : FVec F S32x64 .f32 :=
  addf (multiReduction .add [1] S32x64 (mulf (mulf (pd l)
        (broadcastTo S32x32x64 (shapeCast S32x32x1
          (matmul dot_S32x64_S32x64_S32x32_1_1_0_0_n_n none r k (constant S32x32 .f32 0x00000000#32))
          shapeCasts_S32x32_S32x32x1) broadcasts_S32x32x1_S32x32x64))
      (broadcastTo S32x32x64 (shapeCast S1x32x64 v shapeCasts_S32x64_S1x32x64) broadcasts_S1x32x64_S32x32x64))
      0x00000000#32 reduces_S32x32x64_S32x64 (.inl rfl) rfl)
    (mulf (matmul dot_S32x64_S64x64_S32x64_1_1_0_0_n_n none r s (constant S32x64 .f32 0x00000000#32)) (exp (el l)))

/-- The state after the chunk. -/
def sk (l k v : FVec F S32x64 .f32) (s : FVec F S64x64 .f32) : FVec F S64x64 .f32 :=
  addf (mulf s (broadcastTo S64x64 (transpose S64x1 [1, 0]
      (extractStridedSlice S1x64 ![31, 0] (exp (el l)) slices_S32x64_o31_0_S1x64) transposes_S1x64_p1_0_S64x1)
      broadcasts_S64x1_S64x64))
    (matmul dot_S32x64_S32x64_S64x64_0_0_1_1_n_n none
      (mulf v (exp (subf (broadcastTo S32x64 (extractStridedSlice S1x64 ![31, 0] (el l) slices_S32x64_o31_0_S1x64)
        broadcasts_S1x64_S32x64) (el l)))) k (constant S64x64 .f32 0x00000000#32))

/-- Thirty-two chunks' outputs, one below the other. -/
def cat32 (y : Fin 32 → FVec F S32x64 .f32) : FVec F S1024x64 .f32 :=
  concatenate S1024x64 0 [⟨S32x64, y 0⟩, ⟨S32x64, y 1⟩, ⟨S32x64, y 2⟩, ⟨S32x64, y 3⟩, ⟨S32x64, y 4⟩, ⟨S32x64, y 5⟩,
    ⟨S32x64, y 6⟩, ⟨S32x64, y 7⟩, ⟨S32x64, y 8⟩, ⟨S32x64, y 9⟩, ⟨S32x64, y 10⟩, ⟨S32x64, y 11⟩, ⟨S32x64, y 12⟩,
    ⟨S32x64, y 13⟩, ⟨S32x64, y 14⟩, ⟨S32x64, y 15⟩, ⟨S32x64, y 16⟩, ⟨S32x64, y 17⟩, ⟨S32x64, y 18⟩, ⟨S32x64, y 19⟩,
    ⟨S32x64, y 20⟩, ⟨S32x64, y 21⟩, ⟨S32x64, y 22⟩, ⟨S32x64, y 23⟩, ⟨S32x64, y 24⟩, ⟨S32x64, y 25⟩, ⟨S32x64, y 26⟩,
    ⟨S32x64, y 27⟩, ⟨S32x64, y 28⟩, ⟨S32x64, y 29⟩, ⟨S32x64, y 30⟩, ⟨S32x64, y 31⟩]
    concatenates_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S1024x64_d0

/-! ## The body, batch row by batch row -/

namespace In

variable (i : In F)

/-- `−exp` of the decay parameters. -/
def aneg : FVec F S1x16 .f32 := subf (broadcast S1x16 (Scalar.ofBits .f32 0x00000000#32))
  (exp (shapeCast S1x16 (View.ld i.x12 (Rect.unit (s := S1x16) ![0, 0] S1x16.size inb_S1x16_S1x16_0_0))
    shapeCasts_S1x16_S1x16))

/-- Batch row `b`. -/
def xb (b : Fin 2) : FVec F S1024x1024 .f32 := shapeCast S1024x1024
  (View.ld i.x0 (Rect.unit (s := S2x1024x1024) ![b.val, 0, 0] S1x1024x1024.size (inb_x b)))
  shapeCasts_S1x1024x1024_S1024x1024

/-- Its normalised rows. -/
def xn (b : Fin 2) : FVec F S1024x1024 .f32 :=
  norm (View.ld i.x2 (Rect.unit (s := S1024) ![0] S1024.size inb_S1024_S1024_0))
    (View.ld i.x3 (Rect.unit (s := S1024) ![0] S1024.size inb_S1024_S1024_0)) (i.xb b)

/-- The token-shift mix. -/
def mix (b : Fin 2) : FVec F S1024x1024 .f32 :=
  mixed (shapeCast S1x1024 (View.ld i.x1 (Rect.unit (s := S2x1x1024) ![b.val, 0, 0] S1x1x1024.size (inb_row b)))
    shapeCasts_S1x1x1024_S1x1024) (i.xn b)

/-- The gate's argument. -/
def z (b : Fin 2) : FVec F S1024x1024 .f32 := wide (i.xn b)
  (View.ld i.x4 (Rect.unit (s := S1024x1024) ![0, 0] S1024x1024.size inb_S1024x1024_S1024x1024_0_0))

/-- The convolution's input. -/
def u (b : Fin 2) : FVec F S1024x1024 .f32 := wide (i.xn b)
  (View.ld i.x5 (Rect.unit (s := S1024x1024) ![0, 0] S1024x1024.size inb_S1024x1024_S1024x1024_0_0))

/-- The state scan's projections. -/
def pbc (b : Fin 2) : FVec F S1024x256 .f32 := narrow (i.xn b)
  (View.ld i.x6 (Rect.unit (s := S256x1024) ![0, 0] S256x1024.size inb_S256x1024_S256x1024_0_0))

/-- The key-value scan's projections. -/
def prk (b : Fin 2) : FVec F S1024x256 .f32 := narrow (i.mix b)
  (View.ld i.x7 (Rect.unit (s := S256x1024) ![0, 0] S256x1024.size inb_S256x1024_S256x1024_0_0))

/-- The step sizes. -/
def dt (b : Fin 2) : FVec F S1024x16 .f32 := soft (dtArg (i.pbc b)
  (View.ld i.x8 (Rect.unit (s := S1x16) ![0, 0] S1x16.size inb_S1x16_S1x16_0_0)))

/-- A batch row's two stores into the convolution's buffer, over the earlier ones. -/
def p22 (b : Fin 2) (L : List (View.Piece (Elt F) S1032x1024 .f32)) : List (View.Piece (Elt F) S1032x1024 .f32) :=
  ⟨Rect.unit (s := S1032x1024) ![8, 0] S1024x1024.size inb_S1032x1024_S1024x1024_8_0,
    shapeCast S1024x1024 (i.u b) shapeCasts_S1024x1024_S1024x1024⟩ ::
  ⟨Rect.unit (s := S1032x1024) ![0, 0] S8x1024.size inb_S1032x1024_S8x1024_0_0,
    shapeCast S8x1024 (shapeCast S8x1024
      (View.ld i.x9 (Rect.unit (s := S2x8x1024) ![b.val, 0, 0] S1x8x1024.size (inb_pad b))) shapeCasts_S1x8x1024_S8x1024)
      shapeCasts_S8x1024_S8x1024⟩ :: L

/-- One shifted window of the convolution's buffer, times its tap. -/
def tapv (L : List (View.Piece (Elt F) S1032x1024 .f32)) (k : Fin 4) : FVec F S1024x1024 .f32 :=
  tap (View.readCov i.w22.view L (Rect.unit (s := S1032x1024) ![4 + k.val, 0] S1024x1024.size (inb_shift k)).toLoadRect)
    (View.ld i.x10 (Rect.unit (s := S8x1024) ![k.val, 0] S1x1024.size (inb_tap k)))

/-- The convolution, activated. -/
def uc (L : List (View.Piece (Elt F) S1032x1024 .f32)) : FVec F S1024x1024 .f32 :=
  silu (addf (addf (addf (addf (broadcastTo S1024x1024 (shapeCast S1x1024
    (View.ld i.x11 (Rect.unit (s := S1x1024) ![0, 0] S1x1024.size inb_S1x1024_S1x1024_0_0)) shapeCasts_S1x1024_S1x1024)
    broadcasts_S1x1024_S1024x1024) (i.tapv L 0)) (i.tapv L 1)) (i.tapv L 2)) (i.tapv L 3))

/-- A batch row's store of the activated convolution. -/
def p23 (L22 : List (View.Piece (Elt F) S1032x1024 .f32)) (L : List (View.Piece (Elt F) S1024x1024 .f32)) :
    List (View.Piece (Elt F) S1024x1024 .f32) :=
  ⟨Rect.unit (s := S1024x1024) ![0, 0] S1024x1024.size inb_S1024x1024_S1024x1024_0_0,
    shapeCast S1024x1024 (i.uc L22) shapeCasts_S1024x1024_S1024x1024⟩ :: L

/-- A batch row's store of the gate's argument. -/
def p24 (b : Fin 2) (L : List (View.Piece (Elt F) S1024x1024 .f32)) : List (View.Piece (Elt F) S1024x1024 .f32) :=
  ⟨Rect.unit (s := S1024x1024) ![0, 0] S1024x1024.size inb_S1024x1024_S1024x1024_0_0,
    shapeCast S1024x1024 (i.z b) shapeCasts_S1024x1024_S1024x1024⟩ :: L

/-- Chunk `c`'s step sizes. -/
def dtc (b : Fin 2) (c : Fin 8) : FVec F S128x16 .f32 :=
  extractStridedSlice S128x16 ![128 * c.val, 0] (i.dt b) (sl_c16 c)
/-- Chunk `c`'s writes. -/
def bmc (b : Fin 2) (c : Fin 8) : FVec F S128x64 .f32 := extractStridedSlice S128x64 ![128 * c.val, 0]
  (extractStridedSlice S1024x64 ![0, 0] (i.pbc b) slices_S1024x256_o0_0_S1024x64) (sl_c64 c)
/-- Chunk `c`'s reads. -/
def cmc (b : Fin 2) (c : Fin 8) : FVec F S128x64 .f32 := extractStridedSlice S128x64 ![128 * c.val, 0]
  (extractStridedSlice S1024x64 ![0, 64] (i.pbc b) slices_S1024x256_o0_64_S1024x64) (sl_c64 c)

/-- Head `h`'s inputs over chunk `c`, read back. -/
def uch (L23 : List (View.Piece (Elt F) S1024x1024 .f32)) (c : Fin 8) (h : Fin 16) : Vec F S128x64 .f32 :=
  View.readCov i.w23.view L23
    (Rect.unit (s := S1024x1024) ![128 * c.val, 64 * h.val] S128x64.size (inb_uc c h)).toLoadRect

/-- Head `h`'s state, read back. -/
def sh (L26 : List (View.Piece (Elt F) S16x64x64 .f32)) (h : Fin 16) : FVec F S64x64 .f32 :=
  shapeCast S64x64 (View.readCov i.w26.view L26
    (Rect.unit (s := S16x64x64) ![h.val, 0, 0] S1x64x64.size (inb_hd h)).toLoadRect) shapeCasts_S1x64x64_S64x64

/-- The first store into the state buffer: the state before the scan. -/
def p26 (b : Fin 2) (L : List (View.Piece (Elt F) S16x64x64 .f32)) : List (View.Piece (Elt F) S16x64x64 .f32) :=
  ⟨Rect.unit (s := S16x64x64) ![0, 0, 0] S16x64x64.size inb_S16x64x64_S16x64x64_0_0_0,
    shapeCast S16x64x64 (shapeCast S16x64x64
      (View.ld i.x13 (Rect.unit (s := S2x16x64x64) ![b.val, 0, 0, 0] S1x16x64x64.size (inb_st b)))
      shapeCasts_S1x16x64x64_S16x64x64) shapeCasts_S16x64x64_S16x64x64⟩ :: L

/-- The state buffer's stores after `n` chunks. -/
def l26 (b : Fin 2) (L23 : List (View.Piece (Elt F) S1024x1024 .f32)) (L : List (View.Piece (Elt F) S16x64x64 .f32))
    (n : ℕ) : List (View.Piece (Elt F) S16x64x64 .f32) :=
  Nat.rec (i.p26 b L) (fun n L26 =>
    ⟨Rect.unit (s := S16x64x64) ![0, 0, 0] S16x64x64.size inb_S16x64x64_S16x64x64_0_0_0,
      shapeCast S16x64x64 (stack16 fun h => ss i.aneg (i.dtc b (m8 n)) (i.bmc b (m8 n)) h (i.uch L23 (m8 n) h) (i.sh L26 h))
        shapeCasts_S16x64x64_S16x64x64⟩ :: L26) n

/-- The output buffer's stores after `n` chunks. -/
def l25 (b : Fin 2) (L23 : List (View.Piece (Elt F) S1024x1024 .f32)) (L26 : List (View.Piece (Elt F) S16x64x64 .f32))
    (L : List (View.Piece (Elt F) S1024x1024 .f32)) (n : ℕ) : List (View.Piece (Elt F) S1024x1024 .f32) :=
  Nat.rec L (fun n L25 =>
    ⟨Rect.unit (s := S1024x1024) ![128 * (m8 n).val, 0] S128x1024.size (inb_ys (m8 n)),
      shapeCast S128x1024 (cat16 fun h => yy i.aneg (i.dtc b (m8 n)) (i.bmc b (m8 n)) (i.cmc b (m8 n)) h
        (i.uch L23 (m8 n) h) (i.sh (i.l26 b L23 L26 n) h)) shapeCasts_S128x1024_S128x1024⟩ :: L25) n

/-- The key-value scan's reads. -/
def rr (b : Fin 2) : FVec F S1024x64 .f32 := extractStridedSlice S1024x64 ![0, 0] (i.prk b) slices_S1024x256_o0_0_S1024x64
/-- Its keys. -/
def kk (b : Fin 2) : FVec F S1024x64 .f32 := extractStridedSlice S1024x64 ![0, 64] (i.prk b) slices_S1024x256_o0_64_S1024x64
/-- Its values. -/
def vv (b : Fin 2) : FVec F S1024x64 .f32 := extractStridedSlice S1024x64 ![0, 128] (i.prk b) slices_S1024x256_o0_128_S1024x64
/-- Its log decays. -/
def lw (b : Fin 2) : FVec F S1024x64 .f32 := subf (broadcast S1024x64 (Scalar.ofBits .f32 0x00000000#32))
  (exp (extractStridedSlice S1024x64 ![0, 192] (i.prk b) slices_S1024x256_o0_192_S1024x64))

/-- The key-value state after `n` chunks. -/
def swk (b : Fin 2) (n : ℕ) : FVec F S64x64 .f32 :=
  Nat.rec (shapeCast S64x64 (View.ld i.x14 (Rect.unit (s := S2x64x64) ![b.val, 0, 0] S1x64x64.size (inb_wk b)))
    shapeCasts_S1x64x64_S64x64) (fun n s => sk (rows (i.lw b) (m32 n)) (rows (i.kk b) (m32 n)) (rows (i.vv b) (m32 n)) s) n

/-- The key-value scan's outputs. -/
def yr (b : Fin 2) : FVec F S1024x64 .f32 := cat32 fun c => yk (rows (i.lw b) (m32 c.val)) (rows (i.rr b) (m32 c.val))
  (rows (i.kk b) (m32 c.val)) (rows (i.vv b) (m32 c.val)) (i.swk b c.val)

/-- The block row the body leaves. -/
def out (b : Fin 2) (L24 L25 : List (View.Piece (Elt F) S1024x1024 .f32)) : FVec F S1024x1024 .f32 :=
  addf (addf (i.xb b) (mulf (silu (View.readCov i.w24.view L24
      (Rect.unit (s := S1024x1024) ![0, 0] S1024x1024.size inb_S1024x1024_S1024x1024_0_0).toLoadRect))
      (wide (View.readCov i.w25.view L25
        (Rect.unit (s := S1024x1024) ![0, 0] S1024x1024.size inb_S1024x1024_S1024x1024_0_0).toLoadRect)
        (View.ld i.x15 (Rect.unit (s := S1024x1024) ![0, 0] S1024x1024.size inb_S1024x1024_S1024x1024_0_0)))))
    (matmul dot_S1024x64_S1024x64_S1024x1024_1_1_0_0_n_n none (truncf .bf16 (i.yr b) bitsLt_bf16_f32)
      (shapeCast S1024x64 (View.ld i.x16 (Rect.unit (s := S1024x64) ![0, 0] S1024x64.size inb_S1024x64_S1024x64_0_0))
        shapeCasts_S1024x64_S1024x64) (constant S1024x1024 .f32 0x00000000#32))

/-! ## The buffers' stores, the two batch rows one after the other -/

def L22 (b : Fin 2) : List (View.Piece (Elt F) S1032x1024 .f32) :=
  Nat.rec (i.p22 0 []) (fun _ L => i.p22 1 L) b.val
def L23 (b : Fin 2) : List (View.Piece (Elt F) S1024x1024 .f32) :=
  Nat.rec (i.p23 (i.L22 0) []) (fun _ L => i.p23 (i.L22 1) L) b.val
def L24 (b : Fin 2) : List (View.Piece (Elt F) S1024x1024 .f32) :=
  Nat.rec (i.p24 0 []) (fun _ L => i.p24 1 L) b.val
/-- The state buffer's stores before batch row `b`. -/
def B26 (b : Fin 2) : List (View.Piece (Elt F) S16x64x64 .f32) :=
  Nat.rec [] (fun _ L => i.l26 0 (i.L23 0) L 8) b.val
/-- The output buffer's stores before batch row `b`. -/
def B25 (b : Fin 2) : List (View.Piece (Elt F) S1024x1024 .f32) :=
  Nat.rec [] (fun _ L => i.l25 0 (i.L23 0) (i.B26 0) L 8) b.val
/-- The state buffer's stores in batch row `b` after `n` chunks. -/
def L26 (b : Fin 2) (n : ℕ) : List (View.Piece (Elt F) S16x64x64 .f32) := i.l26 b (i.L23 b) (i.B26 b) n
/-- The output buffer's stores in batch row `b` after `n` chunks. -/
def L25 (b : Fin 2) (n : ℕ) : List (View.Piece (Elt F) S1024x1024 .f32) := i.l25 b (i.L23 b) (i.B26 b) (i.B25 b) n

/-- What batch row `b` stores into the first output. -/
def q17 (b : Fin 2) : View.Piece (Elt F) S2x1024x1024 .f32 :=
  ⟨Rect.unit (s := S2x1024x1024) ![b.val, 0, 0] S1x1024x1024.size (inb_x b),
    shapeCast S1x1024x1024 (i.out b (i.L24 b) (i.L25 b 8)) shapeCasts_S1024x1024_S1x1024x1024⟩
/-- What batch row `b` stores into the second output. -/
def q18 (b : Fin 2) : View.Piece (Elt F) S2x16x64x64 .f32 :=
  ⟨Rect.unit (s := S2x16x64x64) ![b.val, 0, 0, 0] S1x16x64x64.size (inb_st b),
    shapeCast S1x16x64x64 (View.readCov i.w26.view (i.L26 b 8)
      (Rect.unit (s := S16x64x64) ![0, 0, 0] S16x64x64.size inb_S16x64x64_S16x64x64_0_0_0).toLoadRect)
      shapeCasts_S16x64x64_S1x16x64x64⟩
/-- What batch row `b` stores into the third output. -/
def q19 (b : Fin 2) : View.Piece (Elt F) S2x64x64 .f32 :=
  ⟨Rect.unit (s := S2x64x64) ![b.val, 0, 0] S1x64x64.size (inb_wk b),
    shapeCast S1x64x64 (i.swk b 32) shapeCasts_S64x64_S1x64x64⟩
/-- What batch row `b` stores into the fourth output's first four rows. -/
def q20a (b : Fin 2) : View.Piece (Elt F) S2x8x1024 .f32 :=
  ⟨Rect.unit (s := S2x8x1024) ![b.val, 0, 0] S1x4x1024.size (inb_pad0 b),
    shapeCast S1x4x1024 (extractStridedSlice S4x1024 ![1020, 0] (i.u b) slices_S1024x1024_o1020_0_S4x1024)
      shapeCasts_S4x1024_S1x4x1024⟩
/-- What batch row `b` stores into the fourth output's last four rows. -/
def q20b (b : Fin 2) : View.Piece (Elt F) S2x8x1024 .f32 :=
  ⟨Rect.unit (s := S2x8x1024) ![b.val, 4, 0] S1x4x1024.size (inb_pad4 b),
    shapeCast S1x4x1024 (broadcast S4x1024 (Scalar.ofBits .f32 0x00000000#32)) shapeCasts_S4x1024_S1x4x1024⟩
/-- What batch row `b` stores into the fifth output. -/
def q21 (b : Fin 2) : View.Piece (Elt F) S2x1x1024 .f32 :=
  ⟨Rect.unit (s := S2x1x1024) ![b.val, 0, 0] S1x1x1024.size (inb_row b),
    shapeCast S1x1x1024 (extractStridedSlice S1x1024 ![1023, 0] (i.xn b) slices_S1024x1024_o1023_0_S1x1024)
      shapeCasts_S1x1024_S1x1x1024⟩

end In

end Cert.KernelIdeal.Fold
-- ==== Proof.KBridge.lean ====
/-
  The pieces that the body's run leaves in the five output buffers are the ones that Fold writes down.
-/
module

public import proofs.«01_k».proof.Proof.KFold

@[expose] public section

set_option maxRecDepth 65536

noncomputable section

namespace Cert.KernelIdeal.Fold

open Idealize.ShloMosaic Idealize.ShloMosaic.Tactic
open Cert.KernelIdeal Cert.KernelIdeal.Gen

variable {F : FTy → Type} [FloatOps F] [Named F]

variable
  (c : Dev nD) (arg0 : Memref sig .tc .vmem S2x1024x1024 .f32) (harg0 : arg0.IsWhole) (arg1 : Memref sig .tc .vmem S2x1x1024 .f32)
  (harg1 : arg1.IsWhole) (arg2 : Memref sig .tc .vmem S1024 .f32) (harg2 : arg2.IsWhole) (arg3 : Memref sig .tc .vmem S1024 .f32)
  (harg3 : arg3.IsWhole) (arg4 : Memref sig .tc .vmem S1024x1024 .bf16) (harg4 : arg4.IsWhole) (arg5 : Memref sig .tc .vmem S1024x1024 .bf16)
  (harg5 : arg5.IsWhole) (arg6 : Memref sig .tc .vmem S256x1024 .f32) (harg6 : arg6.IsWhole) (arg7 : Memref sig .tc .vmem S256x1024 .f32)
  (harg7 : arg7.IsWhole) (arg8 : Memref sig .tc .vmem S1x16 .f32) (harg8 : arg8.IsWhole) (arg9 : Memref sig .tc .vmem S2x8x1024 .f32)
  (harg9 : arg9.IsWhole) (arg10 : Memref sig .tc .vmem S8x1024 .f32) (harg10 : arg10.IsWhole) (arg11 : Memref sig .tc .vmem S1x1024 .f32)
  (harg11 : arg11.IsWhole) (arg12 : Memref sig .tc .vmem S1x16 .f32) (harg12 : arg12.IsWhole) (arg13 : Memref sig .tc .vmem S2x16x64x64 .f32)
  (harg13 : arg13.IsWhole) (arg14 : Memref sig .tc .vmem S2x64x64 .f32) (harg14 : arg14.IsWhole) (arg15 : Memref sig .tc .vmem S1024x1024 .bf16)
  (harg15 : arg15.IsWhole) (arg16 : Memref sig .tc .vmem S1024x64 .bf16) (harg16 : arg16.IsWhole) (arg17 : Memref sig .tc .vmem S2x1024x1024 .f32)
  (harg17 : arg17.IsWhole) (arg18 : Memref sig .tc .vmem S2x16x64x64 .f32) (harg18 : arg18.IsWhole) (arg19 : Memref sig .tc .vmem S2x64x64 .f32)
  (harg19 : arg19.IsWhole) (arg20 : Memref sig .tc .vmem S2x8x1024 .f32) (harg20 : arg20.IsWhole) (arg21 : Memref sig .tc .vmem S2x1x1024 .f32)
  (harg21 : arg21.IsWhole) (arg22 : Memref sig .tc .vmem S1032x1024 .f32) (harg22 : arg22.IsWhole) (arg23 : Memref sig .tc .vmem S1024x1024 .f32)
  (harg23 : arg23.IsWhole) (arg24 : Memref sig .tc .vmem S1024x1024 .f32) (harg24 : arg24.IsWhole) (arg25 : Memref sig .tc .vmem S1024x1024 .f32)
  (harg25 : arg25.IsWhole) (arg26 : Memref sig .tc .vmem S16x64x64 .f32) (harg26 : arg26.IsWhole) (x0 : Vec F S2x1024x1024 .f32)
  (x1 : Vec F S2x1x1024 .f32) (x2 : Vec F S1024 .f32) (x3 : Vec F S1024 .f32) (x4 : Vec F S1024x1024 .bf16)
  (x5 : Vec F S1024x1024 .bf16) (x6 : Vec F S256x1024 .f32) (x7 : Vec F S256x1024 .f32) (x8 : Vec F S1x16 .f32)
  (x9 : Vec F S2x8x1024 .f32) (x10 : Vec F S8x1024 .f32) (x11 : Vec F S1x1024 .f32) (x12 : Vec F S1x16 .f32)
  (x13 : Vec F S2x16x64x64 .f32) (x14 : Vec F S2x64x64 .f32) (x15 : Vec F S1024x1024 .bf16) (x16 : Vec F S1024x64 .bf16)

/-- The blocks as the staging buffers hold them. -/
abbrev inp : In F :=
  ⟨arg0.view.read (Elt F) (harg0.unread x0), arg1.view.read (Elt F) (harg1.unread x1), arg2.view.read (Elt F) (harg2.unread x2), arg3.view.read (Elt F) (harg3.unread x3), arg4.view.read (Elt F) (harg4.unread x4), arg5.view.read (Elt F) (harg5.unread x5), arg6.view.read (Elt F) (harg6.unread x6), arg7.view.read (Elt F) (harg7.unread x7), arg8.view.read (Elt F) (harg8.unread x8), arg9.view.read (Elt F) (harg9.unread x9), arg10.view.read (Elt F) (harg10.unread x10), arg11.view.read (Elt F) (harg11.unread x11), arg12.view.read (Elt F) (harg12.unread x12), arg13.view.read (Elt F) (harg13.unread x13), arg14.view.read (Elt F) (harg14.unread x14), arg15.view.read (Elt F) (harg15.unread x15), arg16.view.read (Elt F) (harg16.unread x16), arg22, arg23, arg24, arg25, arg26⟩

/-- The body's run at these buffers and blocks. -/
abbrev run := kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16

/-- The pieces in the first output's buffer. -/
theorem run17 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16).1 =
    (let Q : In F := ⟨arg0.view.read (Elt F) (harg0.unread x0), arg1.view.read (Elt F) (harg1.unread x1), arg2.view.read (Elt F) (harg2.unread x2), arg3.view.read (Elt F) (harg3.unread x3), arg4.view.read (Elt F) (harg4.unread x4), arg5.view.read (Elt F) (harg5.unread x5), arg6.view.read (Elt F) (harg6.unread x6), arg7.view.read (Elt F) (harg7.unread x7), arg8.view.read (Elt F) (harg8.unread x8), arg9.view.read (Elt F) (harg9.unread x9), arg10.view.read (Elt F) (harg10.unread x10), arg11.view.read (Elt F) (harg11.unread x11), arg12.view.read (Elt F) (harg12.unread x12), arg13.view.read (Elt F) (harg13.unread x13), arg14.view.read (Elt F) (harg14.unread x14), arg15.view.read (Elt F) (harg15.unread x15), arg16.view.read (Elt F) (harg16.unread x16), arg22, arg23, arg24, arg25, arg26⟩
     [Q.q17 1, Q.q17 0]) := by
  sl_kernel_rfl

/-- The pieces in the second output's buffer. -/
theorem run18 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16).2.1 =
    (let Q : In F := ⟨arg0.view.read (Elt F) (harg0.unread x0), arg1.view.read (Elt F) (harg1.unread x1), arg2.view.read (Elt F) (harg2.unread x2), arg3.view.read (Elt F) (harg3.unread x3), arg4.view.read (Elt F) (harg4.unread x4), arg5.view.read (Elt F) (harg5.unread x5), arg6.view.read (Elt F) (harg6.unread x6), arg7.view.read (Elt F) (harg7.unread x7), arg8.view.read (Elt F) (harg8.unread x8), arg9.view.read (Elt F) (harg9.unread x9), arg10.view.read (Elt F) (harg10.unread x10), arg11.view.read (Elt F) (harg11.unread x11), arg12.view.read (Elt F) (harg12.unread x12), arg13.view.read (Elt F) (harg13.unread x13), arg14.view.read (Elt F) (harg14.unread x14), arg15.view.read (Elt F) (harg15.unread x15), arg16.view.read (Elt F) (harg16.unread x16), arg22, arg23, arg24, arg25, arg26⟩
     [Q.q18 1, Q.q18 0]) := by
  sl_kernel_rfl

/-- The pieces in the third output's buffer. -/
theorem run19 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16).2.2.1 =
    (let Q : In F := ⟨arg0.view.read (Elt F) (harg0.unread x0), arg1.view.read (Elt F) (harg1.unread x1), arg2.view.read (Elt F) (harg2.unread x2), arg3.view.read (Elt F) (harg3.unread x3), arg4.view.read (Elt F) (harg4.unread x4), arg5.view.read (Elt F) (harg5.unread x5), arg6.view.read (Elt F) (harg6.unread x6), arg7.view.read (Elt F) (harg7.unread x7), arg8.view.read (Elt F) (harg8.unread x8), arg9.view.read (Elt F) (harg9.unread x9), arg10.view.read (Elt F) (harg10.unread x10), arg11.view.read (Elt F) (harg11.unread x11), arg12.view.read (Elt F) (harg12.unread x12), arg13.view.read (Elt F) (harg13.unread x13), arg14.view.read (Elt F) (harg14.unread x14), arg15.view.read (Elt F) (harg15.unread x15), arg16.view.read (Elt F) (harg16.unread x16), arg22, arg23, arg24, arg25, arg26⟩
     [Q.q19 1, Q.q19 0]) := by
  sl_kernel_rfl

/-- The pieces in the fourth output's buffer. -/
theorem run20 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16).2.2.2.1 =
    (let Q : In F := ⟨arg0.view.read (Elt F) (harg0.unread x0), arg1.view.read (Elt F) (harg1.unread x1), arg2.view.read (Elt F) (harg2.unread x2), arg3.view.read (Elt F) (harg3.unread x3), arg4.view.read (Elt F) (harg4.unread x4), arg5.view.read (Elt F) (harg5.unread x5), arg6.view.read (Elt F) (harg6.unread x6), arg7.view.read (Elt F) (harg7.unread x7), arg8.view.read (Elt F) (harg8.unread x8), arg9.view.read (Elt F) (harg9.unread x9), arg10.view.read (Elt F) (harg10.unread x10), arg11.view.read (Elt F) (harg11.unread x11), arg12.view.read (Elt F) (harg12.unread x12), arg13.view.read (Elt F) (harg13.unread x13), arg14.view.read (Elt F) (harg14.unread x14), arg15.view.read (Elt F) (harg15.unread x15), arg16.view.read (Elt F) (harg16.unread x16), arg22, arg23, arg24, arg25, arg26⟩
     [In.q20b 1, Q.q20a 1, In.q20b 0, Q.q20a 0]) := by
  sl_kernel_rfl

/-- The pieces in the fifth output's buffer. -/
theorem run21 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16).2.2.2.2.1 =
    (let Q : In F := ⟨arg0.view.read (Elt F) (harg0.unread x0), arg1.view.read (Elt F) (harg1.unread x1), arg2.view.read (Elt F) (harg2.unread x2), arg3.view.read (Elt F) (harg3.unread x3), arg4.view.read (Elt F) (harg4.unread x4), arg5.view.read (Elt F) (harg5.unread x5), arg6.view.read (Elt F) (harg6.unread x6), arg7.view.read (Elt F) (harg7.unread x7), arg8.view.read (Elt F) (harg8.unread x8), arg9.view.read (Elt F) (harg9.unread x9), arg10.view.read (Elt F) (harg10.unread x10), arg11.view.read (Elt F) (harg11.unread x11), arg12.view.read (Elt F) (harg12.unread x12), arg13.view.read (Elt F) (harg13.unread x13), arg14.view.read (Elt F) (harg14.unread x14), arg15.view.read (Elt F) (harg15.unread x15), arg16.view.read (Elt F) (harg16.unread x16), arg22, arg23, arg24, arg25, arg26⟩
     [Q.q21 1, Q.q21 0]) := by
  sl_kernel_rfl

end Cert.KernelIdeal.Fold
-- ==== Proof.Recur.lean ====
module

public import Mathlib.Analysis.SpecialFunctions.Exp
public import Mathlib.Algebra.BigOperators.Fin

@[expose] public section

/-! # A decaying linear recurrence and its chunked form, over the real numbers

Both scans are, at one row and one column, the recurrence `s ← s · exp (l t) + x t · b t`. The kernel advances it a
chunk of steps at a time: with `c t` the sum of the decay exponents of the chunk up to `t`, step `t` of the chunk holds
the entry state decayed by `exp (c t)` plus every earlier input decayed by `exp (c t - c j)`. -/

noncomputable section

namespace Cert.Recur

open Finset

/-- The state after `n` steps of `s ← s · exp (l t) + x t · b t`, from `s0`. -/
def st (l x b : ℕ → ℝ) (s0 : ℝ) : ℕ → ℝ
  | 0 => s0
  | n + 1 => st l x b s0 n * Real.exp (l n) + x n * b n

/-- The recurrence continued: `m` steps and then `n` more are `n` steps of the shifted sequences from the state after
    `m`. -/
theorem st_add (l x b : ℕ → ℝ) (s0 : ℝ) (m n : ℕ) :
    st l x b s0 (m + n) = st (fun t => l (m + t)) (fun t => x (m + t)) (fun t => b (m + t)) (st l x b s0 m) n := by
  induction n with
  | zero => rfl
  | succ n ih => rw [← Nat.add_assoc, st, ih, st]

/-- The closed form: after `n` steps the entry state has decayed by the whole sum of exponents, and the input of step
    `j` by what the sum gained after `j`. -/
theorem st_closed (l x b : ℕ → ℝ) (s0 : ℝ) (n : ℕ) :
    st l x b s0 n = s0 * Real.exp (∑ k ∈ range n, l k)
      + ∑ j ∈ range n, x j * Real.exp (∑ k ∈ range n, l k - ∑ k ∈ range (j + 1), l k) * b j := by
  induction n with
  | zero => simp [st]
  | succ n ih =>
    have hterm : ∀ j, x j * Real.exp (∑ k ∈ range (n + 1), l k - ∑ k ∈ range (j + 1), l k) * b j
        = (x j * Real.exp (∑ k ∈ range n, l k - ∑ k ∈ range (j + 1), l k) * b j) * Real.exp (l n) := by
      intro j
      rw [sum_range_succ l n, show ∀ a b c : ℝ, a + b - c = (a - c) + b by intros; ring, Real.exp_add]
      ring
    rw [st, ih, sum_range_succ (fun j => x j * Real.exp (∑ k ∈ range (n + 1), l k - ∑ k ∈ range (j + 1), l k) * b j) n,
      sub_self, Real.exp_zero, sum_congr rfl (fun j _ => hterm j), ← sum_mul, sum_range_succ l n, Real.exp_add]
    ring

/-- What a step of the scan emits against a read vector, the state being one row of `N` columns: the sum over the
    columns of the state after step `t` of the chunk, as the kernel computes it, from the products of the read vector
    with the input vectors. -/
theorem emit_closed {N : ℕ} (l x : ℕ → ℝ) (b : Fin N → ℕ → ℝ) (c : Fin N → ℝ) (s0 : Fin N → ℝ) (n : ℕ) :
    ∑ k, st l x (b k) (s0 k) n * c k
      = ∑ j ∈ range n, (∑ k, c k * b k j) * Real.exp (∑ k ∈ range n, l k - ∑ k ∈ range (j + 1), l k) * x j
        + (∑ k, c k * s0 k) * Real.exp (∑ k ∈ range n, l k) := by
  simp only [st_closed, add_mul, sum_add_distrib, sum_mul]
  rw [add_comm, sum_comm]
  congr 1
  · exact sum_congr rfl fun j _ => sum_congr rfl fun k _ => by ring
  · exact sum_congr rfl fun k _ => by ring

/-- A sum over a chunk of `n` steps in which the steps after `t` count nothing is the sum up to `t`. -/
theorem sum_upto {n : ℕ} (t : Fin n) (f : ℕ → ℝ) :
    ∑ j : Fin n, (if j.val ≤ t.val then f j.val else 0) = ∑ j ∈ range (t.val + 1), f j := by
  rw [Fin.sum_univ_eq_sum_range (fun j => if j ≤ t.val then f j else 0) n, ← sum_filter]
  refine sum_congr ?_ fun _ _ => rfl
  ext j
  simp only [mem_filter, mem_range]
  omega

end Cert.Recur

end
-- ==== Proof.Spec.lean ====
/-
  What both programs compute, written at an index over the extended reals and naming neither program: the normalised
  rows, the projections, the convolution, the two recurrences step by step, and the five results.
-/
module

public import Idealize.ShloMosaic.PureOps.Ideal.Laws
public import proofs.«01_k».proof.Proof.Recur

@[expose] public section

noncomputable section

namespace Cert.Spec

open Idealize.ShloMosaic

/-- The argument arrays, by coordinates. -/
structure Args where
  x : Fin 2 → Fin 1024 → Fin 1024 → EReal
  wkv : Fin 2 → Fin 64 → Fin 64 → EReal
  xp : Fin 2 → Fin 1024 → EReal
  ssd : Fin 2 → Fin 16 → Fin 64 → Fin 64 → EReal
  conv : Fin 2 → Fin 1024 → Fin 4 → EReal
  ns : Fin 1024 → EReal
  nb : Fin 1024 → EReal
  win : Fin 2048 → Fin 1024 → EReal
  cw : Fin 1024 → Fin 4 → EReal
  cb : Fin 1024 → EReal
  wdt : Fin 16 → Fin 1024 → EReal
  dtb : Fin 16 → EReal
  alog : Fin 16 → EReal
  wB : Fin 64 → Fin 1024 → EReal
  wC : Fin 64 → Fin 1024 → EReal
  wso : Fin 1024 → Fin 1024 → EReal
  wr : Fin 64 → Fin 1024 → EReal
  wk : Fin 64 → Fin 1024 → EReal
  wv : Fin 64 → Fin 1024 → EReal
  ww : Fin 64 → Fin 1024 → EReal
  wro : Fin 1024 → Fin 64 → EReal

/-- A row number from any number. -/
def tm (n : ℕ) : Fin 1024 := ⟨n % 1024, Nat.mod_lt _ (by decide)⟩

theorem tm_val (t : Fin 1024) : tm t.val = t := Fin.ext (Nat.mod_eq_of_lt t.isLt)

/-- The mean of a row of 1024. -/
def mean (f : Fin 1024 → EReal) : EReal := Ideal.div (∑ d, f d) (Ideal.ofBits .f32 0x44800000#32)

/-- `x · 1/(1 + exp(−x))`. -/
def silu (x : EReal) : EReal := x * Ideal.div 1 (1 + Ideal.exp (-x))

/-- `log (1 + exp x)`, as both programs compute it. -/
def soft (x : EReal) : EReal := max x 0 + Ideal.log1p (Ideal.exp (-(max x (-x))))

/-- The inner product of two rows. -/
def dot {n : ℕ} (f g : Fin n → EReal) : EReal := ∑ d, f d * g d

namespace Args

variable (a : Args)

/-- A row less its mean. -/
def cent (b : Fin 2) (t d : Fin 1024) : EReal := a.x b t d - mean (a.x b t)

/-- The normalised rows. -/
def xn (b : Fin 2) (t d : Fin 1024) : EReal :=
  a.cent b t d * Ideal.rsqrt (mean (fun e => a.cent b t e * a.cent b t e) + Ideal.ofBits .f32 0x3727C5AC#32) * a.ns d + a.nb d

/-- The normalised row before row `t`. -/
def prev (b : Fin 2) (t d : Fin 1024) : EReal :=
  if t.val < 1 then a.xp b d else a.xn b ⟨t.val - 1, by omega⟩ d

/-- The token-shift mix. -/
def mix (b : Fin 2) (t d : Fin 1024) : EReal := Ideal.ofBits .f32 0x3F000000#32 * (a.xn b t d + a.prev b t d)

/-- The gate's argument. -/
def z (b : Fin 2) (t e : Fin 1024) : EReal := dot (a.xn b t) (a.win ⟨e.val, by omega⟩)

/-- The convolution's input. -/
def u (b : Fin 2) (t e : Fin 1024) : EReal := dot (a.xn b t) (a.win ⟨1024 + e.val, by omega⟩)

/-- The convolution's input with the four rows kept from before. -/
def ucat (b : Fin 2) (j : Fin 1028) (e : Fin 1024) : EReal :=
  if h : j.val < 4 then a.conv b e ⟨j.val, h⟩ else a.u b ⟨j.val - 4, by omega⟩ e

/-- One tap of the convolution. -/
def tap (b : Fin 2) (t e : Fin 1024) (k : Fin 4) : EReal := a.ucat b ⟨k.val + t.val, by omega⟩ e * a.cw e k

/-- The convolution. -/
def acc (b : Fin 2) (t e : Fin 1024) : EReal :=
  a.cb e + a.tap b t e 0 + a.tap b t e 1 + a.tap b t e 2 + a.tap b t e 3

/-- The convolution, activated. -/
def uc (b : Fin 2) (t e : Fin 1024) : EReal := silu (a.acc b t e)

/-- Head `h`'s part of it. -/
def uh (b : Fin 2) (t : Fin 1024) (h : Fin 16) (p : Fin 64) : EReal := a.uc b t ⟨64 * h.val + p.val, by omega⟩

/-- The step sizes. -/
def dt (b : Fin 2) (t : Fin 1024) (h : Fin 16) : EReal := soft (dot (a.xn b t) (a.wdt h) + a.dtb h)

/-- The decay parameters. -/
def A (h : Fin 16) : EReal := -Ideal.exp (a.alog h)

/-- What the state scan writes. -/
def Bm (b : Fin 2) (t : Fin 1024) (n : Fin 64) : EReal := dot (a.xn b t) (a.wB n)
/-- What it reads with. -/
def Cm (b : Fin 2) (t : Fin 1024) (n : Fin 64) : EReal := dot (a.xn b t) (a.wC n)
/-- What the key-value scan reads with. -/
def r (b : Fin 2) (t : Fin 1024) (j : Fin 64) : EReal := dot (a.mix b t) (a.wr j)
/-- Its keys. -/
def k (b : Fin 2) (t : Fin 1024) (j : Fin 64) : EReal := dot (a.mix b t) (a.wk j)
/-- Its values. -/
def v (b : Fin 2) (t : Fin 1024) (j : Fin 64) : EReal := dot (a.mix b t) (a.wv j)
/-- Its log decays. -/
def lw (b : Fin 2) (t : Fin 1024) (j : Fin 64) : EReal := -Ideal.exp (dot (a.mix b t) (a.ww j))

/-- The state after `t` steps. -/
def hst (b : Fin 2) (h : Fin 16) (p n : Fin 64) : ℕ → EReal
  | 0 => a.ssd b h p n
  | t + 1 => hst b h p n t * Ideal.exp (a.dt b (tm t) h * a.A h)
      + (a.dt b (tm t) h * a.uh b (tm t) h p) * a.Bm b (tm t) n

/-- The key-value state after `t` steps. -/
def sst (b : Fin 2) (i j : Fin 64) : ℕ → EReal
  | 0 => a.wkv b i j
  | t + 1 => sst b i j t * Ideal.exp (a.lw b (tm t) i) + a.v b (tm t) i * a.k b (tm t) j

/-- What the state scan emits at step `t`. -/
def ys (b : Fin 2) (t : Fin 1024) (h : Fin 16) (p : Fin 64) : EReal :=
  ∑ n, a.hst b h p n (t.val + 1) * a.Cm b t n

/-- The same, the heads side by side. -/
def ysf (b : Fin 2) (t q : Fin 1024) : EReal :=
  a.ys b t ⟨q.val / 64, by omega⟩ ⟨q.val % 64, Nat.mod_lt _ (by decide)⟩

/-- What the key-value scan emits at step `t`. -/
def yr (b : Fin 2) (t : Fin 1024) (i : Fin 64) : EReal := ∑ j, a.sst b i j (t.val + 1) * a.r b t j

/-- The first result: the residual row plus the gated output of the state scan plus the key-value scan's. -/
def x1 (b : Fin 2) (t e : Fin 1024) : EReal :=
  a.x b t e + (silu (a.z b t e) * dot (a.ysf b t) (a.wso e) + dot (a.yr b t) (a.wro e))

/-- The fourth result: the convolution's last four inputs, and four rows of zeros. -/
def tail (b : Fin 2) (j : Fin 8) (e : Fin 1024) : EReal :=
  if h : j.val < 4 then a.u b ⟨1020 + j.val, by omega⟩ e else 0

end Args

/-! ## Real values -/

/-- An extended real that is a real number. -/
def IsReal (x : EReal) : Prop := ((x.toReal : ℝ) : EReal) = x

theorem IsReal.coe (r : ℝ) : IsReal (r : EReal) := by simp [IsReal]
theorem IsReal.of_eq {x : EReal} {r : ℝ} (h : x = r) : IsReal x := h ▸ IsReal.coe r
theorem IsReal.of_ne {x : EReal} (h : x ≠ ⊤) (h' : x ≠ ⊥) : IsReal x := EReal.coe_toReal h h'
theorem IsReal.zero : IsReal 0 := IsReal.coe 0
theorem IsReal.one : IsReal 1 := IsReal.coe 1
theorem IsReal.eq {x : EReal} (h : IsReal x) : x = (x.toReal : EReal) := Eq.symm h

theorem IsReal.add {x y : EReal} (hx : IsReal x) (hy : IsReal y) : IsReal (x + y) := by
  rw [hx.eq, hy.eq, ← EReal.coe_add]; exact IsReal.coe _
theorem IsReal.sub {x y : EReal} (hx : IsReal x) (hy : IsReal y) : IsReal (x - y) := by
  rw [hx.eq, hy.eq, ← EReal.coe_sub]; exact IsReal.coe _
theorem IsReal.mul {x y : EReal} (hx : IsReal x) (hy : IsReal y) : IsReal (x * y) := by
  rw [hx.eq, hy.eq, ← EReal.coe_mul]; exact IsReal.coe _
theorem IsReal.neg {x : EReal} (hx : IsReal x) : IsReal (-x) := by
  rw [hx.eq, ← EReal.coe_neg]; exact IsReal.coe _
theorem IsReal.max {x y : EReal} (hx : IsReal x) (hy : IsReal y) : IsReal (max x y) := by
  rcases max_choice x y with h | h <;> rw [h] <;> assumption
theorem IsReal.exp {x : EReal} (hx : IsReal x) : IsReal (Ideal.exp x) := by
  rw [hx.eq, Ideal.exp_coe]; exact IsReal.coe _

/-- A finite sum of reals, as a real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem IsReal.sum {ι : Type} {s : Finset ι} {f : ι → EReal} (h : ∀ i, IsReal (f i)) : IsReal (∑ i ∈ s, f i) := by
  rw [Finset.sum_congr rfl fun i _ => (h i).eq, ← coe_sum]; exact IsReal.coe _

theorem IsReal.dot {n : ℕ} {f g : Fin n → EReal} (hf : ∀ i, IsReal (f i)) (hg : ∀ i, IsReal (g i)) :
    IsReal (dot f g) := IsReal.sum fun i => (hf i).mul (hg i)

/-- The word of 1024. -/
theorem ofBits_1024 : Ideal.ofBits .f32 0x44800000#32 = ((1024 : ℝ) : EReal) := by
  simp [Ideal.ofBits, Ideal.ieee, -EReal.coe_mul]; norm_num
/-- The word of the norm's small constant, a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num
/-- The word of one half is a real. -/
theorem ofBits_half : IsReal (Ideal.ofBits .f32 0x3F000000#32) := by
  refine IsReal.of_eq (r := 1 / 2) ?_
  simp [Ideal.ofBits, Ideal.ieee, -EReal.coe_mul]; norm_num

/-- A mean of reals is a real, and not below 0 if none of them is. -/
theorem mean_eq {f : Fin 1024 → EReal} (h : ∀ d, IsReal (f d)) :
    mean f = (((∑ d, (f d).toReal) * (1 / 1024) : ℝ) : EReal) := by
  rw [mean, ofBits_1024, Ideal.div_coe (by norm_num), Finset.sum_congr rfl fun d _ => (h d).eq, ← coe_sum, ← EReal.coe_mul]

theorem IsReal.mean {f : Fin 1024 → EReal} (h : ∀ d, IsReal (f d)) : IsReal (mean f) := .of_eq (mean_eq h)

/-- The reciprocal root of a mean of squares plus the small constant is a real. -/
theorem IsReal.rsqrt {f : Fin 1024 → EReal} (h : ∀ d, IsReal (f d)) :
    IsReal (Ideal.rsqrt (Spec.mean (fun d => f d * f d) + Ideal.ofBits .f32 0x3727C5AC#32)) := by
  obtain ⟨e, he, hb⟩ := ofBits_eps
  rw [mean_eq fun d => (h d).mul (h d), hb, ← EReal.coe_add, Ideal.rsqrt_coe]
  have hs : 0 ≤ ∑ d, (f d * f d).toReal := Finset.sum_nonneg fun d _ => by
    rw [EReal.toReal_mul]; exact mul_self_nonneg _
  have : 0 < (∑ d, (f d * f d).toReal) * (1 / 1024) + e := by positivity
  rw [if_neg (not_lt.2 this.le), if_neg this.ne']
  exact IsReal.coe _

theorem IsReal.silu {x : EReal} (h : IsReal x) : IsReal (Spec.silu x) := by
  unfold Spec.silu
  refine h.mul ?_
  rw [h.eq, ← EReal.coe_neg, Ideal.exp_coe, ← EReal.coe_one, ← EReal.coe_add,
    Ideal.div_coe (by positivity), ← EReal.coe_mul]
  exact IsReal.coe _

theorem IsReal.soft {x : EReal} (h : IsReal x) : IsReal (Spec.soft x) := by
  unfold Spec.soft
  refine (h.max .zero).add ?_
  have := (h.max h.neg).neg
  rw [this.eq, Ideal.exp_coe, Ideal.log1p, ← EReal.coe_one, ← EReal.coe_add, Ideal.log_coe, if_neg (not_le.2 (by positivity))]
  exact IsReal.coe _

namespace Args

/-- Every array that a scan depends on holds real numbers. -/
structure Fin (a : Args) : Prop where
  x : ∀ b t d, IsReal (a.x b t d)
  wkv : ∀ b i j, IsReal (a.wkv b i j)
  xp : ∀ b d, IsReal (a.xp b d)
  ssd : ∀ b h p n, IsReal (a.ssd b h p n)
  conv : ∀ b e k, IsReal (a.conv b e k)
  ns : ∀ d, IsReal (a.ns d)
  nb : ∀ d, IsReal (a.nb d)
  win : ∀ e d, IsReal (a.win e d)
  cw : ∀ e k, IsReal (a.cw e k)
  cb : ∀ e, IsReal (a.cb e)
  wdt : ∀ h d, IsReal (a.wdt h d)
  dtb : ∀ h, IsReal (a.dtb h)
  alog : ∀ h, IsReal (a.alog h)
  wB : ∀ n d, IsReal (a.wB n d)
  wC : ∀ n d, IsReal (a.wC n d)
  wr : ∀ n d, IsReal (a.wr n d)
  wk : ∀ n d, IsReal (a.wk n d)
  wv : ∀ n d, IsReal (a.wv n d)
  ww : ∀ n d, IsReal (a.ww n d)

variable {a : Args} (ha : a.Fin)
include ha

theorem Fin.r_cent (b t d) : IsReal (a.cent b t d) := (ha.x b t d).sub (.mean (ha.x b t))
theorem Fin.r_xn (b t d) : IsReal (a.xn b t d) :=
  (((ha.r_cent b t d).mul (.rsqrt (ha.r_cent b t))).mul (ha.ns d)).add (ha.nb d)
theorem Fin.r_prev (b t d) : IsReal (a.prev b t d) := by
  unfold Args.prev; split
  · exact ha.xp b d
  · exact ha.r_xn _ _ _
theorem Fin.r_mix (b t d) : IsReal (a.mix b t d) := ofBits_half.mul ((ha.r_xn b t d).add (ha.r_prev b t d))
theorem Fin.r_u (b t e) : IsReal (a.u b t e) := .dot (ha.r_xn b t) (ha.win _)
theorem Fin.r_ucat (b j e) : IsReal (a.ucat b j e) := by
  unfold Args.ucat; split
  · exact ha.conv _ _ _
  · exact ha.r_u _ _ _
theorem Fin.r_tap (b t e k) : IsReal (a.tap b t e k) := (ha.r_ucat _ _ _).mul (ha.cw _ _)
theorem Fin.r_acc (b t e) : IsReal (a.acc b t e) :=
  (((((ha.cb e).add (ha.r_tap _ _ _ _)).add (ha.r_tap _ _ _ _)).add (ha.r_tap _ _ _ _)).add (ha.r_tap _ _ _ _))
theorem Fin.r_uh (b t h p) : IsReal (a.uh b t h p) := (ha.r_acc _ _ _).silu
theorem Fin.r_dt (b t h) : IsReal (a.dt b t h) := ((IsReal.dot (ha.r_xn b t) (ha.wdt h)).add (ha.dtb h)).soft
theorem Fin.r_A (h) : IsReal (a.A h) := (ha.alog h).exp.neg
theorem Fin.r_Bm (b t n) : IsReal (a.Bm b t n) := .dot (ha.r_xn b t) (ha.wB n)
theorem Fin.r_Cm (b t n) : IsReal (a.Cm b t n) := .dot (ha.r_xn b t) (ha.wC n)
theorem Fin.r_r (b t n) : IsReal (a.r b t n) := .dot (ha.r_mix b t) (ha.wr n)
theorem Fin.r_k (b t n) : IsReal (a.k b t n) := .dot (ha.r_mix b t) (ha.wk n)
theorem Fin.r_v (b t n) : IsReal (a.v b t n) := .dot (ha.r_mix b t) (ha.wv n)
theorem Fin.r_lw (b t n) : IsReal (a.lw b t n) := (IsReal.dot (ha.r_mix b t) (ha.ww n)).exp.neg

/-- The state after `t` steps is the real recurrence's. -/
theorem Fin.hst_eq (b h p n) (t : ℕ) : a.hst b h p n t = (Recur.st (fun t => (a.dt b (tm t) h).toReal * (a.A h).toReal)
    (fun t => (a.dt b (tm t) h).toReal * (a.uh b (tm t) h p).toReal) (fun t => (a.Bm b (tm t) n).toReal)
    (a.ssd b h p n).toReal t : ℝ) := by
  induction t with
  | zero => exact (ha.ssd b h p n).eq
  | succ t ih =>
    rw [Args.hst, ih, (ha.r_dt b (tm t) h).eq, (ha.r_A h).eq, (ha.r_uh b (tm t) h p).eq, (ha.r_Bm b (tm t) n).eq,
      ← EReal.coe_mul, Ideal.exp_coe, Recur.st]
    push_cast
    simp

/-- The key-value state after `t` steps is the real recurrence's. -/
theorem Fin.sst_eq (b i j) (t : ℕ) : a.sst b i j t = (Recur.st (fun t => (a.lw b (tm t) i).toReal)
    (fun t => (a.v b (tm t) i).toReal) (fun t => (a.k b (tm t) j).toReal) (a.wkv b i j).toReal t : ℝ) := by
  induction t with
  | zero => exact (ha.wkv b i j).eq
  | succ t ih =>
    rw [Args.sst, ih, (ha.r_lw b (tm t) i).eq, (ha.r_v b (tm t) i).eq, (ha.r_k b (tm t) j).eq, Ideal.exp_coe, Recur.st]
    push_cast
    simp

theorem Fin.r_hst (b h p n t) : IsReal (a.hst b h p n t) := .of_eq (ha.hst_eq b h p n t)
theorem Fin.r_sst (b i j t) : IsReal (a.sst b i j t) := .of_eq (ha.sst_eq b i j t)

end Args

end Cert.Spec
-- ==== Proof.KPure.lean ====
/-
  The kernel body's pure steps read at an index, over the extended reals.
-/
module

public import proofs.«01_k».proof.Proof.KFold
public import proofs.«01_k».proof.Proof.Spec
public import Idealize.ShloMosaic.Lib.Pointwise
public import Idealize.ShloMosaic.Lib.WordCmp

@[expose] public section

set_option maxRecDepth 16384

noncomputable section

namespace Cert.KernelIdeal.Fold

open Idealize.ShloMosaic
open Cert.KernelIdeal Cert.KernelIdeal.Gen

/-- Coordinates below 2³¹ compare as their numbers do. -/
theorem sge_ofNat {i j : ℕ} (hi : i < 128) (hj : j < 128) :
    IntOp.cmpi .sge (BitVec.ofNat 32 i) (BitVec.ofNat 32 j) = BitVec.ofBool (decide (j ≤ i)) :=
  WordCmp.cmpi_sge_ofNat (by omega) (by omega)

/-- The named mask is minus infinity. -/
theorem mask_eq : Named.named (F := Ideal) κ "mask" (φ := .f32) 0xF149F2CA#32 = (⊥ : EReal) :=
  IdealRules.named_const.ideal_named_scalar _ _ _ _ rfl

/-- The exponential of a value masked to minus infinity is the exponential or 0. -/
theorem exp_mask (p : Prop) [Decidable p] (x : EReal) :
    Ideal.exp (if p then x else ⊥) = if p then Ideal.exp x else 0 := by
  split <;> simp

/-- A comparison's bit, widened and read as a float, is 1 or 0. -/
theorem bit_float (p : Prop) [Decidable p] :
    FloatOps.sitofp (F := Ideal) .f32 (BitVec.setWidth 32 (BitVec.ofBool (decide p))) = if p then (1 : EReal) else 0 := by
  by_cases h : p <;> simp [h, FloatOps.sitofp]

theorem mean_at (x : FVec Ideal S1024x1024 .f32) (t : Fin 1024) (o : Fin 1) :
    mean x (ix2 t o) = Spec.mean fun d => x (ix2 t d) := by
  pointwise [mean, Spec.mean]

theorem cent_at (x : FVec Ideal S1024x1024 .f32) (t d : Fin 1024) :
    cent x (ix2 t d) = x (ix2 t d) - Spec.mean fun d => x (ix2 t d) := by
  pointwise [cent, mean_at]

theorem norm_at (g b : Vec Ideal S1024 .f32) (x : FVec Ideal S1024x1024 .f32) (t d : Fin 1024) :
    norm g b x (ix2 t d) = cent x (ix2 t d) * Ideal.rsqrt (Spec.mean (fun e => cent x (ix2 t e) * cent x (ix2 t e))
      + Ideal.ofBits .f32 0x3727C5AC#32) * g (ix1 d) + b (ix1 d) := by
  pointwise [norm, mean_at]

theorem mixed_at (p : FVec Ideal S1x1024 .f32) (x : FVec Ideal S1024x1024 .f32) (t d : Fin 1024) :
    mixed p x (ix2 t d) = Ideal.ofBits .f32 0x3F000000#32 * (x (ix2 t d) +
      if h : t.val < 1 then p (ix2 0 d) else x (ix2 ⟨t.val - 1, by omega⟩ d)) := by
  pointwise [mixed]
  split
  · rename_i h
    rw [show (⟨t.val, h⟩ : Fin 1) = 0 from Subsingleton.elim _ _]
  · rfl

theorem wide_at (x : FVec Ideal S1024x1024 .f32) (w : Vec Ideal S1024x1024 .bf16) (t e : Fin 1024) :
    wide x w (ix2 t e) = ∑ d : Fin 1024, x (ix2 t d) * w (ix2 e d) := by
  pointwise [wide]

theorem narrow_at (x : FVec Ideal S1024x1024 .f32) (w : Vec Ideal S256x1024 .f32) (t : Fin 1024) (e : Fin 256) :
    narrow x w (ix2 t e) = ∑ d : Fin 1024, x (ix2 t d) * w (ix2 e d) := by
  pointwise [narrow]

theorem dtArg_at (p : FVec Ideal S1024x256 .f32) (bias : Vec Ideal S1x16 .f32) (t : Fin 1024) (h : Fin 16) :
    dtArg p bias (ix2 t h) = p (ix2 t ⟨128 + h.val, by omega⟩) + bias (ix2 0 h) := by
  pointwise [dtArg]

theorem soft_at (x : FVec Ideal S1024x16 .f32) (j : S1024x16.Idx) : soft x j = Spec.soft (x j) := by
  pointwise [soft, Spec.soft]
  rw [if_neg (by simp), zero_sub, Ideal.absf_def]

theorem silu_at (x : FVec Ideal S1024x1024 .f32) (j : S1024x1024.Idx) : silu x j = Spec.silu (x j) := by
  pointwise [silu, Spec.silu]
  rw [zero_sub]

theorem tap_at (e : Vec Ideal S1024x1024 .f32) (w : Vec Ideal S1x1024 .f32) (t d : Fin 1024) :
    tap e w (ix2 t d) = e (ix2 t d) * w (ix2 0 d) := by
  pointwise [tap]

theorem trif_at (i j : Fin 128) : trif (F := Ideal) (ix2 i j) = if j.val ≤ i.val then 1 else 0 := by
  pointwise [trif, tri]
  rw [sge_ofNat i.isLt j.isLt, bit_float]

theorem cum_at (d : FVec Ideal S128x16 .f32) (i : Fin 128) (h : Fin 16) :
    cum d (ix2 i h) = ∑ j : Fin 128, trif (F := Ideal) (ix2 i j) * d (ix2 j h) := by
  pointwise [cum]

theorem tot_at (d : FVec Ideal S128x16 .f32) (o : Fin 1) (h : Fin 16) : tot d (ix2 o h) = cum d (ix2 127 h) := by
  pointwise [tot]

theorem e0_at (A : FVec Ideal S1x16 .f32) (d : FVec Ideal S128x16 .f32) (i : Fin 128) (h : Fin 16) :
    e0 A d (ix2 i h) = Ideal.exp (cum d (ix2 i h) * A (ix2 0 h)) := by
  pointwise [e0]

theorem w0_at (A : FVec Ideal S1x16 .f32) (d : FVec Ideal S128x16 .f32) (i : Fin 128) (h : Fin 16) :
    w0 A d (ix2 i h) = Ideal.exp ((cum d (ix2 127 h) - cum d (ix2 i h)) * A (ix2 0 h)) * d (ix2 i h) := by
  pointwise [w0, tot_at]

theorem dv_at (A : FVec Ideal S1x16 .f32) (d : FVec Ideal S128x16 .f32) (o : Fin 1) (h : Fin 16) :
    dv A d (ix2 o h) = Ideal.exp (cum d (ix2 127 h) * A (ix2 o h)) := by
  pointwise [dv, tot_at]

theorem cb_at (B C : FVec Ideal S128x64 .f32) (i j : Fin 128) :
    cb B C (ix2 i j) = ∑ n : Fin 64, C (ix2 i n) * B (ix2 j n) := by
  pointwise [cb]

theorem gg_at (A : FVec Ideal S1x16 .f32) (d : FVec Ideal S128x16 .f32) (h : Fin 16) (i j : Fin 128) :
    gg A d h (ix2 i j) = (if j.val ≤ i.val then Ideal.exp ((cum d (ix2 i h) - cum d (ix2 j h)) * A (ix2 0 h)) else 0)
      * d (ix2 j h) := by
  pointwise [gg, tri]
  rw [sge_ofNat i.isLt j.isLt, mask_eq, Scalar.select_decide, exp_mask]

theorem yy_at (A : FVec Ideal S1x16 .f32) (d : FVec Ideal S128x16 .f32) (B C : FVec Ideal S128x64 .f32) (h : Fin 16)
    (u : Vec Ideal S128x64 .f32) (s : FVec Ideal S64x64 .f32) (i : Fin 128) (p : Fin 64) :
    yy A d B C h u s (ix2 i p) = (∑ j : Fin 128, (cb B C (ix2 i j) * gg A d h (ix2 i j)) * u (ix2 j p))
      + (∑ n : Fin 64, C (ix2 i n) * s (ix2 p n)) * e0 A d (ix2 i h) := by
  pointwise [yy]

theorem ss_at (A : FVec Ideal S1x16 .f32) (d : FVec Ideal S128x16 .f32) (B : FVec Ideal S128x64 .f32) (h : Fin 16)
    (u : Vec Ideal S128x64 .f32) (s : FVec Ideal S64x64 .f32) (p n : Fin 64) :
    ss A d B h u s (ix2 p n) = s (ix2 p n) * dv A d (ix2 0 h)
      + ∑ j : Fin 128, (u (ix2 j p) * w0 A d (ix2 j h)) * B (ix2 j n) := by
  pointwise [ss]

theorem cat16_at (y : Fin 16 → FVec Ideal S128x64 .f32) (i : Fin 128) (q : Fin 1024) :
    cat16 y (ix2 i q) = y ⟨q.val / 64, by omega⟩ (ix2 i ⟨q.val % 64, Nat.mod_lt _ (by decide)⟩) :=
  concatenate_ofFn_apply (t := S128x1024) (s₁ := S128x64) 1 (N := 16) y
    concatenates_S128x64_S128x64_S128x64_S128x64_S128x64_S128x64_S128x64_S128x64_S128x64_S128x64_S128x64_S128x64_S128x64_S128x64_S128x64_S128x64_S128x1024_d1
    rfl 64 rfl (ix2 i q) ⟨q.val / 64, by omega⟩ rfl (ix2 i ⟨q.val % 64, Nat.mod_lt _ (by decide)⟩) rfl
    (fun b hb => by match b with | ⟨0, _⟩ => rfl | ⟨1, _⟩ => exact absurd rfl hb)

theorem stack16_at (s : Fin 16 → FVec Ideal S64x64 .f32) (h : Fin 16) (p n : Fin 64) :
    stack16 s (ix3 h p n) = s h (ix2 p n) := by
  have e := concatenate_ofFn_apply (t := S16x64x64) (s₁ := S1x64x64) 0 (N := 16)
    (fun h => shapeCast S1x64x64 (s h) shapeCasts_S64x64_S1x64x64)
    concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0
    rfl 1 rfl (ix3 h p n) h (Nat.div_one _) (ix3 0 p n) (Nat.mod_one _).symm
    (fun b hb => by match b with | ⟨0, _⟩ => exact absurd rfl hb | ⟨1, _⟩ => rfl | ⟨2, _⟩ => rfl)
  refine e.trans ?_
  pointwise

theorem trir_at (i j : Fin 32) : trir (F := Ideal) (ix2 i j) = if j.val ≤ i.val then 1 else 0 := by
  pointwise [trir]
  rw [sge_ofNat (by omega) (by omega), bit_float]

theorem rows_at (x : FVec Ideal S1024x64 .f32) (c : Fin 32) (i : Fin 32) (j : Fin 64) :
    rows x c (ix2 i j) = x (ix2 ⟨32 * c.val + i.val, by omega⟩ j) := by
  pointwise [rows]

theorem el_at (l : FVec Ideal S32x64 .f32) (i : Fin 32) (p : Fin 64) :
    el l (ix2 i p) = ∑ j : Fin 32, trir (F := Ideal) (ix2 i j) * l (ix2 j p) := by
  pointwise [el]

theorem pd_at (l : FVec Ideal S32x64 .f32) (i j : Fin 32) (p : Fin 64) :
    pd l (ix3 i j p) = if j.val ≤ i.val then Ideal.exp (el l (ix2 i p) - el l (ix2 j p)) else 0 := by
  pointwise [pd, tri3]
  rw [sge_ofNat (by omega) (by omega), mask_eq, Scalar.select_decide, exp_mask]

theorem yk_at (l r k v : FVec Ideal S32x64 .f32) (s : FVec Ideal S64x64 .f32) (i : Fin 32) (p : Fin 64) :
    yk l r k v s (ix2 i p) = (∑ j : Fin 32, (pd l (ix3 i j p) * ∑ n : Fin 64, r (ix2 i n) * k (ix2 j n)) * v (ix2 j p))
      + (∑ n : Fin 64, r (ix2 i n) * s (ix2 p n)) * Ideal.exp (el l (ix2 i p)) := by
  pointwise [yk]

theorem sk_at (l k v : FVec Ideal S32x64 .f32) (s : FVec Ideal S64x64 .f32) (p n : Fin 64) :
    sk l k v s (ix2 p n) = s (ix2 p n) * Ideal.exp (el l (ix2 31 p))
      + ∑ j : Fin 32, (v (ix2 j p) * Ideal.exp (el l (ix2 31 p) - el l (ix2 j p))) * k (ix2 j n) := by
  pointwise [sk]

theorem cat32_at (y : Fin 32 → FVec Ideal S32x64 .f32) (t : Fin 1024) (i : Fin 64) :
    cat32 y (ix2 t i) = y ⟨t.val / 32, by omega⟩ (ix2 ⟨t.val % 32, Nat.mod_lt _ (by decide)⟩ i) :=
  concatenate_ofFn_apply (t := S1024x64) (s₁ := S32x64) 0 (N := 32) y
    concatenates_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S32x64_S1024x64_d0
    rfl 32 rfl (ix2 t i) ⟨t.val / 32, by omega⟩ rfl (ix2 ⟨t.val % 32, Nat.mod_lt _ (by decide)⟩ i) rfl
    (fun b hb => by match b with | ⟨0, _⟩ => exact absurd rfl hb | ⟨1, _⟩ => rfl)

end Cert.KernelIdeal.Fold
-- ==== Proof.KChunk.lean ====
/-
  A chunk of each scan over real values is the step-by-step recurrence.
-/
module

public import proofs.«01_k».proof.Proof.KPure

@[expose] public section

set_option maxRecDepth 16384

noncomputable section

namespace Cert.KernelIdeal.Fold

open Idealize.ShloMosaic
open Cert.KernelIdeal Cert.KernelIdeal.Gen
open Finset

/-- A sum of reals against the lower triangle of ones is the sum up to the row. -/
theorem sum_tri {n : ℕ} (i : Fin n) (f : ℕ → ℝ) :
    ∑ j : Fin n, (if j.val ≤ i.val then (1 : EReal) else 0) * (f j.val : EReal) = ((∑ j ∈ range (i.val + 1), f j : ℝ) : EReal) := by
  rw [← Recur.sum_upto i f, Spec.coe_sum]
  refine sum_congr rfl fun j _ => ?_
  split <;> simp

/-- An inner product of reals. -/
theorem dot_real {ι : Type} [Fintype ι] {f g : ι → EReal} {F G : ι → ℝ} (hf : ∀ n, f n = (F n : EReal))
    (hg : ∀ n, g n = (G n : EReal)) : ∑ n, f n * g n = ((∑ n, F n * G n : ℝ) : EReal) := by
  rw [Spec.coe_sum]
  exact sum_congr rfl fun n _ => by rw [hf, hg, EReal.coe_mul]

section State

variable (A : FVec Ideal S1x16 .f32) (d : FVec Ideal S128x16 .f32) (B C : FVec Ideal S128x64 .f32) (h : Fin 16)
  (u : Vec Ideal S128x64 .f32) (s : FVec Ideal S64x64 .f32) {D U : ℕ → ℝ} {α : ℝ}
  (hA : A (ix2 0 h) = (α : EReal)) (hd : ∀ j : Fin 128, d (ix2 j h) = (D j.val : EReal))

include hd in
theorem cum_real (i : Fin 128) : cum d (ix2 i h) = ((∑ j ∈ range (i.val + 1), D j : ℝ) : EReal) := by
  rw [cum_at, ← sum_tri]
  exact sum_congr rfl fun j _ => by rw [trif_at, hd]

include hA hd in
/-- The state after a chunk of 128 steps. -/
theorem ss_real {Bn : ℕ → ℝ} {σ : ℝ} (p n : Fin 64) (hu : ∀ j : Fin 128, u (ix2 j p) = (U j.val : EReal))
    (hB : ∀ j : Fin 128, B (ix2 j n) = (Bn j.val : EReal)) (hs : s (ix2 p n) = (σ : EReal)) :
    ss A d B h u s (ix2 p n) = (Recur.st (fun t => D t * α) (fun t => D t * U t) Bn σ 128 : ℝ) := by
  rw [ss_at, Recur.st_closed, ← Fin.sum_univ_eq_sum_range (fun j => (D j * U j) *
    Real.exp (∑ k ∈ range 128, D k * α - ∑ k ∈ range (j + 1), D k * α) * Bn j), EReal.coe_add, Spec.coe_sum, hs, dv_at, hA]
  congr 1
  · rw [cum_real d h hd, ← EReal.coe_mul, Ideal.exp_coe, ← EReal.coe_mul, sum_mul]
    rfl
  · refine sum_congr rfl fun j _ => ?_
    rw [w0_at, hA, cum_real d h hd, cum_real d h hd, hd, hu, hB, ← EReal.coe_sub, ← EReal.coe_mul, Ideal.exp_coe,
      ← EReal.coe_mul, ← EReal.coe_mul, ← EReal.coe_mul]
    congr 1
    rw [sub_mul, sum_mul, sum_mul]
    simp only [Fin.reduceFinMk, Fin.isValue, show ((127 : Fin 128) : ℕ) + 1 = 128 from rfl]
    ring

include hA hd in
/-- What row `i` of a chunk emits. -/
theorem yy_real {Bn : Fin 64 → ℕ → ℝ} {Cn σ : Fin 64 → ℝ} (i : Fin 128) (p : Fin 64)
    (hu : ∀ j : Fin 128, u (ix2 j p) = (U j.val : EReal))
    (hB : ∀ (j : Fin 128) n, B (ix2 j n) = (Bn n j.val : EReal)) (hC : ∀ n, C (ix2 i n) = (Cn n : EReal))
    (hs : ∀ n, s (ix2 p n) = (σ n : EReal)) :
    yy A d B C h u s (ix2 i p)
      = ((∑ n, Recur.st (fun t => D t * α) (fun t => D t * U t) (Bn n) (σ n) (i.val + 1) * Cn n : ℝ) : EReal) := by
  rw [yy_at, Recur.emit_closed, ← Recur.sum_upto i (fun j => (∑ k, Cn k * Bn k j) *
    Real.exp (∑ k ∈ range (i.val + 1), D k * α - ∑ k ∈ range (j + 1), D k * α) * (D j * U j)), EReal.coe_add, Spec.coe_sum]
  congr 1
  · refine sum_congr rfl fun j _ => ?_
    rw [cb_at, gg_at, hA, cum_real d h hd, cum_real d h hd, hd, hu, dot_real hC (hB j)]
    split
    · rw [← EReal.coe_sub, ← EReal.coe_mul, Ideal.exp_coe, ← EReal.coe_mul, ← EReal.coe_mul, ← EReal.coe_mul]
      congr 1
      rw [sub_mul, sum_mul (range (i.val + 1)) D α, sum_mul (range (j.val + 1)) D α]
      ring
    · simp
  · rw [e0_at, hA, cum_real d h hd, dot_real hC hs, ← EReal.coe_mul, Ideal.exp_coe, ← EReal.coe_mul,
      sum_mul (range (i.val + 1)) D α]

end State

section KeyValue

variable (l r k v : FVec Ideal S32x64 .f32) (s : FVec Ideal S64x64 .f32) {L V : ℕ → ℝ} (p : Fin 64)
  (hl : ∀ j : Fin 32, l (ix2 j p) = (L j.val : EReal)) (hv : ∀ j : Fin 32, v (ix2 j p) = (V j.val : EReal))

include hl in
theorem el_real (i : Fin 32) : el l (ix2 i p) = ((∑ j ∈ range (i.val + 1), L j : ℝ) : EReal) := by
  rw [el_at, ← sum_tri]
  exact sum_congr rfl fun j _ => by rw [trir_at, hl]

include hl hv in
/-- The key-value state after a chunk of 32 steps. -/
theorem sk_real {K : ℕ → ℝ} {σ : ℝ} (n : Fin 64) (hk : ∀ j : Fin 32, k (ix2 j n) = (K j.val : EReal))
    (hs : s (ix2 p n) = (σ : EReal)) :
    sk l k v s (ix2 p n) = (Recur.st L V K σ 32 : ℝ) := by
  rw [sk_at, Recur.st_closed, ← Fin.sum_univ_eq_sum_range (fun j => V j *
    Real.exp (∑ k ∈ range 32, L k - ∑ k ∈ range (j + 1), L k) * K j), EReal.coe_add, Spec.coe_sum, hs]
  congr 1
  · rw [el_real l p hl, Ideal.exp_coe, ← EReal.coe_mul]
    rfl
  · refine sum_congr rfl fun j _ => ?_
    rw [el_real l p hl, el_real l p hl, hv, hk, ← EReal.coe_sub, Ideal.exp_coe, ← EReal.coe_mul, ← EReal.coe_mul]
    rfl

include hl hv in
/-- What row `i` of a chunk emits. -/
theorem yk_real {K : Fin 64 → ℕ → ℝ} {R σ : Fin 64 → ℝ} (i : Fin 32)
    (hk : ∀ (j : Fin 32) n, k (ix2 j n) = (K n j.val : EReal)) (hr : ∀ n, r (ix2 i n) = (R n : EReal))
    (hs : ∀ n, s (ix2 p n) = (σ n : EReal)) :
    yk l r k v s (ix2 i p) = ((∑ n, Recur.st L V (K n) (σ n) (i.val + 1) * R n : ℝ) : EReal) := by
  rw [yk_at, Recur.emit_closed, ← Recur.sum_upto i (fun j => (∑ k, R k * K k j) *
    Real.exp (∑ k ∈ range (i.val + 1), L k - ∑ k ∈ range (j + 1), L k) * V j), EReal.coe_add, Spec.coe_sum]
  congr 1
  · refine sum_congr rfl fun j _ => ?_
    rw [pd_at, el_real l p hl, el_real l p hl, hv, dot_real hr (hk j)]
    split
    · rw [← EReal.coe_sub, Ideal.exp_coe, ← EReal.coe_mul, ← EReal.coe_mul]
      congr 1
      ring
    · simp
  · rw [el_real l p hl, dot_real hr hs, Ideal.exp_coe, ← EReal.coe_mul]

end KeyValue

end Cert.KernelIdeal.Fold
-- ==== Proof.KRead.lean ====
/-
  The kernel body's projections, its convolution and the scans' inputs as values of the arguments.
-/
module

public import proofs.«01_k».proof.Proof.KChunk
public import Idealize.ShloMosaic.Lib.Pipeline.ValueKit.Tiles

@[expose] public section

set_option maxRecDepth 16384

noncomputable section

namespace Cert.KernelIdeal.Fold

open Idealize.ShloMosaic Idealize.ShloMosaic.View
open Cert.KernelIdeal Cert.KernelIdeal.Gen

/-- The blocks that the body reads hold the arguments: as they are, rounded, stacked, transposed or padded. -/
structure Of (i : In Ideal) (a : Spec.Args) : Prop where
  x0 : ∀ (b : Fin 2) (t d : Fin 1024), i.x0 (ix3 b t d) = a.x b t d
  x1 : ∀ (b : Fin 2) (d : Fin 1024), i.x1 (ix3 b 0 d) = a.xp b d
  x2 : ∀ d : Fin 1024, i.x2 (ix1 d) = a.ns d
  x3 : ∀ d : Fin 1024, i.x3 (ix1 d) = a.nb d
  x4 : ∀ e d : Fin 1024, i.x4 (ix2 e d) = a.win ⟨e.val, by omega⟩ d
  x5 : ∀ e d : Fin 1024, i.x5 (ix2 e d) = a.win ⟨1024 + e.val, by omega⟩ d
  x6b : ∀ (n : Fin 64) (d : Fin 1024), i.x6 (ix2 ⟨n.val, by omega⟩ d) = a.wB n d
  x6c : ∀ (n : Fin 64) (d : Fin 1024), i.x6 (ix2 ⟨64 + n.val, by omega⟩ d) = a.wC n d
  x6d : ∀ (h : Fin 16) (d : Fin 1024), i.x6 (ix2 ⟨128 + h.val, by omega⟩ d) = a.wdt h d
  x7r : ∀ (n : Fin 64) (d : Fin 1024), i.x7 (ix2 ⟨n.val, by omega⟩ d) = a.wr n d
  x7k : ∀ (n : Fin 64) (d : Fin 1024), i.x7 (ix2 ⟨64 + n.val, by omega⟩ d) = a.wk n d
  x7v : ∀ (n : Fin 64) (d : Fin 1024), i.x7 (ix2 ⟨128 + n.val, by omega⟩ d) = a.wv n d
  x7w : ∀ (n : Fin 64) (d : Fin 1024), i.x7 (ix2 ⟨192 + n.val, by omega⟩ d) = a.ww n d
  x8 : ∀ h : Fin 16, i.x8 (ix2 0 h) = a.dtb h
  x9 : ∀ (b : Fin 2) (j : Fin 4) (e : Fin 1024), i.x9 (ix3 b ⟨4 + j.val, by omega⟩ e) = a.conv b e j
  x10 : ∀ (k : Fin 4) (e : Fin 1024), i.x10 (ix2 ⟨k.val, by omega⟩ e) = a.cw e k
  x11 : ∀ e : Fin 1024, i.x11 (ix2 0 e) = a.cb e
  x12 : ∀ h : Fin 16, i.x12 (ix2 0 h) = a.alog h
  x13 : ∀ (b : Fin 2) (h : Fin 16) (p n : Fin 64), i.x13 (ix4 b h p n) = a.ssd b h p n
  x14 : ∀ (b : Fin 2) (p n : Fin 64), i.x14 (ix3 b p n) = a.wkv b p n
  x15 : ∀ e q : Fin 1024, i.x15 (ix2 e q) = a.wso e q
  x16 : ∀ (e : Fin 1024) (p : Fin 64), i.x16 (ix2 e p) = a.wro e p

/-- One matrix of a stack, loaded and its unit axis dropped, at an index. -/
theorem ld_row {α : EltTy → Type} {e : EltTy} {g m n : ℕ} (X : (⟨3, ![g, m, n]⟩ : Shape).Idx → α e) (b : Fin g)
    (inb : ∀ a, (![b.val, 0, 0] : Fin 3 → ℕ) a + (⟨3, ![1, m, n]⟩ : Shape).size a ≤ (⟨3, ![g, m, n]⟩ : Shape).size a)
    (h : (⟨3, ![1, m, n]⟩ : Shape).ShapeCasts ⟨2, ![m, n]⟩) (t : Fin m) (d : Fin n) :
    shapeCast ⟨2, ![m, n]⟩ (View.ld X (Rect.unit (s := ⟨3, ![g, m, n]⟩) ![b.val, 0, 0] (⟨3, ![1, m, n]⟩ : Shape).size inb)) h
      (ix2 t d) = X (ix3 b t d) :=
  (shapeCast_apply _ h _ (ix3 (0 : Fin 1) t d) (by
    rw [Shape.rowMajor_val_three, Shape.rowMajor_val_two]
    show (0 * m + t.val) * n + d.val = t.val * n + d.val
    rw [Nat.zero_mul, Nat.zero_add])).trans
  (ld_unit_apply_of X _ _ inb _ (ix3 b t d) fun
    | ⟨0, _⟩ => rfl | ⟨1, _⟩ => (Nat.zero_add _).symm | ⟨2, _⟩ => (Nat.zero_add _).symm)

/-- The same of a stack of stacks. -/
theorem ld_row4 {α : EltTy → Type} {e : EltTy} {g k m n : ℕ} (X : (⟨4, ![g, k, m, n]⟩ : Shape).Idx → α e) (b : Fin g)
    (inb : ∀ a, (![b.val, 0, 0, 0] : Fin 4 → ℕ) a + (⟨4, ![1, k, m, n]⟩ : Shape).size a ≤ (⟨4, ![g, k, m, n]⟩ : Shape).size a)
    (h : (⟨4, ![1, k, m, n]⟩ : Shape).ShapeCasts ⟨3, ![k, m, n]⟩) (q : Fin k) (t : Fin m) (d : Fin n) :
    shapeCast ⟨3, ![k, m, n]⟩
      (View.ld X (Rect.unit (s := ⟨4, ![g, k, m, n]⟩) ![b.val, 0, 0, 0] (⟨4, ![1, k, m, n]⟩ : Shape).size inb)) h
      (ix3 q t d) = X (ix4 b q t d) :=
  (shapeCast_apply _ h _ (ix4 (0 : Fin 1) q t d) (by
    rw [Shape.rowMajor_val_four, Shape.rowMajor_val_three]
    show ((0 * k + q.val) * m + t.val) * n + d.val = (q.val * m + t.val) * n + d.val
    rw [Nat.zero_mul, Nat.zero_add])).trans
  (ld_unit_apply_of X _ _ inb _ (ix4 b q t d) fun
    | ⟨0, _⟩ => rfl | ⟨1, _⟩ => (Nat.zero_add _).symm | ⟨2, _⟩ => (Nat.zero_add _).symm | ⟨3, _⟩ => (Nat.zero_add _).symm)

/-- Contents under the last store. -/
theorem canon_hit {s : Shape} {e : EltTy} (off size : Fin s.rank → ℕ) (inb) (w : (Rect.unit (s := s) off size inb).shape.Idx → Elt Ideal e)
    {L : List (Piece (Elt Ideal) s e)} {y : s.Idx} (x : (Rect.unit (s := s) off size inb).shape.Idx)
    (h : ∀ a, (y a).val = off a + (x a).val) : View.canon (⟨Rect.unit (s := s) off size inb, w⟩ :: L) y = w x := by
  rw [← canon_cons_emb (Val := Elt Ideal) (Rect.unit (s := s) off size inb) w L x]
  exact congrArg _ (funext fun a => Fin.ext ((h a).trans (Rect.idx_unit_val off size inb x a).symm))

/-- Contents off the last store. -/
theorem canon_miss {s : Shape} {e : EltTy} (off size : Fin s.rank → ℕ) (inb) (w : (Rect.unit (s := s) off size inb).shape.Idx → Elt Ideal e)
    {L : List (Piece (Elt Ideal) s e)} {y : s.Idx} (a : Fin s.rank)
    (h : (y a).val < off a ∨ off a + size a ≤ (y a).val) :
    View.canon (⟨Rect.unit (s := s) off size inb, w⟩ :: L) y = View.canon L y :=
  canon_cons_of_not_mem _ _ fun hm => by
    have := (Rect.mem_set_unit (inb := inb)).1 hm a
    omega

/-- A batch row's stores come last. -/
theorem In.L22_eq (i : In Ideal) (b : Fin 2) : ∃ L, i.L22 b = i.p22 b L :=
  match b with | ⟨0, _⟩ => ⟨[], rfl⟩ | ⟨1, _⟩ => ⟨i.p22 0 [], rfl⟩

variable {i : In Ideal} {a : Spec.Args} (o : Of i a)

namespace Of
include o

theorem aneg (q : Fin 1) (h : Fin 16) : i.aneg (ix2 q h) = a.A h := by
  have e : i.aneg (ix2 q h) = 0 - Ideal.exp (i.x12 (ix2 q h)) := by
    pointwise [In.aneg]
    rw [Subsingleton.elim q 0]
  rw [e, Subsingleton.elim q 0, o.x12, zero_sub, Spec.Args.A]

theorem xb (b : Fin 2) (t d : Fin 1024) : i.xb b (ix2 t d) = a.x b t d :=
  (ld_row (α := Elt Ideal) i.x0 b (inb_x b) shapeCasts_S1x1024x1024_S1024x1024 t d).trans (o.x0 b t d)

theorem xn (b : Fin 2) (t d : Fin 1024) : i.xn b (ix2 t d) = a.xn b t d := by
  rw [In.xn, norm_at]
  simp only [cent_at, o.xb]
  pointwise [Spec.Args.xn, Spec.Args.cent, o.x2, o.x3]

theorem mix (b : Fin 2) (t d : Fin 1024) : i.mix b (ix2 t d) = a.mix b t d := by
  rw [In.mix, mixed_at, o.xn, Spec.Args.mix, Spec.Args.prev]
  congr 2
  split
  · exact (ld_row (α := Elt Ideal) i.x1 b (inb_row b) shapeCasts_S1x1x1024_S1x1024 0 d).trans (o.x1 b d)
  · exact o.xn _ _ _

theorem z (b : Fin 2) (t e : Fin 1024) : i.z b (ix2 t e) = a.z b t e := by
  rw [In.z, wide_at, Spec.Args.z, Spec.dot]
  refine Finset.sum_congr rfl fun d _ => ?_
  rw [o.xn]; congr 1
  pointwise [o.x4]

theorem u (b : Fin 2) (t e : Fin 1024) : i.u b (ix2 t e) = a.u b t e := by
  rw [In.u, wide_at, Spec.Args.u, Spec.dot]
  refine Finset.sum_congr rfl fun d _ => ?_
  rw [o.xn]; congr 1
  pointwise [o.x5]

theorem pbc (b : Fin 2) (t : Fin 1024) (e : Fin 256) :
    i.pbc b (ix2 t e) = Spec.dot (a.xn b t) fun d => i.x6 (ix2 e d) := by
  rw [In.pbc, narrow_at, Spec.dot]
  refine Finset.sum_congr rfl fun d _ => ?_
  rw [o.xn]; congr 1
  pointwise

theorem prk (b : Fin 2) (t : Fin 1024) (e : Fin 256) :
    i.prk b (ix2 t e) = Spec.dot (a.mix b t) fun d => i.x7 (ix2 e d) := by
  rw [In.prk, narrow_at, Spec.dot]
  refine Finset.sum_congr rfl fun d _ => ?_
  rw [o.mix]; congr 1
  pointwise

theorem dt (b : Fin 2) (t : Fin 1024) (h : Fin 16) : i.dt b (ix2 t h) = a.dt b t h := by
  rw [In.dt, soft_at, dtArg_at, o.pbc, Spec.Args.dt]
  simp only [o.x6d]
  congr 2
  pointwise [o.x8]

/-- Chunk `c`'s row `j` is row `128 c + j`. -/
theorem dtc (b : Fin 2) (c : Fin 8) (j : Fin 128) (h : Fin 16) :
    i.dtc b c (ix2 j h) = a.dt b ⟨128 * c.val + j.val, by omega⟩ h := by
  pointwise [In.dtc, o.dt]

theorem bmc (b : Fin 2) (c : Fin 8) (j : Fin 128) (n : Fin 64) :
    i.bmc b c (ix2 j n) = a.Bm b ⟨128 * c.val + j.val, by omega⟩ n := by
  pointwise [In.bmc, o.pbc, o.x6b, Spec.Args.Bm]

theorem cmc (b : Fin 2) (c : Fin 8) (j : Fin 128) (n : Fin 64) :
    i.cmc b c (ix2 j n) = a.Cm b ⟨128 * c.val + j.val, by omega⟩ n := by
  pointwise [In.cmc, o.pbc, o.x6c, Spec.Args.Cm]

theorem rr (b : Fin 2) (t : Fin 1024) (n : Fin 64) : i.rr b (ix2 t n) = a.r b t n := by
  pointwise [In.rr, o.prk, o.x7r, Spec.Args.r]

theorem kk (b : Fin 2) (t : Fin 1024) (n : Fin 64) : i.kk b (ix2 t n) = a.k b t n := by
  pointwise [In.kk, o.prk, o.x7k, Spec.Args.k]

theorem vv (b : Fin 2) (t : Fin 1024) (n : Fin 64) : i.vv b (ix2 t n) = a.v b t n := by
  pointwise [In.vv, o.prk, o.x7v, Spec.Args.v]

theorem lw (b : Fin 2) (t : Fin 1024) (n : Fin 64) : i.lw b (ix2 t n) = a.lw b t n := by
  pointwise [In.lw, o.prk, o.x7w, Spec.Args.lw]
  rw [zero_sub]

/-- The key-value state before the scan. -/
theorem swk0 (b : Fin 2) (p n : Fin 64) : i.swk b 0 (ix2 p n) = a.sst b p n 0 :=
  (ld_row (α := Elt Ideal) i.x14 b (inb_wk b) shapeCasts_S1x64x64_S64x64 p n).trans (o.x14 b p n)

/-! ## The convolution's buffer, read back -/

/-- Row `4 + j` of the buffer is row `j` of the rows kept from before followed by the convolution's input. -/
theorem buf (b : Fin 2) (L) (j : Fin 1028) (e : Fin 1024) :
    View.canon (i.p22 b L) (ix2 ⟨4 + j.val, by omega⟩ e) = a.ucat b j e := by
  rw [In.p22, Spec.Args.ucat]
  split
  · rename_i h
    refine (canon_miss _ _ _ _ (0 : Fin 2) (.inl ?_)).trans ?_
    · show 4 + j.val < 8; omega
    refine (canon_hit _ _ _ _ (ix2 (⟨4 + j.val, by omega⟩ : Fin 8) e) fun
      | ⟨0, _⟩ => (Nat.zero_add _).symm | ⟨1, _⟩ => (Nat.zero_add _).symm).trans ?_
    rw [shapeCast_self]
    exact (ld_row (α := Elt Ideal) i.x9 b (inb_pad b) shapeCasts_S1x8x1024_S8x1024 ⟨4 + j.val, by omega⟩ e).trans
      (o.x9 b ⟨j.val, h⟩ e)
  · rename_i h
    refine (canon_hit _ _ _ _ (ix2 (⟨j.val - 4, by omega⟩ : Fin 1024) e) fun
      | ⟨0, _⟩ => (by show 4 + j.val = 8 + (j.val - 4); omega) | ⟨1, _⟩ => (Nat.zero_add _).symm).trans ?_
    rw [shapeCast_self]
    exact o.u b _ e

/-- One tap. -/
theorem tapv (b : Fin 2) (k : Fin 4) (t e : Fin 1024) : i.tapv (i.L22 b) k (ix2 t e) = a.tap b t e k := by
  obtain ⟨L, hL⟩ := In.L22_eq i b
  have h1 : View.readCov i.w22.view (i.L22 b)
      (Rect.unit (s := S1032x1024) ![4 + k.val, 0] S1024x1024.size (inb_shift k)).toLoadRect (ix2 t e)
      = a.ucat b ⟨k.val + t.val, by omega⟩ e := by
    rw [hL, readCov_eq_canon', ← o.buf b L]
    exact congrArg (View.canon (i.p22 b L)) (funext fun
      | ⟨0, _⟩ => Fin.ext (by show 4 + k.val + 1 * t.val = 4 + (k.val + t.val); omega)
      | ⟨1, _⟩ => Fin.ext (by show 0 + 1 * e.val = e.val; omega))
  have h2 : View.ld i.x10 (Rect.unit (s := S8x1024) ![k.val, 0] S1x1024.size (inb_tap k)) (ix2 0 e) = a.cw e k :=
    (ld_unit_apply_of i.x10 _ _ (inb_tap k) _ (ix2 ⟨k.val, by omega⟩ e) fun
      | ⟨0, _⟩ => rfl | ⟨1, _⟩ => (Nat.zero_add _).symm).trans (o.x10 k e)
  rw [In.tapv, tap_at, Spec.Args.tap, h1, h2]

/-- The activated convolution. -/
theorem uc (b : Fin 2) (t e : Fin 1024) : i.uc (i.L22 b) (ix2 t e) = a.uc b t e := by
  have h : (broadcastTo S1024x1024 (shapeCast S1x1024
      (View.ld i.x11 (Rect.unit (s := S1x1024) ![0, 0] S1x1024.size inb_S1x1024_S1x1024_0_0)) shapeCasts_S1x1024_S1x1024)
      broadcasts_S1x1024_S1024x1024 : FVec Ideal S1024x1024 .f32) (ix2 t e) = a.cb e := by
    pointwise [o.x11]
  rw [In.uc, silu_at, Spec.Args.uc, Spec.Args.acc, ← o.tapv, ← o.tapv, ← o.tapv, ← o.tapv, ← h]
  rfl

/-- Head `h`'s inputs over chunk `c`, read back. -/
theorem uch (b : Fin 2) (c : Fin 8) (h : Fin 16) (j : Fin 128) (p : Fin 64) :
    i.uch (i.L23 b) c h (ix2 j p) = a.uh b ⟨128 * c.val + j.val, by omega⟩ h p := by
  obtain ⟨L, hL⟩ : ∃ L, i.L23 b = i.p23 (i.L22 b) L := match b with
    | ⟨0, _⟩ => ⟨[], rfl⟩ | ⟨1, _⟩ => ⟨i.p23 (i.L22 0) [], rfl⟩
  rw [In.uch, hL, readCov_eq_canon', In.p23]
  refine (canon_hit _ _ _ _ (ix2 (⟨128 * c.val + j.val, by omega⟩ : Fin 1024) (⟨64 * h.val + p.val, by omega⟩ : Fin 1024))
    fun
      | ⟨0, _⟩ => (by show 128 * c.val + 1 * j.val = 0 + (128 * c.val + j.val); omega)
      | ⟨1, _⟩ => (by show 64 * h.val + 1 * p.val = 0 + (64 * h.val + p.val); omega)).trans ?_
  rw [shapeCast_self]
  exact o.uc b _ _

end Of

end Cert.KernelIdeal.Fold
-- ==== Proof.Arr.lean ====
/-
  The twenty-one argument arrays as arrays of extended reals, and by coordinates.
-/
module

public import proofs.«01_k».proof.Proof.Spec
public import Idealize.ShloMosaic.Lib.Pointwise

@[expose] public section

noncomputable section

namespace Cert

open Idealize.ShloMosaic

/-- The argument arrays in the order in which the programs take them. -/
structure Arr where
  a0 : (⟨3, ![2, 1024, 1024]⟩ : Shape).Idx → EReal
  a1 : (⟨3, ![2, 64, 64]⟩ : Shape).Idx → EReal
  a2 : (⟨3, ![2, 1, 1024]⟩ : Shape).Idx → EReal
  a3 : (⟨4, ![2, 16, 64, 64]⟩ : Shape).Idx → EReal
  a4 : (⟨3, ![2, 1024, 4]⟩ : Shape).Idx → EReal
  a5 : (⟨1, ![1024]⟩ : Shape).Idx → EReal
  a6 : (⟨1, ![1024]⟩ : Shape).Idx → EReal
  a7 : (⟨2, ![2048, 1024]⟩ : Shape).Idx → EReal
  a8 : (⟨2, ![1024, 4]⟩ : Shape).Idx → EReal
  a9 : (⟨1, ![1024]⟩ : Shape).Idx → EReal
  a10 : (⟨2, ![16, 1024]⟩ : Shape).Idx → EReal
  a11 : (⟨1, ![16]⟩ : Shape).Idx → EReal
  a12 : (⟨1, ![16]⟩ : Shape).Idx → EReal
  a13 : (⟨2, ![64, 1024]⟩ : Shape).Idx → EReal
  a14 : (⟨2, ![64, 1024]⟩ : Shape).Idx → EReal
  a15 : (⟨2, ![1024, 1024]⟩ : Shape).Idx → EReal
  a16 : (⟨2, ![64, 1024]⟩ : Shape).Idx → EReal
  a17 : (⟨2, ![64, 1024]⟩ : Shape).Idx → EReal
  a18 : (⟨2, ![64, 1024]⟩ : Shape).Idx → EReal
  a19 : (⟨2, ![64, 1024]⟩ : Shape).Idx → EReal
  a20 : (⟨2, ![1024, 64]⟩ : Shape).Idx → EReal

/-- The arrays by coordinates. -/
def Arr.args (A : Arr) : Spec.Args where
  x b t d := A.a0 (ix3 b t d)
  wkv b i j := A.a1 (ix3 b i j)
  xp b d := A.a2 (ix3 b 0 d)
  ssd b h p n := A.a3 (ix4 b h p n)
  conv b e k := A.a4 (ix3 b e k)
  ns d := A.a5 (ix1 d)
  nb d := A.a6 (ix1 d)
  win e d := A.a7 (ix2 e d)
  cw e k := A.a8 (ix2 e k)
  cb e := A.a9 (ix1 e)
  wdt h d := A.a10 (ix2 h d)
  dtb h := A.a11 (ix1 h)
  alog h := A.a12 (ix1 h)
  wB n d := A.a13 (ix2 n d)
  wC n d := A.a14 (ix2 n d)
  wso e q := A.a15 (ix2 e q)
  wr n d := A.a16 (ix2 n d)
  wk n d := A.a17 (ix2 n d)
  wv n d := A.a18 (ix2 n d)
  ww n d := A.a19 (ix2 n d)
  wro e p := A.a20 (ix2 e p)

end Cert
-- ==== Proof.KHost.lean ====
/-
  The blocks that the kernel's body reads, as the host operations before the region prepare them from the arguments.
-/
module

public import proofs.«01_k».proof.Proof.KRead
public import proofs.«01_k».proof.Proof.Arr
public import Idealize.ShloMosaic.Lib.Pipeline.ValueKit
public import Idealize.ShloMosaic.Lib.StableHlo.ReadAt

@[expose] public section

set_option maxRecDepth 16384

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ)

/-- The argument arrays in core `c`'s memory. -/
def arr (c : Dev nD) : Arr :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12), m ((c : Thread nD τ).loc main_arg13), m ((c : Thread nD τ).loc main_arg14),
   m ((c : Thread nD τ).loc main_arg15), m ((c : Thread nD τ).loc main_arg16), m ((c : Thread nD τ).loc main_arg17),
   m ((c : Thread nD τ).loc main_arg18), m ((c : Thread nD τ).loc main_arg19), m ((c : Thread nD τ).loc main_arg20)⟩

/-- The blocks that the body reads at the one grid point, and its scratch buffers. -/
def inp (c : Dev nD) : Fold.In Ideal :=
  ⟨iblk m c 0 t0_0, iblk m c 1 t0_0, iblk m c 2 t0_0, iblk m c 3 t0_0, iblk m c 4 t0_0, iblk m c 5 t0_0, iblk m c 6 t0_0,
   iblk m c 7 t0_0, iblk m c 8 t0_0, iblk m c 9 t0_0, iblk m c 10 t0_0, iblk m c 11 t0_0, iblk m c 12 t0_0, iblk m c 13 t0_0,
   iblk m c 14 t0_0, iblk m c 15 t0_0, iblk m c 16 t0_0, scM0_0, scM0_1, scM0_2, scM0_3, scM0_4⟩

set_option maxHeartbeats 4000000 in
/-- At the one grid point every window's block is the whole of its array. -/
theorem blocks (c : Dev nD) : (inp m c).x0 = V m c main_arg0
    ∧ (inp m c).x1 = V m c main_arg2
    ∧ (inp m c).x2 = V m c main_arg5
    ∧ (inp m c).x3 = V m c main_arg6
    ∧ (inp m c).x4 = V m c main_v1
    ∧ (inp m c).x5 = V m c main_v3
    ∧ (inp m c).x6 = V m c main_v5
    ∧ (inp m c).x7 = V m c main_v6
    ∧ (inp m c).x8 = V m c main_v7
    ∧ (inp m c).x9 = V m c main_v9
    ∧ (inp m c).x10 = V m c main_v11
    ∧ (inp m c).x11 = V m c main_v12
    ∧ (inp m c).x12 = V m c main_v13
    ∧ (inp m c).x13 = V m c main_arg3
    ∧ (inp m c).x14 = V m c main_arg1
    ∧ (inp m c).x15 = V m c main_v14
    ∧ (inp m c).x16 = V m c main_v15 := by
  have e : (∀ a, win0_0.index t0_0 a = 0) ∧ (∀ a, win0_1.index t0_0 a = 0) ∧ (∀ a, win0_2.index t0_0 a = 0) ∧ (∀ a, win0_3.index t0_0 a = 0) ∧ (∀ a, win0_4.index t0_0 a = 0) ∧ (∀ a, win0_5.index t0_0 a = 0) ∧ (∀ a, win0_6.index t0_0 a = 0) ∧ (∀ a, win0_7.index t0_0 a = 0) ∧ (∀ a, win0_8.index t0_0 a = 0) ∧ (∀ a, win0_9.index t0_0 a = 0) ∧ (∀ a, win0_10.index t0_0 a = 0) ∧ (∀ a, win0_11.index t0_0 a = 0) ∧ (∀ a, win0_12.index t0_0 a = 0) ∧ (∀ a, win0_13.index t0_0 a = 0) ∧ (∀ a, win0_14.index t0_0 a = 0) ∧ (∀ a, win0_15.index t0_0 a = 0) ∧ (∀ a, win0_16.index t0_0 a = 0) := by
    decide +kernel
  refine ⟨?_, ?_, ?_, ?_, ?_, ?_, ?_, ?_, ?_, ?_, ?_, ?_, ?_, ?_, ?_, ?_, ?_⟩ <;>
    (funext j; dsimp only [inp]; blk_simp [iblk]; exact congrArg _ (by blk_ext [e]))

/-- The blocks hold the arguments: as they are, rounded, stacked, transposed or padded. -/
theorem of (c : Dev nD) : Fold.Of (inp m c) (arr m c).args := by
  obtain ⟨h0, h1, h2, h3, h4, h5, h6, h7, h8, h9, h10, h11, h12, h13, h14, h15, h16⟩ := blocks m c
  constructor
  · intro b t d; rw [h0, V_main_arg0]; rfl
  · intro b d; rw [h1, V_main_arg2]; rfl
  · intro d; rw [h2, V_main_arg5]; rfl
  · intro d; rw [h3, V_main_arg6]; rfl
  · intro e d; rw [h4]; dsimp only [Arr.args, arr]; unfold V; after_reads_at
  · intro e d; rw [h5]; dsimp only [Arr.args, arr]; unfold V; after_reads_at
  · intro n d; rw [h6]; dsimp only [Arr.args, arr]; unfold V; after_reads_at
  · intro n d; rw [h6]; dsimp only [Arr.args, arr]; unfold V; after_reads_at
  · intro n d; rw [h6]; dsimp only [Arr.args, arr]; unfold V; after_reads_at
    rw [dif_neg (by omega), dif_neg (by omega), dif_pos (by omega)]
    exact congrArg (fun q : Fin 16 => (arr m c).a10 (ix2 q d)) (Fin.ext (by show 128 + n.val - 64 - 64 = n.val; omega))
  · intro n d; rw [h7]; dsimp only [Arr.args, arr]; unfold V; after_reads_at
  · intro n d; rw [h7]; dsimp only [Arr.args, arr]; unfold V; after_reads_at
  · intro n d; rw [h7]; dsimp only [Arr.args, arr]; unfold V; after_reads_at
    rw [dif_neg (by omega), dif_neg (by omega), dif_pos (by omega)]
    exact congrArg (fun q : Fin 64 => (arr m c).a18 (ix2 q d)) (Fin.ext (by show 128 + n.val - 64 - 64 = n.val; omega))
  · intro n d; rw [h7]; dsimp only [Arr.args, arr]; unfold V; after_reads_at
    rw [dif_neg (by omega), dif_neg (by omega), dif_neg (by omega)]
    exact congrArg (fun q : Fin 64 => (arr m c).a19 (ix2 q d)) (Fin.ext (by show 192 + n.val - 64 - 64 - 64 = n.val; omega))
  · intro h; rw [h8]; dsimp only [Arr.args, arr]; unfold V; after_reads_at
  · intro b j e; rw [h9]; dsimp only [Arr.args, arr]; unfold V; after_reads_at
  · intro k e; rw [h10]; dsimp only [Arr.args, arr]; unfold V; after_reads_at
  · intro e; rw [h11]; dsimp only [Arr.args, arr]; unfold V; after_reads_at
  · intro h; rw [h12]; dsimp only [Arr.args, arr]; unfold V; after_reads_at
  · intro b h p n; rw [h13, V_main_arg3]; rfl
  · intro b p n; rw [h14, V_main_arg1]; rfl
  · intro e q; rw [h15]; dsimp only [Arr.args, arr]; unfold V; after_reads_at
  · intro e p; rw [h16]; dsimp only [Arr.args, arr]; unfold V; after_reads_at

end Cert.KernelIdeal.Host
-- ==== Proof.KArr.lean ====
/-
  The result arrays after the kernel, as the pieces that its body leaves, read from the blocks.
-/
module

public import proofs.«01_k».proof.Proof.KBridge
public import proofs.«01_k».proof.Proof.KHost
public import proofs.«01_k».proof.Proof.Gen.KernelIdeal.Value

@[expose] public section

set_option maxRecDepth 16384

noncomputable section

namespace Cert.KernelIdeal.Fold

open Idealize.ShloMosaic
open Cert.KernelIdeal Cert.KernelIdeal.Gen

section
variable
  (c : Dev nD) (arg0 : Memref sig .tc .vmem S2x1024x1024 .f32) (harg0 : arg0.IsWhole) (arg1 : Memref sig .tc .vmem S2x1x1024 .f32)
  (harg1 : arg1.IsWhole) (arg2 : Memref sig .tc .vmem S1024 .f32) (harg2 : arg2.IsWhole) (arg3 : Memref sig .tc .vmem S1024 .f32)
  (harg3 : arg3.IsWhole) (arg4 : Memref sig .tc .vmem S1024x1024 .bf16) (harg4 : arg4.IsWhole) (arg5 : Memref sig .tc .vmem S1024x1024 .bf16)
  (harg5 : arg5.IsWhole) (arg6 : Memref sig .tc .vmem S256x1024 .f32) (harg6 : arg6.IsWhole) (arg7 : Memref sig .tc .vmem S256x1024 .f32)
  (harg7 : arg7.IsWhole) (arg8 : Memref sig .tc .vmem S1x16 .f32) (harg8 : arg8.IsWhole) (arg9 : Memref sig .tc .vmem S2x8x1024 .f32)
  (harg9 : arg9.IsWhole) (arg10 : Memref sig .tc .vmem S8x1024 .f32) (harg10 : arg10.IsWhole) (arg11 : Memref sig .tc .vmem S1x1024 .f32)
  (harg11 : arg11.IsWhole) (arg12 : Memref sig .tc .vmem S1x16 .f32) (harg12 : arg12.IsWhole) (arg13 : Memref sig .tc .vmem S2x16x64x64 .f32)
  (harg13 : arg13.IsWhole) (arg14 : Memref sig .tc .vmem S2x64x64 .f32) (harg14 : arg14.IsWhole) (arg15 : Memref sig .tc .vmem S1024x1024 .bf16)
  (harg15 : arg15.IsWhole) (arg16 : Memref sig .tc .vmem S1024x64 .bf16) (harg16 : arg16.IsWhole) (arg17 : Memref sig .tc .vmem S2x1024x1024 .f32)
  (harg17 : arg17.IsWhole) (arg18 : Memref sig .tc .vmem S2x16x64x64 .f32) (harg18 : arg18.IsWhole) (arg19 : Memref sig .tc .vmem S2x64x64 .f32)
  (harg19 : arg19.IsWhole) (arg20 : Memref sig .tc .vmem S2x8x1024 .f32) (harg20 : arg20.IsWhole) (arg21 : Memref sig .tc .vmem S2x1x1024 .f32)
  (harg21 : arg21.IsWhole) (arg22 : Memref sig .tc .vmem S1032x1024 .f32) (harg22 : arg22.IsWhole) (arg23 : Memref sig .tc .vmem S1024x1024 .f32)
  (harg23 : arg23.IsWhole) (arg24 : Memref sig .tc .vmem S1024x1024 .f32) (harg24 : arg24.IsWhole) (arg25 : Memref sig .tc .vmem S1024x1024 .f32)
  (harg25 : arg25.IsWhole) (arg26 : Memref sig .tc .vmem S16x64x64 .f32) (harg26 : arg26.IsWhole) (x0 : Vec Ideal S2x1024x1024 .f32)
  (x1 : Vec Ideal S2x1x1024 .f32) (x2 : Vec Ideal S1024 .f32) (x3 : Vec Ideal S1024 .f32) (x4 : Vec Ideal S1024x1024 .bf16)
  (x5 : Vec Ideal S1024x1024 .bf16) (x6 : Vec Ideal S256x1024 .f32) (x7 : Vec Ideal S256x1024 .f32) (x8 : Vec Ideal S1x16 .f32)
  (x9 : Vec Ideal S2x8x1024 .f32) (x10 : Vec Ideal S8x1024 .f32) (x11 : Vec Ideal S1x1024 .f32) (x12 : Vec Ideal S1x16 .f32)
  (x13 : Vec Ideal S2x16x64x64 .f32) (x14 : Vec Ideal S2x64x64 .f32) (x15 : Vec Ideal S1024x1024 .bf16) (x16 : Vec Ideal S1024x64 .bf16)

/-- What the body leaves in the first output's buffer, as its pieces over the blocks. -/
theorem out17 : out0_A_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 =
    View.canon (let Q : In Ideal := ⟨x0, x1, x2, x3, x4, x5, x6, x7, x8, x9, x10, x11, x12, x13, x14, x15, x16, arg22, arg23, arg24, arg25, arg26⟩; [Q.q17 1, Q.q17 0]) := by
  unfold out0_A_17
  rw [View.read_writes_junk_eq_canon, run17]
  simp only [Memref.IsWhole.read_unread]

/-- What the body leaves in the second output's buffer, as its pieces over the blocks. -/
theorem out18 : out0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 =
    View.canon (let Q : In Ideal := ⟨x0, x1, x2, x3, x4, x5, x6, x7, x8, x9, x10, x11, x12, x13, x14, x15, x16, arg22, arg23, arg24, arg25, arg26⟩; [Q.q18 1, Q.q18 0]) := by
  unfold out0_A_18
  rw [View.read_writes_junk_eq_canon, run18]
  simp only [Memref.IsWhole.read_unread]

/-- What the body leaves in the third output's buffer, as its pieces over the blocks. -/
theorem out19 : out0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 =
    View.canon (let Q : In Ideal := ⟨x0, x1, x2, x3, x4, x5, x6, x7, x8, x9, x10, x11, x12, x13, x14, x15, x16, arg22, arg23, arg24, arg25, arg26⟩; [Q.q19 1, Q.q19 0]) := by
  unfold out0_A_19
  rw [View.read_writes_junk_eq_canon, run19]
  simp only [Memref.IsWhole.read_unread]

/-- What the body leaves in the fourth output's buffer, as its pieces over the blocks. -/
theorem out20 : out0_A_20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 =
    View.canon (let Q : In Ideal := ⟨x0, x1, x2, x3, x4, x5, x6, x7, x8, x9, x10, x11, x12, x13, x14, x15, x16, arg22, arg23, arg24, arg25, arg26⟩; [In.q20b 1, Q.q20a 1, In.q20b 0, Q.q20a 0]) := by
  unfold out0_A_20
  rw [View.read_writes_junk_eq_canon, run20]
  simp only [Memref.IsWhole.read_unread]

/-- What the body leaves in the fifth output's buffer, as its pieces over the blocks. -/
theorem out21 : out0_A_21 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 =
    View.canon (let Q : In Ideal := ⟨x0, x1, x2, x3, x4, x5, x6, x7, x8, x9, x10, x11, x12, x13, x14, x15, x16, arg22, arg23, arg24, arg25, arg26⟩; [Q.q21 1, Q.q21 0]) := by
  unfold out0_A_21
  rw [View.read_writes_junk_eq_canon, run21]
  simp only [Memref.IsWhole.read_unread]

end

end Cert.KernelIdeal.Fold

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ)

/-- The first result's array: the pieces left in its buffer. -/
theorem arr17 (c : Dev nD) : (dats m 0 c).arrAt 17 cfg0.N = View.canon [(inp m c).q17 1, (inp m c).q17 0] := by
  refine (dats m 0 c).arrAt_eq_of_after_last 17 t0_0 (by decide +kernel) _ fun j => ?_
  have h : (outsAt0 m c t0_0).1 = View.canon [(inp m c).q17 1, (inp m c).q17 0] := by
    dsimp only [outsAt0]
    rw [Fold.out17]
    rfl
  blk_simp
  rw [after0_17, h] <;> rfl

/-- The second result's array: the pieces left in its buffer. -/
theorem arr18 (c : Dev nD) : (dats m 0 c).arrAt 18 cfg0.N = View.canon [(inp m c).q18 1, (inp m c).q18 0] := by
  refine (dats m 0 c).arrAt_eq_of_after_last 18 t0_0 (by decide +kernel) _ fun j => ?_
  have h : (outsAt0 m c t0_0).2.1 = View.canon [(inp m c).q18 1, (inp m c).q18 0] := by
    dsimp only [outsAt0]
    rw [Fold.out18]
    rfl
  blk_simp
  rw [after0_18, h] <;> rfl

/-- The third result's array: the pieces left in its buffer. -/
theorem arr19 (c : Dev nD) : (dats m 0 c).arrAt 19 cfg0.N = View.canon [(inp m c).q19 1, (inp m c).q19 0] := by
  refine (dats m 0 c).arrAt_eq_of_after_last 19 t0_0 (by decide +kernel) _ fun j => ?_
  have h : (outsAt0 m c t0_0).2.2.1 = View.canon [(inp m c).q19 1, (inp m c).q19 0] := by
    dsimp only [outsAt0]
    rw [Fold.out19]
    rfl
  blk_simp
  rw [after0_19, h] <;> rfl

/-- The fourth result's array: the pieces left in its buffer. -/
theorem arr20 (c : Dev nD) : (dats m 0 c).arrAt 20 cfg0.N = View.canon [Fold.In.q20b 1, (inp m c).q20a 1, Fold.In.q20b 0, (inp m c).q20a 0] := by
  refine (dats m 0 c).arrAt_eq_of_after_last 20 t0_0 (by decide +kernel) _ fun j => ?_
  have h : (outsAt0 m c t0_0).2.2.2.1 = View.canon [Fold.In.q20b 1, (inp m c).q20a 1, Fold.In.q20b 0, (inp m c).q20a 0] := by
    dsimp only [outsAt0]
    rw [Fold.out20]
    rfl
  blk_simp
  rw [after0_20, h] <;> rfl

/-- The fifth result's array: the pieces left in its buffer. -/
theorem arr21 (c : Dev nD) : (dats m 0 c).arrAt 21 cfg0.N = View.canon [(inp m c).q21 1, (inp m c).q21 0] := by
  refine (dats m 0 c).arrAt_eq_of_after_last 21 t0_0 (by decide +kernel) _ fun j => ?_
  have h : (outsAt0 m c t0_0).2.2.2.2 = View.canon [(inp m c).q21 1, (inp m c).q21 0] := by
    dsimp only [outsAt0]
    rw [Fold.out21]
    rfl
  blk_simp
  rw [after0_21, h] <;> rfl

end Cert.KernelIdeal.Host
-- ==== Proof.KValue.lean ====
/-
  The kernel body's two scans, chunk after chunk, and what its five output buffers hold at an index.
-/
module

public import proofs.«01_k».proof.Proof.KRead

@[expose] public section

set_option maxRecDepth 16384

noncomputable section

namespace Cert.KernelIdeal.Fold

open Idealize.ShloMosaic Idealize.ShloMosaic.View
open Cert.KernelIdeal Cert.KernelIdeal.Gen
open Spec (tm)

/-- Row `j` of chunk `n` of 128 rows. -/
theorem tm8 {n : ℕ} (hn : n < 8) (j : Fin 128) (h : 128 * (m8 n).val + j.val < 1024) :
    (⟨128 * (m8 n).val + j.val, h⟩ : Fin 1024) = tm (128 * n + j.val) :=
  Fin.ext (by show 128 * (n % 8) + j.val = (128 * n + j.val) % 1024; omega)

/-- Row `j` of chunk `n` of 32 rows. -/
theorem tm32 {n : ℕ} (hn : n < 32) (j : Fin 32) (h : 32 * (m32 n).val + j.val < 1024) :
    (⟨32 * (m32 n).val + j.val, h⟩ : Fin 1024) = tm (32 * n + j.val) :=
  Fin.ext (by show 32 * (n % 32) + j.val = (32 * n + j.val) % 1024; omega)

/-- A head's state read back is what the buffer holds there. -/
theorem sh_at (i : In Ideal) (L) (h : Fin 16) (p n : Fin 64) : i.sh L h (ix2 p n) = View.canon L (ix3 h p n) := by
  rw [In.sh, readCov_eq_canon']
  refine (shapeCast_apply _ _ _ (ix3 (0 : Fin 1) p n) (by
    rw [Shape.rowMajor_val_three, Shape.rowMajor_val_two]
    show (0 * 64 + p.val) * 64 + n.val = p.val * 64 + n.val
    omega)).trans ?_
  exact congrArg (View.canon L) (funext fun
      | ⟨0, _⟩ => Fin.ext rfl
      | ⟨1, _⟩ => Fin.ext (by show 0 + 1 * p.val = p.val; omega)
      | ⟨2, _⟩ => Fin.ext (by show 0 + 1 * n.val = n.val; omega))

variable {i : In Ideal} {a : Spec.Args} (o : Of i a) (ha : a.Fin)

namespace Of
include o ha

/-! ## The state scan -/

/-- After `n` chunks the state buffer holds the state after `128 n` steps. -/
theorem state (b : Fin 2) (n : ℕ) (hn : n ≤ 8) (h : Fin 16) (p q : Fin 64) :
    View.canon (i.L26 b n) (ix3 h p q) = a.hst b h p q (128 * n) := by
  induction n generalizing h p q with
  | zero =>
    refine (canon_hit _ _ _ _ (ix3 h p q) fun
      | ⟨0, _⟩ => (Nat.zero_add _).symm | ⟨1, _⟩ => (Nat.zero_add _).symm | ⟨2, _⟩ => (Nat.zero_add _).symm).trans ?_
    rw [shapeCast_self]
    exact (ld_row4 (α := Elt Ideal) i.x13 b (inb_st b) shapeCasts_S1x16x64x64_S16x64x64 h p q).trans (o.x13 b h p q)
  | succ n ih =>
    refine (canon_hit _ _ _ _ (ix3 h p q) fun
      | ⟨0, _⟩ => (Nat.zero_add _).symm | ⟨1, _⟩ => (Nat.zero_add _).symm | ⟨2, _⟩ => (Nat.zero_add _).symm).trans ?_
    rw [shapeCast_self, stack16_at]
    rw [ss_real (D := fun t => (a.dt b (tm (128 * n + t)) h).toReal) (U := fun t => (a.uh b (tm (128 * n + t)) h p).toReal)
      (α := (a.A h).toReal) (Bn := fun t => (a.Bm b (tm (128 * n + t)) q).toReal)
      (σ := (a.hst b h p q (128 * n)).toReal) _ _ _ _ _ _
      ((o.aneg 0 h).trans (ha.r_A h).eq)
      (fun j => by rw [o.dtc, tm8 (by omega)]; exact (ha.r_dt _ _ _).eq) p q
      (fun j => by rw [o.uch, tm8 (by omega)]; exact (ha.r_uh _ _ _ _).eq)
      (fun j => by rw [o.bmc, tm8 (by omega)]; exact (ha.r_Bm _ _ _).eq)
      (by rw [sh_at]; exact (ih (by omega) h p q).trans (ha.r_hst _ _ _ _ _).eq)]
    rw [Nat.mul_succ, ha.hst_eq b h p q (128 * n + 128), Recur.st_add, ha.hst_eq b h p q (128 * n), EReal.toReal_coe]

/-- What the state scan emits in chunk `n`. -/
theorem emit (b : Fin 2) (n : ℕ) (hn : n < 8) (h : Fin 16) (j : Fin 128) (p : Fin 64) :
    yy i.aneg (i.dtc b (m8 n)) (i.bmc b (m8 n)) (i.cmc b (m8 n)) h (i.uch (i.L23 b) (m8 n) h) (i.sh (i.L26 b n) h) (ix2 j p)
      = a.ys b (tm (128 * n + j.val)) h p := by
  rw [yy_real (D := fun t => (a.dt b (tm (128 * n + t)) h).toReal) (U := fun t => (a.uh b (tm (128 * n + t)) h p).toReal)
      (α := (a.A h).toReal) (Bn := fun q t => (a.Bm b (tm (128 * n + t)) q).toReal)
      (Cn := fun q => (a.Cm b (tm (128 * n + j.val)) q).toReal) (σ := fun q => (a.hst b h p q (128 * n)).toReal) _ _ _ _ _ _ _
      ((o.aneg 0 h).trans (ha.r_A h).eq)
      (fun j => by rw [o.dtc, tm8 hn]; exact (ha.r_dt _ _ _).eq) j p
      (fun j => by rw [o.uch, tm8 hn]; exact (ha.r_uh _ _ _ _).eq)
      (fun j q => by rw [o.bmc, tm8 hn]; exact (ha.r_Bm _ _ _).eq)
      (fun q => by rw [o.cmc, tm8 hn]; exact (ha.r_Cm _ _ _).eq)
      (fun q => by rw [sh_at]; exact (o.state ha b n hn.le h p q).trans (ha.r_hst _ _ _ _ _).eq), Spec.coe_sum, Spec.Args.ys]
  refine Finset.sum_congr rfl fun q _ => ?_
  have e : (tm (128 * n + j.val)).val + 1 = 128 * n + (j.val + 1) := by
    show (128 * n + j.val) % 1024 + 1 = _
    omega
  rw [EReal.coe_mul, ← (ha.r_Cm b (tm (128 * n + j.val)) q).eq, e, ha.hst_eq b h p q (128 * n + (j.val + 1)),
    Recur.st_add _ _ _ _ (128 * n) (j.val + 1), ha.hst_eq b h p q (128 * n), EReal.toReal_coe]

/-- After `n` chunks the output buffer's first `128 n` rows hold what the state scan emits. -/
theorem emitted (b : Fin 2) (n : ℕ) (hn : n ≤ 8) (t q : Fin 1024) (ht : t.val < 128 * n) :
    View.canon (i.L25 b n) (ix2 t q) = a.ysf b t q := by
  induction n with
  | zero => omega
  | succ n ih =>
    have hm : (m8 n).val = n := Nat.mod_eq_of_lt (by omega)
    by_cases h : t.val < 128 * n
    · refine (canon_miss _ _ _ _ (0 : Fin 2) (.inl ?_)).trans (ih (by omega) h)
      show t.val < 128 * (m8 n).val
      omega
    · refine (canon_hit _ _ _ _ (ix2 (⟨t.val - 128 * n, by omega⟩ : Fin 128) q) fun
        | ⟨0, _⟩ => (by show t.val = 128 * (m8 n).val + (t.val - 128 * n); omega)
        | ⟨1, _⟩ => (Nat.zero_add _).symm).trans ?_
      rw [shapeCast_self, cat16_at]
      refine (o.emit ha b n (by omega) _ _ _).trans ?_
      rw [Spec.Args.ysf]
      congr 1
      exact Fin.ext (by show (128 * n + (t.val - 128 * n)) % 1024 = t.val; omega)

/-! ## The key-value scan -/

/-- The key-value state after `n` chunks is the one after `32 n` steps. -/
theorem kvstate (b : Fin 2) (n : ℕ) (hn : n ≤ 32) (p q : Fin 64) : i.swk b n (ix2 p q) = a.sst b p q (32 * n) := by
  induction n generalizing p q with
  | zero => exact o.swk0 b p q
  | succ n ih =>
    show sk (rows (i.lw b) (m32 n)) (rows (i.kk b) (m32 n)) (rows (i.vv b) (m32 n)) (i.swk b n) (ix2 p q) = _
    rw [sk_real (L := fun t => (a.lw b (tm (32 * n + t)) p).toReal) (V := fun t => (a.v b (tm (32 * n + t)) p).toReal)
      (K := fun t => (a.k b (tm (32 * n + t)) q).toReal) (σ := (a.sst b p q (32 * n)).toReal) _ _ _ _ p
      (fun j => by rw [rows_at, o.lw, tm32 (by omega)]; exact (ha.r_lw _ _ _).eq)
      (fun j => by rw [rows_at, o.vv, tm32 (by omega)]; exact (ha.r_v _ _ _).eq) q
      (fun j => by rw [rows_at, o.kk, tm32 (by omega)]; exact (ha.r_k _ _ _).eq)
      ((ih (by omega) p q).trans (ha.r_sst _ _ _ _).eq)]
    rw [Nat.mul_succ, ha.sst_eq b p q (32 * n + 32), Recur.st_add, ha.sst_eq b p q (32 * n), EReal.toReal_coe]

/-- What the key-value scan emits. -/
theorem yr (b : Fin 2) (t : Fin 1024) (p : Fin 64) : i.yr b (ix2 t p) = a.yr b t p := by
  have hn : t.val / 32 < 32 := by omega
  rw [In.yr, cat32_at]
  generalize hj : (⟨t.val % 32, Nat.mod_lt _ (by decide)⟩ : Fin 32) = j
  have hjv : j.val = t.val % 32 := by rw [← hj]
  have ht : t = tm (32 * (t.val / 32) + j.val) := Fin.ext (by
    show t.val = (32 * (t.val / 32) + j.val) % 1024
    omega)
  show yk (rows (i.lw b) (m32 (t.val / 32))) (rows (i.rr b) (m32 (t.val / 32))) (rows (i.kk b) (m32 (t.val / 32)))
    (rows (i.vv b) (m32 (t.val / 32))) (i.swk b (t.val / 32)) (ix2 j p) = _
  rw [yk_real (L := fun s => (a.lw b (tm (32 * (t.val / 32) + s)) p).toReal)
      (V := fun s => (a.v b (tm (32 * (t.val / 32) + s)) p).toReal)
      (K := fun q s => (a.k b (tm (32 * (t.val / 32) + s)) q).toReal) (R := fun q => (a.r b t q).toReal)
      (σ := fun q => (a.sst b p q (32 * (t.val / 32))).toReal) _ _ _ _ _ p
      (fun j => by rw [rows_at, o.lw, tm32 hn]; exact (ha.r_lw _ _ _).eq)
      (fun j => by rw [rows_at, o.vv, tm32 hn]; exact (ha.r_v _ _ _).eq) j
      (fun j q => by rw [rows_at, o.kk, tm32 hn]; exact (ha.r_k _ _ _).eq)
      (fun q => by rw [rows_at, o.rr, tm32 hn, ← ht]; exact (ha.r_r _ _ _).eq)
      (fun q => (o.kvstate ha b _ hn.le p q).trans (ha.r_sst _ _ _ _).eq), Spec.coe_sum, Spec.Args.yr]
  refine Finset.sum_congr rfl fun q _ => ?_
  have e : t.val + 1 = 32 * (t.val / 32) + (j.val + 1) := by omega
  rw [EReal.coe_mul, ← (ha.r_r b t q).eq, e, ha.sst_eq b p q (32 * (t.val / 32) + (j.val + 1)),
    Recur.st_add _ _ _ _ (32 * (t.val / 32)) (j.val + 1), ha.sst_eq b p q (32 * (t.val / 32)), EReal.toReal_coe]

/-! ## The five output buffers -/

/-- A batch row of the first result. -/
theorem out (b : Fin 2) (t e : Fin 1024) : i.out b (i.L24 b) (i.L25 b 8) (ix2 t e) = a.x1 b t e := by
  have h24 : View.readCov i.w24.view (i.L24 b) (Rect.unit (s := S1024x1024) ![0, 0] S1024x1024.size
      inb_S1024x1024_S1024x1024_0_0).toLoadRect (ix2 t e) = a.z b t e := by
    obtain ⟨L, hL⟩ : ∃ L, i.L24 b = i.p24 b L := match b with
      | ⟨0, _⟩ => ⟨[], rfl⟩ | ⟨1, _⟩ => ⟨i.p24 0 [], rfl⟩
    rw [hL, readCov_eq_canon', In.p24]
    refine (canon_hit _ _ _ _ (ix2 t e) fun
      | ⟨0, _⟩ => (by show 0 + 1 * t.val = 0 + t.val; omega)
      | ⟨1, _⟩ => (by show 0 + 1 * e.val = 0 + e.val; omega)).trans ?_
    rw [shapeCast_self]
    exact o.z b t e
  have h25 : ∀ q : Fin 1024, View.readCov i.w25.view (i.L25 b 8) (Rect.unit (s := S1024x1024) ![0, 0] S1024x1024.size
      inb_S1024x1024_S1024x1024_0_0).toLoadRect (ix2 t q) = a.ysf b t q := fun q => by
    rw [readCov_eq_canon', ← o.emitted ha b 8 le_rfl t q t.isLt]
    exact congrArg (View.canon (i.L25 b 8)) (funext fun
      | ⟨0, _⟩ => Fin.ext (by show 0 + 1 * t.val = t.val; omega)
      | ⟨1, _⟩ => Fin.ext (by show 0 + 1 * q.val = q.val; omega))
  have hw : wide (View.readCov i.w25.view (i.L25 b 8)
        (Rect.unit (s := S1024x1024) ![0, 0] S1024x1024.size inb_S1024x1024_S1024x1024_0_0).toLoadRect)
        (View.ld i.x15 (Rect.unit (s := S1024x1024) ![0, 0] S1024x1024.size inb_S1024x1024_S1024x1024_0_0)) (ix2 t e)
      = Spec.dot (a.ysf b t) (a.wso e) := by
    rw [wide_at, Spec.dot]
    refine Finset.sum_congr rfl fun q _ => ?_
    rw [h25]
    exact congrArg (a.ysf b t q * ·) ((ld_unit_apply_of i.x15 _ _ _ _ (ix2 e q) fun
      | ⟨0, _⟩ => (Nat.zero_add _).symm | ⟨1, _⟩ => (Nat.zero_add _).symm).trans (o.x15 e q))
  have hr : (matmul (φ₂ := .bf16) dot_S1024x64_S1024x64_S1024x1024_1_1_0_0_n_n none (truncf .bf16 (i.yr b) bitsLt_bf16_f32)
      (shapeCast S1024x64 (View.ld i.x16 (Rect.unit (s := S1024x64) ![0, 0] S1024x64.size inb_S1024x64_S1024x64_0_0))
        shapeCasts_S1024x64_S1024x64) (constant S1024x1024 .f32 0x00000000#32) : FVec Ideal S1024x1024 .f32) (ix2 t e)
      = Spec.dot (a.yr b t) (a.wro e) := by
    pointwise [o.x16, o.yr ha, Spec.dot]
  have hx : i.out b (i.L24 b) (i.L25 b 8) (ix2 t e) = (a.x b t e + Spec.silu (a.z b t e) * Spec.dot (a.ysf b t) (a.wso e))
      + Spec.dot (a.yr b t) (a.wro e) := by
    rw [← hr, ← hw, ← h24, ← o.xb, ← silu_at _ (ix2 t e)]
    rfl
  rw [hx, Spec.Args.x1, add_assoc]

end Of

end Cert.KernelIdeal.Fold
-- ==== Proof.KOut.lean ====
/-
  What the kernel leaves in its five result arrays, at an index, as values of the arguments.
-/
module

public import proofs.«01_k».proof.Proof.KValue

@[expose] public section

set_option maxRecDepth 16384

noncomputable section

namespace Cert.KernelIdeal.Fold

open Idealize.ShloMosaic Idealize.ShloMosaic.View
open Cert.KernelIdeal Cert.KernelIdeal.Gen

variable {i : In Ideal} {a : Spec.Args} (o : Of i a) (ha : a.Fin)

/-! ## The pieces read at an index -/

/-- A matrix stored as one of a stack, at an index. -/
theorem cast_row {α : Type} {m n : ℕ} (x : (⟨2, ![m, n]⟩ : Shape).Idx → α)
    (h : (⟨2, ![m, n]⟩ : Shape).ShapeCasts ⟨3, ![1, m, n]⟩) (t : Fin m) (d : Fin n) :
    shapeCast ⟨3, ![1, m, n]⟩ x h (ix3 0 t d) = x (ix2 t d) :=
  shapeCast_apply _ h _ (ix2 t d) (by
    rw [Shape.rowMajor_val_three, Shape.rowMajor_val_two]
    show t.val * n + d.val = (0 * m + t.val) * n + d.val
    rw [Nat.zero_mul, Nat.zero_add])

/-- Two stores, one for each matrix of a stack of two: each index reads its own. -/
theorem canon_two {m n : ℕ} (inb : ∀ b : Fin 2, ∀ a, (![b.val, 0, 0] : Fin 3 → ℕ) a + (⟨3, ![1, m, n]⟩ : Shape).size a
      ≤ (⟨3, ![2, m, n]⟩ : Shape).size a)
    (w : Fin 2 → (⟨3, ![1, m, n]⟩ : Shape).Idx → Elt Ideal .f32) (b : Fin 2) (t : Fin m) (d : Fin n) :
    View.canon (Val := Elt Ideal) (e := .f32) (s := ⟨3, ![2, m, n]⟩)
      [⟨Rect.unit (s := ⟨3, ![2, m, n]⟩) ![(1 : Fin 2).val, 0, 0] (⟨3, ![1, m, n]⟩ : Shape).size (inb 1), w 1⟩,
       ⟨Rect.unit (s := ⟨3, ![2, m, n]⟩) ![(0 : Fin 2).val, 0, 0] (⟨3, ![1, m, n]⟩ : Shape).size (inb 0), w 0⟩]
      (ix3 b t d) = w b (ix3 0 t d) := by
  match b with
  | ⟨0, _⟩ =>
    refine (canon_miss _ _ _ _ (0 : Fin 3) (.inl Nat.zero_lt_one)).trans ?_
    refine (canon_hit _ _ _ _ (ix3 (0 : Fin 1) t d) fun
      | ⟨0, _⟩ => rfl | ⟨1, _⟩ => (Nat.zero_add _).symm | ⟨2, _⟩ => (Nat.zero_add _).symm).trans ?_
    rfl
  | ⟨1, _⟩ =>
    refine (canon_hit _ _ _ _ (ix3 (0 : Fin 1) t d) fun
      | ⟨0, _⟩ => rfl | ⟨1, _⟩ => (Nat.zero_add _).symm | ⟨2, _⟩ => (Nat.zero_add _).symm).trans ?_
    rfl

namespace Of
include o

/-- The fifth output: the last normalised row. -/
theorem res21 (b : Fin 2) (d : Fin 1024) : View.canon [i.q21 1, i.q21 0] (ix3 b 0 d) = a.xn b 1023 d := by
  have key : ∀ (L : List (Piece (Elt Ideal) S2x1x1024 .f32)), View.canon (i.q21 b :: L) (ix3 b 0 d) = a.xn b 1023 d := by
    intro L
    rw [In.q21]
    refine (canon_hit _ _ _ _ (ix3 (0 : Fin 1) (0 : Fin 1) d) fun
      | ⟨0, _⟩ => rfl | ⟨1, _⟩ => (Nat.zero_add _).symm | ⟨2, _⟩ => (Nat.zero_add _).symm).trans ?_
    refine (cast_row _ _ (0 : Fin 1) d).trans ?_
    rw [← o.xn]
    exact congrArg (i.xn b) (funext fun | ⟨0, _⟩ => rfl | ⟨1, _⟩ => Fin.ext (Nat.zero_add _))
  obtain rfl | rfl : b = 0 ∨ b = 1 := by omega
  · rw [In.q21.eq_def i 1]
    exact (canon_miss _ _ _ _ (0 : Fin 3) (.inl Nat.zero_lt_one)).trans (key [])
  · exact key _

/-- The fourth output: the convolution's last four inputs and four rows of zeros. -/
theorem res20 (b : Fin 2) (j : Fin 8) (e : Fin 1024) :
    View.canon [In.q20b 1, i.q20a 1, In.q20b 0, i.q20a 0] (ix3 b j e) = a.tail b j e := by
  have key : ∀ (L : List (Piece (Elt Ideal) S2x8x1024 .f32)), View.canon (In.q20b b :: i.q20a b :: L) (ix3 b j e) = a.tail b j e := by
    intro L
    rw [Spec.Args.tail]
    split
    · rename_i h
      refine (canon_miss _ _ _ _ (1 : Fin 3) (.inl ?_)).trans ?_
      · show j.val < 4; exact h
      refine (canon_hit _ _ _ _ (ix3 (0 : Fin 1) (⟨j.val, h⟩ : Fin 4) e) fun
        | ⟨0, _⟩ => rfl | ⟨1, _⟩ => (Nat.zero_add _).symm | ⟨2, _⟩ => (Nat.zero_add _).symm).trans ?_
      refine (cast_row _ _ (⟨j.val, h⟩ : Fin 4) e).trans ?_
      pointwise [o.u]
    · rename_i h
      refine (canon_hit _ _ _ _ (ix3 (0 : Fin 1) (⟨j.val - 4, by omega⟩ : Fin 4) e) fun
        | ⟨0, _⟩ => rfl | ⟨1, _⟩ => (by show j.val = 4 + (j.val - 4); omega) | ⟨2, _⟩ => (Nat.zero_add _).symm).trans ?_
      refine (cast_row _ _ (⟨j.val - 4, by omega⟩ : Fin 4) e).trans ?_
      pointwise
  obtain rfl | rfl : b = 0 ∨ b = 1 := by omega
  · rw [In.q20b.eq_def 1, In.q20a.eq_def i 1]
    refine (canon_miss _ _ _ _ (0 : Fin 3) (.inl Nat.zero_lt_one)).trans ?_
    refine (canon_miss _ _ _ _ (0 : Fin 3) (.inl Nat.zero_lt_one)).trans ?_
    exact key []
  · exact key _

include ha

/-- The first output. -/
theorem res17 (b : Fin 2) (t e : Fin 1024) : View.canon [i.q17 1, i.q17 0] (ix3 b t e) = a.x1 b t e := by
  refine (canon_two inb_x (fun b => shapeCast S1x1024x1024 (i.out b (i.L24 b) (i.L25 b 8)) shapeCasts_S1024x1024_S1x1024x1024)
    b t e).trans ?_
  exact (cast_row _ _ t e).trans (o.out ha b t e)

/-- The third output: the key-value state after all steps. -/
theorem res19 (b : Fin 2) (p n : Fin 64) : View.canon [i.q19 1, i.q19 0] (ix3 b p n) = a.sst b p n 1024 := by
  refine (canon_two inb_wk (fun b => shapeCast S1x64x64 (i.swk b 32) shapeCasts_S64x64_S1x64x64) b p n).trans ?_
  exact (cast_row _ _ p n).trans (o.kvstate ha b 32 le_rfl p n)

/-- The second output: the state after all steps. -/
theorem res18 (b : Fin 2) (h : Fin 16) (p n : Fin 64) :
    View.canon [i.q18 1, i.q18 0] (ix4 b h p n) = a.hst b h p n 1024 := by
  have key : ∀ (L : List (Piece (Elt Ideal) S2x16x64x64 .f32)), View.canon (i.q18 b :: L) (ix4 b h p n) = a.hst b h p n 1024 := by
    intro L
    refine (canon_hit _ _ _ _ (ix4 (0 : Fin 1) h p n) fun
        | ⟨0, _⟩ => rfl | ⟨1, _⟩ => (Nat.zero_add _).symm | ⟨2, _⟩ => (Nat.zero_add _).symm
        | ⟨3, _⟩ => (Nat.zero_add _).symm).trans ?_
    refine (shapeCast_apply _ _ _ (ix3 h p n) (by
      rw [Shape.rowMajor_val_four, Shape.rowMajor_val_three]
      show (h.val * 64 + p.val) * 64 + n.val = ((0 * 16 + h.val) * 64 + p.val) * 64 + n.val
      rw [Nat.zero_mul, Nat.zero_add])).trans ?_
    rw [readCov_eq_canon', ← o.state ha b 8 le_rfl h p n]
    exact congrArg (View.canon (i.L26 b 8)) (funext fun
      | ⟨0, _⟩ => Fin.ext (by show 0 + 1 * h.val = h.val; omega)
      | ⟨1, _⟩ => Fin.ext (by show 0 + 1 * p.val = p.val; omega)
      | ⟨2, _⟩ => Fin.ext (by show 0 + 1 * n.val = n.val; omega))
  match b with
  | ⟨0, _⟩ => exact (canon_miss _ _ _ _ (0 : Fin 4) (.inl Nat.zero_lt_one)).trans (key [])
  | ⟨1, _⟩ => exact key _

end Of

end Cert.KernelIdeal.Fold
-- ==== Proof.RefPre.lean ====
/-
  What the reference computes before its loop, at an index, as values of the arguments.
-/
module

public import proofs.«01_k».proof.Proof.Spec
public import proofs.«01_k».proof.Proof.Arr
public import proofs.«01_k».proof.Proof.Gen.ReferenceIdeal.Step
public import Idealize.ShloMosaic.Lib.Pointwise

@[expose] public section

set_option maxRecDepth 16384

noncomputable section

namespace Cert.ReferenceIdeal.Pre

open Idealize.ShloMosaic
open Cert.ReferenceIdeal Cert.ReferenceIdeal.Gen Cert.ReferenceIdeal.Step

variable (A : Arr)

/-- A row's mean. -/
theorem v3 (b : Fin 2) (t : Fin 1024) : A_main_v3 (F := Ideal)
    A.a0 A.a2 A.a4 A.a5 A.a6 A.a7 A.a8 A.a9 A.a10 A.a11 A.a12 A.a13 A.a14 A.a16 A.a17 A.a18 A.a19 (ix3 b t 0) = Spec.mean (A.args.x b t) := by
  unfold A_main_v3 A_main_v1 A_main_v0 K_main_v2 K_main_cst_0 K_main_cst
  pointwise [Spec.mean, Arr.args]

/-- The mean of the centred row's squares. -/
theorem v10 (b : Fin 2) (t : Fin 1024) : A_main_v10 (F := Ideal)
    A.a0 A.a2 A.a4 A.a5 A.a6 A.a7 A.a8 A.a9 A.a10 A.a11 A.a12 A.a13 A.a14 A.a16 A.a17 A.a18 A.a19 (ix3 b t 0)
    = Spec.mean (fun e => A.args.cent b t e * A.args.cent b t e) := by
  unfold A_main_v10 A_main_v8 A_main_v7 A_main_v6 A_main_v5 A_main_v4 K_main_v9 K_main_cst_2 K_main_cst_1
  pointwise [Spec.mean, Spec.Args.cent, v3]
  rfl

/-- The normalised rows. -/
theorem v23 (b : Fin 2) (t d : Fin 1024) : A_main_v23 (F := Ideal)
    A.a0 A.a2 A.a4 A.a5 A.a6 A.a7 A.a8 A.a9 A.a10 A.a11 A.a12 A.a13 A.a14 A.a16 A.a17 A.a18 A.a19 (ix3 b t d) = A.args.xn b t d := by
  unfold A_main_v23 A_main_v22 A_main_v21 A_main_v20 A_main_v19 A_main_v18 A_main_v17 A_main_v16 A_main_v15 A_main_v14
    A_main_v12 A_main_v11 K_main_v13 K_main_cst_3
  pointwise [v3, v10, Spec.Args.xn, Spec.Args.cent]
  rfl

/-- The input projection, at a row of its weight. -/
theorem v25 (b : Fin 2) (t : Fin 1024) (e : Fin 2048) : A_main_v25 (F := Ideal)
    A.a0 A.a2 A.a4 A.a5 A.a6 A.a7 A.a8 A.a9 A.a10 A.a11 A.a12 A.a13 A.a14 A.a16 A.a17 A.a18 A.a19 (ix3 b t e)
    = Spec.dot (A.args.xn b t) (A.args.win e) := by
  unfold A_main_v25 A_main_v24
  pointwise [v23, Spec.dot]
  rfl

/-- The gate's argument. -/
theorem v26 (b : Fin 2) (t e : Fin 1024) : A_main_v26 (F := Ideal)
    A.a0 A.a2 A.a4 A.a5 A.a6 A.a7 A.a8 A.a9 A.a10 A.a11 A.a12 A.a13 A.a14 A.a16 A.a17 A.a18 A.a19 (ix3 b t e) = A.args.z b t e := by
  unfold A_main_v26
  pointwise [v25, Spec.Args.z]

/-- The convolution's input. -/
theorem v27 (b : Fin 2) (t e : Fin 1024) : A_main_v27 (F := Ideal)
    A.a0 A.a2 A.a4 A.a5 A.a6 A.a7 A.a8 A.a9 A.a10 A.a11 A.a12 A.a13 A.a14 A.a16 A.a17 A.a18 A.a19 (ix3 b t e) = A.args.u b t e := by
  unfold A_main_v27
  pointwise [v25, Spec.Args.u]

/-- The same after the four rows kept from before. -/
theorem v29 (b : Fin 2) (j : Fin 1028) (e : Fin 1024) : A_main_v29 (F := Ideal)
    A.a0 A.a2 A.a4 A.a5 A.a6 A.a7 A.a8 A.a9 A.a10 A.a11 A.a12 A.a13 A.a14 A.a16 A.a17 A.a18 A.a19 (ix3 b j e) = A.args.ucat b j e := by
  unfold A_main_v29 A_main_v28
  pointwise [v27, Spec.Args.ucat]
  rfl

/-- The convolution. -/
theorem v59 (b : Fin 2) (t e : Fin 1024) : A_main_v59 (F := Ideal)
    A.a0 A.a2 A.a4 A.a5 A.a6 A.a7 A.a8 A.a9 A.a10 A.a11 A.a12 A.a13 A.a14 A.a16 A.a17 A.a18 A.a19 (ix3 b t e) = A.args.acc b t e := by
  unfold A_main_v59 A_main_v58 A_main_v57 A_main_v56 A_main_v55 A_main_v54 A_main_v53 A_main_v52 A_main_v51 A_main_v50
    A_main_v49 A_main_v48 A_main_v47 A_main_v46 A_main_v45 A_main_v44 A_main_v43 A_main_v42 A_main_v41 A_main_v40
    A_main_v39 A_main_v38 A_main_v37 A_main_v36 A_main_v35 A_main_v34 A_main_v33 A_main_v32 A_main_v31 A_main_v30
  pointwise [v29, Spec.Args.acc, Spec.Args.tap]
  rfl

/-- The convolution, activated. -/
theorem v60 (b : Fin 2) (t e : Fin 1024) : A_main_v60 (F := Ideal)
    A.a0 A.a2 A.a4 A.a5 A.a6 A.a7 A.a8 A.a9 A.a10 A.a11 A.a12 A.a13 A.a14 A.a16 A.a17 A.a18 A.a19 (ix3 b t e) = A.args.uc b t e := by
  unfold A_main_v60 A_main_call0_v5 A_main_call0_v3 A_main_call0_v1 A_main_call0_v0 K_main_call0_v4 K_main_call0_v2
    K_main_call0_cst K_main_call0_cst_0
  pointwise [v59, Spec.Args.uc, Spec.silu]

/-- Its heads. -/
theorem v73 (b : Fin 2) (t : Fin 1024) (h : Fin 16) (p : Fin 64) : A_main_v73 (F := Ideal)
    A.a0 A.a2 A.a4 A.a5 A.a6 A.a7 A.a8 A.a9 A.a10 A.a11 A.a12 A.a13 A.a14 A.a16 A.a17 A.a18 A.a19 (ix4 b t h p)
    = A.args.uh b t h p := by
  unfold A_main_v73
  pointwise [v60, Spec.Args.uh]
  exact congrArg (A.args.uc b t) (Fin.ext (by show h.val * 64 + p.val = 64 * h.val + p.val; omega))

/-- The step sizes' argument. -/
theorem v65 (b : Fin 2) (t : Fin 1024) (h : Fin 16) : A_main_v65 (F := Ideal)
    A.a0 A.a2 A.a4 A.a5 A.a6 A.a7 A.a8 A.a9 A.a10 A.a11 A.a12 A.a13 A.a14 A.a16 A.a17 A.a18 A.a19 (ix3 b t h)
    = Spec.dot (A.args.xn b t) (A.args.wdt h) + A.args.dtb h := by
  unfold A_main_v65 A_main_v64 A_main_v63 A_main_v62 A_main_v61
  pointwise [v23, Spec.dot]
  rfl

/-- The step sizes. -/
theorem v66 (b : Fin 2) (t : Fin 1024) (h : Fin 16) : A_main_v66 (F := Ideal)
    A.a0 A.a2 A.a4 A.a5 A.a6 A.a7 A.a8 A.a9 A.a10 A.a11 A.a12 A.a13 A.a14 A.a16 A.a17 A.a18 A.a19 (ix3 b t h) = A.args.dt b t h := by
  unfold A_main_v66 A_main_call1_v11 A_main_call1_v10 A_main_call1_v9 A_main_call1_v8 A_main_call1_v7 A_main_call1_v6
    A_main_call1_v4 A_main_call1_v3 A_main_call1_v1 K_main_call1_v0 K_main_call1_v2 K_main_call1_v5 K_main_call1_cst
  pointwise [v65, Spec.Args.dt, Spec.soft]
  rw [if_neg (fun h => h rfl), Ideal.absf_def]

/-- The decay parameters. -/
theorem v68 (h : Fin 16) : A_main_v68 (F := Ideal)
    A.a0 A.a2 A.a4 A.a5 A.a6 A.a7 A.a8 A.a9 A.a10 A.a11 A.a12 A.a13 A.a14 A.a16 A.a17 A.a18 A.a19 (ix1 h) = A.args.A h := by
  unfold A_main_v68 A_main_v67
  pointwise [Spec.Args.A]
  rfl

/-- What the state scan writes. -/
theorem v70 (b : Fin 2) (t : Fin 1024) (n : Fin 64) : A_main_v70 (F := Ideal)
    A.a0 A.a2 A.a4 A.a5 A.a6 A.a7 A.a8 A.a9 A.a10 A.a11 A.a12 A.a13 A.a14 A.a16 A.a17 A.a18 A.a19 (ix3 b t n) = A.args.Bm b t n := by
  unfold A_main_v70 A_main_v69
  pointwise [v23, Spec.dot, Spec.Args.Bm]
  rfl

/-- What it reads with. -/
theorem v72 (b : Fin 2) (t : Fin 1024) (n : Fin 64) : A_main_v72 (F := Ideal)
    A.a0 A.a2 A.a4 A.a5 A.a6 A.a7 A.a8 A.a9 A.a10 A.a11 A.a12 A.a13 A.a14 A.a16 A.a17 A.a18 A.a19 (ix3 b t n) = A.args.Cm b t n := by
  unfold A_main_v72 A_main_v71
  pointwise [v23, Spec.dot, Spec.Args.Cm]
  rfl

/-- The token-shift mix. -/
theorem v78 (b : Fin 2) (t d : Fin 1024) : A_main_v78 (F := Ideal)
    A.a0 A.a2 A.a4 A.a5 A.a6 A.a7 A.a8 A.a9 A.a10 A.a11 A.a12 A.a13 A.a14 A.a16 A.a17 A.a18 A.a19 (ix3 b t d) = A.args.mix b t d := by
  unfold A_main_v78 A_main_v76 A_main_v75 A_main_v74 K_main_v77 K_main_cst_4
  pointwise [v23, Spec.Args.mix, Spec.Args.prev]
  refine congrArg (fun y => Ideal.ofBits .f32 0x3F000000#32 * (A.args.xn b t d + y)) ?_
  by_cases h : t.val < 1
  · rw [dif_pos h, if_pos h]
    exact congrArg (fun q : Fin 1 => A.a2 (ix3 b q d)) (Fin.ext (by show t.val = 0; omega))
  · rw [dif_neg h, if_neg h]

/-- What the key-value scan reads with. -/
theorem v80 (b : Fin 2) (t : Fin 1024) (n : Fin 64) : A_main_v80 (F := Ideal)
    A.a0 A.a2 A.a4 A.a5 A.a6 A.a7 A.a8 A.a9 A.a10 A.a11 A.a12 A.a13 A.a14 A.a16 A.a17 A.a18 A.a19 (ix3 b t n) = A.args.r b t n := by
  unfold A_main_v80 A_main_v79
  pointwise [v78, Spec.dot, Spec.Args.r]
  rfl

/-- Its keys. -/
theorem v82 (b : Fin 2) (t : Fin 1024) (n : Fin 64) : A_main_v82 (F := Ideal)
    A.a0 A.a2 A.a4 A.a5 A.a6 A.a7 A.a8 A.a9 A.a10 A.a11 A.a12 A.a13 A.a14 A.a16 A.a17 A.a18 A.a19 (ix3 b t n) = A.args.k b t n := by
  unfold A_main_v82 A_main_v81
  pointwise [v78, Spec.dot, Spec.Args.k]
  rfl

/-- Its values. -/
theorem v84 (b : Fin 2) (t : Fin 1024) (n : Fin 64) : A_main_v84 (F := Ideal)
    A.a0 A.a2 A.a4 A.a5 A.a6 A.a7 A.a8 A.a9 A.a10 A.a11 A.a12 A.a13 A.a14 A.a16 A.a17 A.a18 A.a19 (ix3 b t n) = A.args.v b t n := by
  unfold A_main_v84 A_main_v83
  pointwise [v78, Spec.dot, Spec.Args.v]
  rfl

/-- Its decays. -/
theorem v89 (b : Fin 2) (t : Fin 1024) (n : Fin 64) : A_main_v89 (F := Ideal)
    A.a0 A.a2 A.a4 A.a5 A.a6 A.a7 A.a8 A.a9 A.a10 A.a11 A.a12 A.a13 A.a14 A.a16 A.a17 A.a18 A.a19 (ix3 b t n)
    = Ideal.exp (A.args.lw b t n) := by
  unfold A_main_v89 A_main_v88 A_main_v87 A_main_v86 A_main_v85
  pointwise [v78, Spec.dot, Spec.Args.lw]
  rfl

end Cert.ReferenceIdeal.Pre
-- ==== Proof.RefLoop.lean ====
/-
  The reference's loop, at an index: after `n` trips its two states are the recurrences' after `n` steps, and the first `n`
  rows that it has stored are the first result's.
-/
module

public import proofs.«01_k».proof.Proof.RefPre
public import Idealize.ShloMosaic.Lib.DynamicIndex
public import Idealize.ShloMosaic.Lib.Pipeline.ValueKit

@[expose] public section

set_option maxRecDepth 16384

noncomputable section

namespace Cert.ReferenceIdeal.Loop

open Idealize.ShloMosaic
open Cert.ReferenceIdeal Cert.ReferenceIdeal.Gen Cert.ReferenceIdeal.Step

/-! ## One row of an array that has the rows outermost -/

/-- Row `j` of a stack of matrices of two rows. -/
theorem row3 {m : ℕ} (x : (⟨3, ![1024, 2, m]⟩ : Shape).Idx → EReal) (t : Fin 1024) (st : Fin 3 → Int)
    (h0 : st 0 = (t.val : Int)) (h1 : st 1 = 0) (h2 : st 2 = 0)
    (h : (⟨3, ![1024, 2, m]⟩ : Shape).Slices (fun _ => 0) ⟨3, ![1, 2, m]⟩)
    (hc : (⟨3, ![1, 2, m]⟩ : Shape).ShapeCasts ⟨2, ![2, m]⟩) (b : Fin 2) (d : Fin m) :
    shapeCast ⟨2, ![2, m]⟩ (Host.dynamicSlice ⟨3, ![1, 2, m]⟩ x st h) hc (ix2 b d) = x (ix3 t b d) := by
  refine (shapeCast_apply _ _ _ (ix3 (0 : Fin 1) b d) (by
    rw [Shape.rowMajor_val_three, Shape.rowMajor_val_two]
    show (0 * 2 + b.val) * m + d.val = b.val * m + d.val
    rw [Nat.zero_mul, Nat.zero_add])).trans ?_
  rw [Host.dynamicSlice_eq_extractStridedSlice _ _ _ ![t.val, 0, 0] h ⟨rfl, fun
    | ⟨0, _⟩ => t.isLt | ⟨1, _⟩ => le_rfl | ⟨2, _⟩ => (Nat.zero_add m).le⟩ (fun
    | ⟨0, _⟩ => h0 | ⟨1, _⟩ => h1 | ⟨2, _⟩ => h2)]
  exact congrArg x (funext fun
    | ⟨0, _⟩ => Fin.ext (Nat.add_zero _) | ⟨1, _⟩ => Fin.ext (Nat.zero_add _) | ⟨2, _⟩ => Fin.ext (Nat.zero_add _))

/-- The same where each matrix is a stack of heads. -/
theorem row4 {m n : ℕ} (x : (⟨4, ![1024, 2, m, n]⟩ : Shape).Idx → EReal) (t : Fin 1024) (st : Fin 4 → Int)
    (h0 : st 0 = (t.val : Int)) (h1 : st 1 = 0) (h2 : st 2 = 0) (h3 : st 3 = 0)
    (h : (⟨4, ![1024, 2, m, n]⟩ : Shape).Slices (fun _ => 0) ⟨4, ![1, 2, m, n]⟩)
    (hc : (⟨4, ![1, 2, m, n]⟩ : Shape).ShapeCasts ⟨3, ![2, m, n]⟩) (b : Fin 2) (d : Fin m) (e : Fin n) :
    shapeCast ⟨3, ![2, m, n]⟩ (Host.dynamicSlice ⟨4, ![1, 2, m, n]⟩ x st h) hc (ix3 b d e) = x (ix4 t b d e) := by
  refine (shapeCast_apply _ _ _ (ix4 (0 : Fin 1) b d e) (by
    rw [Shape.rowMajor_val_four, Shape.rowMajor_val_three]
    show ((0 * 2 + b.val) * m + d.val) * n + e.val = (b.val * m + d.val) * n + e.val
    rw [Nat.zero_mul, Nat.zero_add])).trans ?_
  rw [Host.dynamicSlice_eq_extractStridedSlice _ _ _ ![t.val, 0, 0, 0] h ⟨rfl, fun
    | ⟨0, _⟩ => t.isLt | ⟨1, _⟩ => le_rfl | ⟨2, _⟩ => (Nat.zero_add m).le | ⟨3, _⟩ => (Nat.zero_add n).le⟩ (fun
    | ⟨0, _⟩ => h0 | ⟨1, _⟩ => h1 | ⟨2, _⟩ => h2 | ⟨3, _⟩ => h3)]
  exact congrArg x (funext fun
    | ⟨0, _⟩ => Fin.ext (Nat.add_zero _) | ⟨1, _⟩ => Fin.ext (Nat.zero_add _) | ⟨2, _⟩ => Fin.ext (Nat.zero_add _)
    | ⟨3, _⟩ => Fin.ext (Nat.zero_add _))

/-- Storing row `j` of such a stack leaves that row at the new values and the others as they were. -/
theorem put3 {m : ℕ} (x : (⟨3, ![1024, 2, m]⟩ : Shape).Idx → EReal) (w : (⟨3, ![1, 2, m]⟩ : Shape).Idx → EReal)
    (t : Fin 1024) (st : Fin 3 → Int)
    (h0 : st 0 = (t.val : Int)) (h1 : st 1 = 0) (h2 : st 2 = 0)
    (h : (⟨3, ![1024, 2, m]⟩ : Shape).Slices (fun _ => 0) ⟨3, ![1, 2, m]⟩) (q : Fin 1024) (b : Fin 2) (d : Fin m) :
    Host.dynamicUpdateSlice x w st h (ix3 q b d) = if q = t then w (ix3 0 b d) else x (ix3 q b d) := by
  rw [Host.dynamicUpdateSlice_eq_updateSlice x w st h ![t.val, 0, 0] (fun
    | ⟨0, _⟩ => by
      show (min (max (st 0) 0) ((1024 - 1 : ℕ) : Int)).toNat = t.val
      rw [h0]; omega
    | ⟨1, _⟩ => by
      show (min (max (st 1) 0) ((2 - 2 : ℕ) : Int)).toNat = 0
      rw [h1]; omega
    | ⟨2, _⟩ => by
      show (min (max (st 2) 0) ((m - m : ℕ) : Int)).toNat = 0
      rw [h2]; omega) ⟨rfl, fun
    | ⟨0, _⟩ => t.isLt | ⟨1, _⟩ => le_rfl | ⟨2, _⟩ => (Nat.zero_add m).le⟩]
  unfold updateSlice
  by_cases e : q = t
  · subst e
    rw [if_pos rfl, dif_pos (fun
      | ⟨0, _⟩ => ⟨le_rfl, Nat.lt_succ_self _⟩
      | ⟨1, _⟩ => ⟨Nat.zero_le _, by show b.val < 0 + 2; omega⟩
      | ⟨2, _⟩ => ⟨Nat.zero_le _, by show d.val < 0 + m; omega⟩)]
    exact congrArg w (funext fun
      | ⟨0, _⟩ => Fin.ext (Nat.sub_self _) | ⟨1, _⟩ => rfl | ⟨2, _⟩ => rfl)
  · rw [if_neg e, dif_neg (fun g => e (Fin.ext (by
      have h := g (0 : Fin 3)
      have h1 : t.val ≤ q.val := h.1
      have h2 : q.val < t.val + 1 := h.2
      omega)))]

/-- The counter read as an integer. -/
theorem counter (t : Fin 1024) : (BitVec.ofNat 32 t.val).toInt = (t.val : Int) :=
  toInt_ofNat_of_lt (by have := t.isLt; omega)

/-! ## The state after `n` trips -/

/-- The state after `n` trips holds the recurrences after `n` steps, the first `n` rows of the first result, and what was
    computed before the loop. -/
structure Inv (A : Arr) (n : ℕ) (s : State Ideal) : Prop where
  h : ∀ b h p q, s.main_v101_14 (ix4 b h p q) = A.args.hst b h p q n
  S : ∀ b i j, s.main_v101_15 (ix3 b i j) = A.args.sst b i j n
  o : ∀ (t : Fin 1024) b e, t.val < n → s.main_v101_16 (ix3 t b e) = A.args.x1 b t e
  x : ∀ t b e, s.main_v101_0 (ix3 t b e) = A.args.x b t e
  z : ∀ t b e, s.main_v101_1 (ix3 t b e) = A.args.z b t e
  dt : ∀ t b h, s.main_v101_2 (ix3 t b h) = A.args.dt b t h
  u : ∀ t b h p, s.main_v101_3 (ix4 t b h p) = A.args.uh b t h p
  B : ∀ t b n, s.main_v101_4 (ix3 t b n) = A.args.Bm b t n
  C : ∀ t b n, s.main_v101_5 (ix3 t b n) = A.args.Cm b t n
  r : ∀ t b n, s.main_v101_6 (ix3 t b n) = A.args.r b t n
  k : ∀ t b n, s.main_v101_7 (ix3 t b n) = A.args.k b t n
  v : ∀ t b n, s.main_v101_8 (ix3 t b n) = A.args.v b t n
  w : ∀ t b n, s.main_v101_9 (ix3 t b n) = Ideal.exp (A.args.lw b t n)
  a : ∀ h, s.main_v101_10 (ix1 h) = A.args.A h
  wso : ∀ e q, s.main_v101_11 (ix2 e q) = A.args.wso e q
  wro : ∀ e q, s.main_v101_12 (ix2 e q) = A.args.wro e q

/-- The state that the reference starts the loop from. -/
def start (A : Arr) : State Ideal :=
  init A.a3 A.a1 A.a15 A.a20 A.a0 A.a2 A.a4 A.a5 A.a6 A.a7 A.a8 A.a9 A.a10 A.a11 A.a12 A.a13 A.a14 A.a16 A.a17 A.a18 A.a19

/-- The state after `n` trips. -/
def it (A : Arr) : ℕ → State Ideal
  | 0 => start A
  | n + 1 => step n (it A n)

/-- Before the loop. -/
theorem inv_start (A : Arr) : Inv A 0 (start A) := by
  constructor
  · intro b h p q; rfl
  · intro b i j; rfl
  · intro t b e h; exact absurd h (Nat.not_lt_zero _)
  · intro t b e; unfold start init A_main_v90; pointwise [Arr.args]
  · intro t b e; unfold start init A_main_v91; pointwise [Pre.v26]
  · intro t b h; unfold start init A_main_v92; pointwise [Pre.v66]
  · intro t b h p; unfold start init A_main_v93; pointwise [Pre.v73]
  · intro t b n; unfold start init A_main_v94; pointwise [Pre.v70]
  · intro t b n; unfold start init A_main_v95; pointwise [Pre.v72]
  · intro t b n; unfold start init A_main_v96; pointwise [Pre.v80]
  · intro t b n; unfold start init A_main_v97; pointwise [Pre.v82]
  · intro t b n; unfold start init A_main_v98; pointwise [Pre.v84]
  · intro t b n; unfold start init A_main_v99; pointwise [Pre.v89]
  · intro h; exact Pre.v68 A h
  · intro e q; rfl
  · intro e q; rfl

namespace Inv

variable {A : Arr} {n : ℕ} {s : State Ideal} (t : Fin 1024) (o : Inv A t.val s)
include o

theorem b3 (b : Fin 2) (e : Fin 1024) : Step.b3 t.val s (ix2 b e) = A.args.x b t e := by
  unfold Step.b3 Step.b2
  exact (row3 _ t _ (counter t) rfl rfl _ _ b e).trans (o.x t b e)

theorem b7 (b : Fin 2) (e : Fin 1024) : Step.b7 t.val s (ix2 b e) = A.args.z b t e := by
  unfold Step.b7 Step.b6
  exact (row3 _ t _ (counter t) rfl rfl _ _ b e).trans (o.z t b e)

theorem b11 (b : Fin 2) (h : Fin 16) : Step.b11 t.val s (ix2 b h) = A.args.dt b t h := by
  unfold Step.b11 Step.b10
  exact (row3 _ t _ (counter t) rfl rfl _ _ b h).trans (o.dt t b h)

theorem b16 (b : Fin 2) (h : Fin 16) (p : Fin 64) : Step.b16 t.val s (ix3 b h p) = A.args.uh b t h p := by
  unfold Step.b16 Step.b15
  exact (row4 _ t _ (counter t) rfl rfl rfl _ _ b h p).trans (o.u t b h p)

theorem b20 (b : Fin 2) (n : Fin 64) : Step.b20 t.val s (ix2 b n) = A.args.Bm b t n := by
  unfold Step.b20 Step.b19
  exact (row3 _ t _ (counter t) rfl rfl _ _ b n).trans (o.B t b n)

theorem b24 (b : Fin 2) (n : Fin 64) : Step.b24 t.val s (ix2 b n) = A.args.Cm b t n := by
  unfold Step.b24 Step.b23
  exact (row3 _ t _ (counter t) rfl rfl _ _ b n).trans (o.C t b n)

theorem b28 (b : Fin 2) (n : Fin 64) : Step.b28 t.val s (ix2 b n) = A.args.r b t n := by
  unfold Step.b28 Step.b27
  exact (row3 _ t _ (counter t) rfl rfl _ _ b n).trans (o.r t b n)

theorem b32 (b : Fin 2) (n : Fin 64) : Step.b32 t.val s (ix2 b n) = A.args.k b t n := by
  unfold Step.b32 Step.b31
  exact (row3 _ t _ (counter t) rfl rfl _ _ b n).trans (o.k t b n)

theorem b36 (b : Fin 2) (n : Fin 64) : Step.b36 t.val s (ix2 b n) = A.args.v b t n := by
  unfold Step.b36 Step.b35
  exact (row3 _ t _ (counter t) rfl rfl _ _ b n).trans (o.v t b n)

theorem b40 (b : Fin 2) (n : Fin 64) : Step.b40 t.val s (ix2 b n) = Ideal.exp (A.args.lw b t n) := by
  unfold Step.b40 Step.b39
  exact (row3 _ t _ (counter t) rfl rfl _ _ b n).trans (o.w t b n)

/-- The new state. -/
theorem b56 (b : Fin 2) (h : Fin 16) (p q : Fin 64) : Step.b56 t.val s (ix4 b h p q) = A.args.hst b h p q (t.val + 1) := by
  unfold Step.b56 Step.b55 Step.b54 Step.b53 Step.b52 Step.b51 Step.b50 Step.b49 Step.b48 Step.b47 Step.b46 Step.b45 Step.b44
    Step.b43 Step.b42 Step.b41
  pointwise [b11 t o, b16 t o, b20 t o, o.h, o.a, Spec.Args.hst, Spec.tm_val]

/-- The new key-value state. -/
theorem b65 (b : Fin 2) (i j : Fin 64) : Step.b65 t.val s (ix3 b i j) = A.args.sst b i j (t.val + 1) := by
  unfold Step.b65 Step.b64 Step.b63 Step.b62 Step.b61 Step.b60 Step.b59 Step.b58 Step.b57
  pointwise [b32 t o, b36 t o, b40 t o, o.S, Spec.Args.sst, Spec.tm_val]

/-- What the state scan emits. -/
theorem b68 (b : Fin 2) (q : Fin 1024) : Step.b68 t.val s (ix2 b q) = A.args.ysf b t q := by
  unfold Step.b68 Step.b66
  pointwise [b56 t o, b24 t o, Spec.Args.ysf, Spec.Args.ys]

/-- What the key-value scan emits. -/
theorem b67 (b : Fin 2) (i : Fin 64) : Step.b67 t.val s (ix2 b i) = A.args.yr b t i := by
  unfold Step.b67
  pointwise [b65 t o, b28 t o, Spec.Args.yr]

/-- The first result's row. -/
theorem b84 (b : Fin 2) (e : Fin 1024) : Step.b84 t.val s (ix2 b e) = A.args.x1 b t e := by
  unfold Step.b84 Step.b83 Step.b82 Step.b81 Step.b80 Step.b79 Step.b78 Step.b77 Step.b76 Step.b75 Step.b74 Step.b73
    Step.b72 Step.b71 Step.b70 Step.b69
  pointwise [b3 t o, b7 t o, b67 t o, b68 t o, o.wso, o.wro, Spec.Args.x1, Spec.dot, Spec.silu]

/-- One more trip. -/
theorem next : Inv A (t.val + 1) (step t.val s) where
  h b h p q := by rw [step_main_v101_14]; exact b56 t o b h p q
  S b i j := by rw [step_main_v101_15]; exact b65 t o b i j
  o q b e hq := by
    rw [step_main_v101_16]
    unfold Step.b88
    refine (put3 _ _ t _ (counter t) rfl rfl _ q b e).trans ?_
    split
    · rename_i h
      subst h
      unfold Step.b85
      pointwise [b84 q o]
    · rename_i h
      exact o.o q b e (by have : q.val ≠ t.val := fun g => h (Fin.ext g); omega)
  x := o.x
  z := o.z
  dt := o.dt
  u := o.u
  B := o.B
  C := o.C
  r := o.r
  k := o.k
  v := o.v
  w := o.w
  a := o.a
  wso := o.wso
  wro := o.wro

end Inv

/-- After `n` trips. -/
theorem inv (A : Arr) : ∀ n, n ≤ 1024 → Inv A n (it A n)
  | 0, _ => inv_start A
  | n + 1, h => (inv A n (by omega)).next (⟨n, h⟩ : Fin 1024)

/-! ## The results -/

/-- The first result. -/
theorem res17 (A : Arr) (b : Fin 2) (t e : Fin 1024) : R_main_v132 (it A 1024) (ix3 b t e) = A.args.x1 b t e := by
  unfold R_main_v132
  pointwise [(inv A 1024 le_rfl).o t b e t.isLt]

/-- The fifth result: the last normalised row. -/
theorem res21 (A : Arr) (b : Fin 2) (d : Fin 1024) :
    R_main_v133 (it A 1024) A.a0 A.a5 A.a6 (ix3 b 0 d) = A.args.xn b 1023 d := by
  unfold R_main_v133
  pointwise [Spec.Args.xn, Spec.Args.cent, Spec.mean, Arr.args]

/-- The fourth result: the convolution's last four inputs and four rows of zeros. -/
theorem res20 (A : Arr) (b : Fin 2) (j : Fin 8) (e : Fin 1024) :
    R_main_v131 (it A 1024) A.a0 A.a5 A.a6 A.a7 (ix3 b j e) = A.args.tail b j e := by
  unfold R_main_v131
  pointwise [Spec.Args.tail, Spec.Args.u, Spec.dot, Spec.Args.xn, Spec.Args.cent, Spec.mean, Arr.args]

end Cert.ReferenceIdeal.Loop
-- ==== Proof.RefRun.lean ====
/-
  The reference's execution, by the states that its loop goes through: what the buffers hold before each trip is that trip's
  state, so the results are read from the last one.
-/
module

public import proofs.«01_k».proof.Proof.Gen.ReferenceIdeal.Run
public import proofs.«01_k».proof.Proof.RefLoop

@[expose] public section

set_option maxRecDepth 65536

noncomputable section

namespace Cert.ReferenceIdeal.Exec

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable (V : Valuation τ sig (Elt Ideal)) (s : State Ideal) (j : ℕ)

/-- Buffers that hold the state before trip `j`: the carried arrays, and the counter at `j`. -/
structure At : Prop where
  f14 : V (Proc.devRef .tc main_v101_14) = s.main_v101_14
  f15 : V (Proc.devRef .tc main_v101_15) = s.main_v101_15
  f16 : V (Proc.devRef .tc main_v101_16) = s.main_v101_16
  f0 : V (Proc.devRef .tc main_v101_0) = s.main_v101_0
  f1 : V (Proc.devRef .tc main_v101_1) = s.main_v101_1
  f2 : V (Proc.devRef .tc main_v101_2) = s.main_v101_2
  f3 : V (Proc.devRef .tc main_v101_3) = s.main_v101_3
  f4 : V (Proc.devRef .tc main_v101_4) = s.main_v101_4
  f5 : V (Proc.devRef .tc main_v101_5) = s.main_v101_5
  f6 : V (Proc.devRef .tc main_v101_6) = s.main_v101_6
  f7 : V (Proc.devRef .tc main_v101_7) = s.main_v101_7
  f8 : V (Proc.devRef .tc main_v101_8) = s.main_v101_8
  f9 : V (Proc.devRef .tc main_v101_9) = s.main_v101_9
  f10 : V (Proc.devRef .tc main_v101_10) = s.main_v101_10
  f11 : V (Proc.devRef .tc main_v101_11) = s.main_v101_11
  f12 : V (Proc.devRef .tc main_v101_12) = s.main_v101_12
  k : V (Proc.devRef .tc main_v101_13) = constantI S_ 32 (BitVec.ofNat 32 j)

variable {V s j}

/-- The gate's row of the trip. -/
theorem row135 (h : At V s j) : res_main_while0b_v135 V = b7 j s := by
  unfold res_main_while0b_v135
  rw [h.f1, h.k]
  rfl

/-- The step sizes of the trip. -/
theorem row136 (h : At V s j) : res_main_while0b_v136 V = b11 j s := by
  unfold res_main_while0b_v136
  rw [h.f2, h.k]
  rfl

/-- The scan's state after the trip. -/
theorem scan (h : At V s j) : res_main_while0b_v159 V = b56 j s := by
  unfold res_main_while0b_v159
  rw [row136 h, h.f14, h.f10, h.f3, h.f4, h.k]
  rfl

/-- The attention's state after the trip. -/
theorem attn (h : At V s j) : res_main_while0b_v168 V = b65 j s := by
  unfold res_main_while0b_v168
  rw [h.f15, h.f9, h.f8, h.f7, h.k]
  rfl

/-- The rows of the first result after the trip. -/
theorem rows (h : At V s j) : Value.step_main_v101_16 V = b88 j s := by
  unfold Value.step_main_v101_16
  rw [row135 h, scan h, attn h, h.f16, h.f0, h.f5, h.f6, h.f11, h.f12, h.k]
  rfl

/-- The counter after the trip. -/
theorem count (h : At V s j) : Value.step_main_v101_13 V = constantI S_ 32 (BitVec.ofNat 32 (j + 1)) := by
  unfold Value.step_main_v101_13
  rw [h.k, BitVec.ofNat_add]
  rfl

/-- A trip takes buffers that hold a state to buffers that hold the next. -/
theorem next (h : At V s j) : At (STEP V) (step j s) (j + 1) where
  f14 := (STEP_main_v101_14 V).trans (scan h)
  f15 := (STEP_main_v101_15 V).trans (attn h)
  f16 := (STEP_main_v101_16 V).trans (rows h)
  k := (STEP_main_v101_13 V).trans (count h)
  f0 := (STEP_main_v101_0 V).trans h.f0
  f1 := (STEP_main_v101_1 V).trans h.f1
  f2 := (STEP_main_v101_2 V).trans h.f2
  f3 := (STEP_main_v101_3 V).trans h.f3
  f4 := (STEP_main_v101_4 V).trans h.f4
  f5 := (STEP_main_v101_5 V).trans h.f5
  f6 := (STEP_main_v101_6 V).trans h.f6
  f7 := (STEP_main_v101_7 V).trans h.f7
  f8 := (STEP_main_v101_8 V).trans h.f8
  f9 := (STEP_main_v101_9 V).trans h.f9
  f10 := (STEP_main_v101_10 V).trans h.f10
  f11 := (STEP_main_v101_11 V).trans h.f11
  f12 := (STEP_main_v101_12 V).trans h.f12

variable (m : (ℓ : Loc nD τ sig) → Buf (Elt Ideal) ℓ) (c : Dev nD)

/-- The reference's argument arrays in core `c`'s memory. -/
def arr : Arr :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13), m ((c.tc : Thread nD τ).loc main_arg14),
   m ((c.tc : Thread nD τ).loc main_arg15), m ((c.tc : Thread nD τ).loc main_arg16), m ((c.tc : Thread nD τ).loc main_arg17),
   m ((c.tc : Thread nD τ).loc main_arg18), m ((c.tc : Thread nD τ).loc main_arg19), m ((c.tc : Thread nD τ).loc main_arg20)⟩

set_option maxHeartbeats 1500000 in
/-- The operations before the loop leave the first state. -/
theorem entry : At (entryContents preI m c) (Loop.it (arr m c) 0) 0 := by
  constructor <;> (simp only [entryContents, afterL_cons, afterL_nil]; after_reads_simp) <;> rfl

/-- Before trip `n` the buffers hold the `n`-th state. -/
theorem before : ∀ n, At (STEP^[n] (entryContents preI m c)) (Loop.it (arr m c) n) n
  | 0 => entry m c
  | n + 1 => by
    rw [Function.iterate_succ_apply']
    exact next (before n)

/-- What a last state's buffers give for the first result. -/
theorem last132 (h : At V s j) : out_main_v132 V = R_main_v132 s := by
  unfold out_main_v132
  rw [h.f16]
  rfl

/-- Every execution of the reference ends with its five results read from the last state, and its arguments kept. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v132) = R_main_v132 (Loop.it (arr m c) 1024)
      ∧ r.2.mem ((c.tc : Thread nD τ).loc main_v101_14) = (Loop.it (arr m c) 1024).main_v101_14
      ∧ r.2.mem ((c.tc : Thread nD τ).loc main_v101_15) = (Loop.it (arr m c) 1024).main_v101_15
      ∧ r.2.mem ((c.tc : Thread nD τ).loc main_v131) =
        R_main_v131 (Loop.it (arr m c) 1024) (arr m c).a0 (arr m c).a5 (arr m c).a6 (arr m c).a7
      ∧ r.2.mem ((c.tc : Thread nD τ).loc main_v133) =
        R_main_v133 (Loop.it (arr m c) 1024) (arr m c).a0 (arr m c).a5 (arr m c).a6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  refine (θ_run defs _ _).mono (fun r H c => ?_) (Value.run (F := Ideal) m ρ)
  obtain ⟨q0, q1, q2, q3, q4, args⟩ := H c
  have h := before m c 1024
  refine ⟨q0.trans (last132 h), q1.trans h.f14, q2.trans h.f15, q3.trans ?_, q4.trans ?_, args⟩
  · unfold out_main_v131
    rw [iter_main_arg0 m c 1024, iter_main_arg5 m c 1024, iter_main_arg6 m c 1024, iter_main_arg7 m c 1024]
    rfl
  · unfold out_main_v133
    rw [iter_main_arg0 m c 1024, iter_main_arg5 m c 1024, iter_main_arg6 m c 1024]
    rfl

end Cert.ReferenceIdeal.Exec

end
-- ==== Proof.Equal.lean ====
/-
  The two programs' results are equal, array by array: both are the specification's values at every index.
-/
module

public import proofs.«01_k».proof.Proof.KArr
public import proofs.«01_k».proof.Proof.KOut
public import proofs.«01_k».proof.Proof.RefRun

@[expose] public section

set_option maxRecDepth 16384

noncomputable section

namespace Cert.Equal

open Idealize.ShloMosaic Idealize.ShloMosaic.TcCoe Idealize.SL.Sem
open Cert.KernelIdeal Cert.KernelIdeal.Gen Cert.ReferenceIdeal.Loop

/-- Two arrays of three axes that agree at every triple of coordinates are equal. -/
theorem ext3 {p q r : ℕ} {f g : (⟨3, ![p, q, r]⟩ : Shape).Idx → EReal}
    (h : ∀ i j k, f (ix3 i j k) = g (ix3 i j k)) : f = g := by
  funext y
  have e : y = ix3 (y 0) (y 1) (y 2) := funext fun | ⟨0, _⟩ => rfl | ⟨1, _⟩ => rfl | ⟨2, _⟩ => rfl
  rw [e]
  exact h _ _ _

/-- The same for four axes. -/
theorem ext4 {p q r s : ℕ} {f g : (⟨4, ![p, q, r, s]⟩ : Shape).Idx → EReal}
    (h : ∀ i j k l, f (ix4 i j k l) = g (ix4 i j k l)) : f = g := by
  funext y
  have e : y = ix4 (y 0) (y 1) (y 2) (y 3) :=
    funext fun | ⟨0, _⟩ => rfl | ⟨1, _⟩ => rfl | ⟨2, _⟩ => rfl | ⟨3, _⟩ => rfl
  rw [e]
  exact h _ _ _ _

variable (m : (ℓ : Loc nD τ sig) → Buf (Elt Ideal) ℓ) (c : Dev nD)

/-- Equal argument arrays in the two programs' memories. -/
theorem arr_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17))
    (h18 : m' ((c.tc : Thread Cert.ReferenceIdeal.nD Cert.ReferenceIdeal.τ).loc Cert.ReferenceIdeal.main_arg18) = m ((c.tc : Thread nD τ).loc main_arg18))
    (h19 : m' ((c.tc : Thread Cert.ReferenceIdeal.nD Cert.ReferenceIdeal.τ).loc Cert.ReferenceIdeal.main_arg19) = m ((c.tc : Thread nD τ).loc main_arg19))
    (h20 : m' ((c.tc : Thread Cert.ReferenceIdeal.nD Cert.ReferenceIdeal.τ).loc Cert.ReferenceIdeal.main_arg20) = m ((c.tc : Thread nD τ).loc main_arg20)) :
    Cert.ReferenceIdeal.Exec.arr m' c = Host.arr m c := by
  unfold Cert.ReferenceIdeal.Exec.arr Host.arr
  rw [h0, h1, h2, h3, h4, h5, h6, h7, h8, h9, h10, h11, h12, h13, h14, h15, h16, h17, h18, h19, h20]

/-- The first result: the layer's output before the tail. -/
theorem eq17 (ha : (Host.arr m c).args.Fin) :
    (dats m 0 c).arrAt 17 cfg0.N = Cert.ReferenceIdeal.Step.R_main_v132 (it (Host.arr m c) 1024) :=
  (Host.arr17 m c).trans (ext3 fun b t e => ((Host.of m c).res17 ha b t e).trans (res17 (Host.arr m c) b t e).symm)

/-- The second result: the state of the selective scan. -/
theorem eq18 (ha : (Host.arr m c).args.Fin) :
    (dats m 0 c).arrAt 18 cfg0.N = (it (Host.arr m c) 1024).main_v101_14 :=
  (Host.arr18 m c).trans (ext4 fun b h p n =>
    ((Host.of m c).res18 ha b h p n).trans ((inv (Host.arr m c) 1024 le_rfl).h b h p n).symm)

/-- The third result: the state of the linear attention. -/
theorem eq19 (ha : (Host.arr m c).args.Fin) :
    (dats m 0 c).arrAt 19 cfg0.N = (it (Host.arr m c) 1024).main_v101_15 :=
  (Host.arr19 m c).trans (ext3 fun b p n =>
    ((Host.of m c).res19 ha b p n).trans ((inv (Host.arr m c) 1024 le_rfl).S b p n).symm)

/-- The fourth result: the rows that the convolution carries on. -/
theorem eq20 : (dats m 0 c).arrAt 20 cfg0.N =
    Cert.ReferenceIdeal.Step.R_main_v131 (it (Host.arr m c) 1024) (Host.arr m c).a0 (Host.arr m c).a5 (Host.arr m c).a6 (Host.arr m c).a7 :=
  (Host.arr20 m c).trans (ext3 fun b j e => ((Host.of m c).res20 b j e).trans (res20 (Host.arr m c) b j e).symm)

/-- The fifth result: the last normalised row. -/
theorem eq21 : (dats m 0 c).arrAt 21 cfg0.N =
    Cert.ReferenceIdeal.Step.R_main_v133 (it (Host.arr m c) 1024) (Host.arr m c).a0 (Host.arr m c).a5 (Host.arr m c).a6 :=
  (Host.arr21 m c).trans (ext3 fun b j e => by
    obtain rfl : j = 0 := Subsingleton.elim _ _
    exact ((Host.of m c).res21 b e).trans (res21 (Host.arr m c) b e).symm)

end Cert.Equal

end
-- ==== Proof.Finite.lean ====
/-
  What the precondition says: every element of the arrays it names is a real number.
-/
module

public import proofs.«01_k».proof.Pre_finite
public import proofs.«01_k».proof.Proof.Spec
public import proofs.«01_k».proof.Proof.Arr
public import Idealize.ShloMosaic.Lib.ReduceAll
public import Idealize.ShloMosaic.Lib.Pointwise

@[expose] public section

set_option maxRecDepth 16384

noncomputable section

namespace Cert.Finite

open Idealize.ShloMosaic Cert.Pre_finite Cert.Spec

/-- The word of the infinity. -/
theorem ofBits_inf : Ideal.ofBits .f32 0x7F800000#32 = ⊤ := by simp [Ideal.ofBits, Ideal.ieee]

instance : Subsingleton S_.Idx := ⟨fun i j => funext fun k => k.elim0⟩

/-- An array whose absolute values are all below the infinity holds real numbers. -/
theorem real_of {s : Shape} {axes : List (Fin s.rank)} (x : FVec Ideal s .f32) (hb) (h : s.ReducesTo axes S_) (hu) (j : S_.Idx)
    (e : Host.reduce IntOp.andi (cmpf .olt (Host.absf x) (broadcastInDim s ![] hb (constant (F := Ideal) S_ .f32 0x7F800000#32)))
      (constantI S_ 1 1#1) h hu j = 1#1) (i : s.Idx) : IsReal (x i) := by
  have g := Host.reduce_andi_all _ _ h hu j e i
  have g' : max (x i) (-(x i)) < (⊤ : EReal) := by
    rw [← ofBits_inf]
    by_contra hn
    have z : BitVec.ofBool (decide (max (x i) (-(x i)) < Ideal.ofBits .f32 0x7F800000#32)) = 1#1 := g
    rw [decide_eq_false hn] at z
    exact absurd z (by decide)
  refine IsReal.of_ne (fun c => ?_) (fun c => ?_)
  · rw [c] at g'; exact absurd g' (by simp)
  · rw [c] at g'; exact absurd g' (by simp)

/-- The precondition: every argument but the two output projections holds real numbers. -/
theorem fin_of [hPre_finite : Cert.Pre_finite.Facts] (A : Arr)
    (e : Cert.Pre_finite.fn (F := Ideal) A.a0 A.a1 A.a2 A.a3 A.a4 A.a5 A.a6 A.a7 A.a8 A.a9 A.a10 A.a11 A.a12 A.a13 A.a14 A.a15
      A.a16 A.a17 A.a18 A.a19 A.a20 = fun _ => 1#1) : A.args.Fin := by
  have h := congrFun e (fun k => k.elim0)
  unfold fn fn_part1 fn_part2 fn_part3 fn_part4 fn_part5 at h
  obtain ⟨h, e19⟩ := IntOp.andi_eq_one.1 h
  obtain ⟨h, e18⟩ := IntOp.andi_eq_one.1 h
  obtain ⟨h, e17⟩ := IntOp.andi_eq_one.1 h
  obtain ⟨h, e16⟩ := IntOp.andi_eq_one.1 h
  obtain ⟨h, e14⟩ := IntOp.andi_eq_one.1 h
  obtain ⟨h, e13⟩ := IntOp.andi_eq_one.1 h
  obtain ⟨h, e12⟩ := IntOp.andi_eq_one.1 h
  obtain ⟨h, e11⟩ := IntOp.andi_eq_one.1 h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact {
    x := fun b t d => real_of _ _ _ _ _ e0 (ix3 b t d)
    wkv := fun b i j => real_of _ _ _ _ _ e1 (ix3 b i j)
    xp := fun b d => real_of _ _ _ _ _ e2 (ix3 b 0 d)
    ssd := fun b h p n => real_of _ _ _ _ _ e3 (ix4 b h p n)
    conv := fun b e k => real_of _ _ _ _ _ e4 (ix3 b e k)
    ns := fun d => real_of _ _ _ _ _ e5 (ix1 d)
    nb := fun d => real_of _ _ _ _ _ e6 (ix1 d)
    win := fun e d => real_of _ _ _ _ _ e7 (ix2 e d)
    cw := fun e k => real_of _ _ _ _ _ e8 (ix2 e k)
    cb := fun e => real_of _ _ _ _ _ e9 (ix1 e)
    wdt := fun h d => real_of _ _ _ _ _ e10 (ix2 h d)
    dtb := fun h => real_of _ _ _ _ _ e11 (ix1 h)
    alog := fun h => real_of _ _ _ _ _ e12 (ix1 h)
    wB := fun n d => real_of _ _ _ _ _ e13 (ix2 n d)
    wC := fun n d => real_of _ _ _ _ _ e14 (ix2 n d)
    wr := fun n d => real_of _ _ _ _ _ e16 (ix2 n d)
    wk := fun n d => real_of _ _ _ _ _ e17 (ix2 n d)
    wv := fun n d => real_of _ _ _ _ _ e18 (ix2 n d)
    ww := fun n d => real_of _ _ _ _ _ e19 (ix2 n d) }

end Cert.Finite
-- ==== Proof.TFold.lean ====
/-
  The tail call's body as a function of the blocks it reads, written once for a batch row, a step of the iteration and an
  expert.
-/
module

public import proofs.«01_k».proof.Proof.Gen.TailIdeal.Frame

@[expose] public section

set_option maxRecDepth 16384

noncomputable section

namespace Cert.TailIdeal.Fold

open Idealize.ShloMosaic
open Cert.TailIdeal Cert.TailIdeal.Gen

variable {F : FTy → Type} [FloatOps F]

/-- The blocks the body reads. -/
structure In (F : FTy → Type) where
  x0 : Vec F S2x1024x1024 .f32
  x1 : Vec F S2x1024x1024 .f32
  x2 : Vec F S2x64x64 .f32
  x3 : Vec F S2x1x384 .f32
  x4 : Vec F S64x1024 .f32
  x5 : Vec F S1024x64 .f32
  x6 : Vec F S32x32 .f32
  x7 : Vec F S32x1024 .bf16
  x8 : Vec F S1024x32 .bf16
  x9 : Vec F S8x1024 .bf16
  x10 : Vec F S8x1024x8 .bf16
  x11 : Vec F S8x8x1024 .bf16
  x12 : Vec F S1x1024 .f32
  x13 : Vec F S1x1024 .f32
  x14 : Vec F S1 .f32
  x15 : Vec F S384x1024 .f32
  x16 : Vec F S1024x384 .f32
  x17 : Vec F S1x1024 .f32
  x18 : Vec F S1x384 .f32
  x19 : Vec F S1 .f32

/-- The window of one batch element of x lies inside x. -/
theorem inb_x (b : Fin 2) : ∀ a, (![b.val, 0, 0] : Fin 3 → ℕ) a + S1x1024x1024.size a ≤ S2x1024x1024.size a := by
  revert b; decide
/-- The window of one batch element of the compressed state lies inside it. -/
theorem inb_rag (b : Fin 2) : ∀ a, (![b.val, 0, 0] : Fin 3 → ℕ) a + S1x64x64.size a ≤ S2x64x64.size a := by
  revert b; decide
/-- The window of one batch element of the memory vectors lies inside them. -/
theorem inb_mem (b : Fin 2) : ∀ a, (![b.val, 0, 0] : Fin 3 → ℕ) a + S1x1x384.size a ≤ S2x1x384.size a := by
  revert b; decide
/-- The window of one batch element of the sums lies inside them. -/
theorem inb_aux (b : Fin 2) : ∀ a, (![b.val, 0, 0] : Fin 3 → ℕ) a + S1x8x8.size a ≤ S2x8x8.size a := by
  revert b; decide
/-- The window of one expert lies inside the experts' first factors. -/
theorem inb_la (e : Fin 8) : ∀ a, (![e.val, 0, 0] : Fin 3 → ℕ) a + S1x1024x8.size a ≤ S8x1024x8.size a := by
  revert e; decide
/-- The window of one expert lies inside the experts' second factors. -/
theorem inb_lb (e : Fin 8) : ∀ a, (![e.val, 0, 0] : Fin 3 → ℕ) a + S1x8x1024.size a ≤ S8x8x1024.size a := by
  revert e; decide
/-- One expert's column of the gates is a slice of them. -/
theorem sl_gate (e : Fin 8) : S1024x8.Slices ![0, e.val] S1024x1 := by revert e; decide

/-- An expert's number, from any number. -/
def m8 (n : ℕ) : Fin 8 := ⟨n % 8, Nat.mod_lt _ (by decide)⟩

/-! ## The pure steps -/

/-- Half of a square less its transpose. -/
def skew (w : FVec F S32x32 .f32) : FVec F S32x32 .f32 :=
  mulf (broadcast S32x32 (Scalar.ofBits .f32 0x3F000000#32)) (subf w (transpose S32x32 [1, 0] w transposes_S32x32_p1_0_S32x32))

/-- The identity. -/
def eye : FVec F S32x32 .f32 :=
  sitofp .f32 (extui 32 (cmpi .eq (iota .tc S32x32 32 [0] iota_S32x32_d0_w32) (iota .tc S32x32 32 [1] iota_S32x32_d1_w32)) natLt_1_32)

/-- The largest column sum of absolute values. -/
def colmax (a : FVec F S32x32 .f32) : F .f32 :=
  extractAt ![0, 0] (shapeCast S1x1 (multiReduction .maximumf [1] S1 (shapeCast S1x32
    (multiReduction .add [0] S32 (absf a) 0x00000000#32 reduces_S32x32_S32 (.inl rfl) rfl) shapeCasts_S32_S1x32)
    0xFF800000#32 reduces_S1x32_S1 (.inl rfl) rfl) shapeCasts_S1_S1x1) inpos_S1x1_p0_0

/-- The largest row sum of absolute values. -/
def rowmax (a : FVec F S32x32 .f32) : F .f32 :=
  extractAt ![0, 0] (shapeCast S1x1 (multiReduction .maximumf [1] S1 (shapeCast S1x32
    (multiReduction .add [1] S32 (absf a) 0x00000000#32 reduces_S32x32_S32_2 (.inl rfl) rfl) shapeCasts_S32_S1x32)
    0xFF800000#32 reduces_S1x32_S1 (.inl rfl) rfl) shapeCasts_S1_S1x1) inpos_S1x1_p0_0

/-- Where the iteration for the inverse starts. -/
def first (a : FVec F S32x32 .f32) : FVec F S32x32 .f32 :=
  mulf (transpose S32x32 [1, 0] a transposes_S32x32_p1_0_S32x32) (broadcast S32x32
    (Scalar.divf (Scalar.ofBits .f32 0x3F800000#32) (Scalar.mulf (colmax a) (rowmax a))))

/-- The product of two squares. -/
def sq (a b : FVec F S32x32 .f32) : FVec F S32x32 .f32 :=
  matmul dot_S32x32_S32x32_S32x32_1_0_0_1_n_n none a b (constant S32x32 .f32 0x00000000#32)

/-- One step of the iteration for the inverse. -/
def step (a y : FVec F S32x32 .f32) : FVec F S32x32 .f32 :=
  sq y (subf (mulf (broadcast S32x32 (Scalar.ofBits .f32 0x40000000#32)) eye) (sq a y))

/-- The iteration after `n` steps. -/
def newton (a : FVec F S32x32 .f32) (n : ℕ) : FVec F S32x32 .f32 := Nat.rec (first a) (fun _ y => step a y) n

/-- The mean of the rows. -/
def mean (x : FVec F S1024x1024 .f32) : FVec F S1x1024 .f32 :=
  mulf (shapeCast S1x1024 (multiReduction .add [0] S1024 x 0x00000000#32 reduces_S1024x1024_S1024 (.inl rfl) rfl)
    shapeCasts_S1024_S1x1024) (broadcast S1x1024 (Scalar.ofBits .f32 0x3A800000#32))

/-- The largest element of each row. -/
def rmax (p : FVec F S1024x8 .f32) : FVec F S1024x8 .f32 :=
  broadcastTo S1024x8 (shapeCast S1024x1 (multiReduction .maximumf [1] S1024 p 0xFF800000#32 reduces_S1024x8_S1024 (.inl rfl) rfl)
    shapeCasts_S1024_S1024x1) broadcasts_S1024x1_S1024x8

/-- The exponentials of a row less its largest element. -/
def expo (l : FVec F S1024x8 .f32) : FVec F S1024x8 .f32 := exp (subf l (rmax l))

/-- The sum of each row. -/
def rsum (p : FVec F S1024x8 .f32) : FVec F S1024x1 .f32 :=
  shapeCast S1024x1 (multiReduction .add [1] S1024 p 0x00000000#32 reduces_S1024x8_S1024 (.inl rfl) rfl) shapeCasts_S1024_S1024x1

/-- The softmax of each row. -/
def soft (l : FVec F S1024x8 .f32) : FVec F S1024x8 .f32 :=
  divf (expo l) (broadcastTo S1024x8 (rsum (expo l)) broadcasts_S1024x1_S1024x8)

/-- The column numbers. -/
def col : IVec S1024x8 32 := iota .tc S1024x8 32 [1] iota_S1024x8_d1_w32

/-- Where each row's largest element first stands. -/
def hit (p : FVec F S1024x8 .f32) : IVec S1024x8 1 :=
  cmpi .eq col (broadcastTo S1024x8 (shapeCast S1024x1 (multiReductionI .minsi [1] S1024
    (select (cmpf .oeq p (rmax p)) col (broadcast S1024x8 8#32)) 2147483647#32 reduces_S1024x8_S1024 rfl)
    shapeCasts_S1024_S1024x1) broadcasts_S1024x1_S1024x8)

/-- The elements without the first largest one. -/
def rest (p : FVec F S1024x8 .f32) : FVec F S1024x8 .f32 :=
  select (hit p) (broadcast S1024x8 (Scalar.ofBits .f32 0xBF800000#32)) p

/-- The mask of the two chosen experts. -/
def top (p : FVec F S1024x8 .f32) : FVec F S1024x8 .f32 := sitofp .f32 (extui 32 (ori (hit p) (hit (rest p))) natLt_1_32)

/-- The chosen experts' shares. -/
def gate (p : FVec F S1024x8 .f32) : FVec F S1024x8 .f32 :=
  divf (mulf p (top p)) (broadcastTo S1024x8 (addf (rsum (mulf p (top p)))
    (broadcast S1024x1 (Scalar.ofBits .f32 0x3089705F#32))) broadcasts_S1024x1_S1024x8)

/-- `1/(1 + exp(−x))`. -/
def sigm (x : FVec F S1x1 .f32) : FVec F S1x1 .f32 :=
  divf (broadcast S1x1 (Scalar.ofBits .f32 0x3F800000#32)) (addf (broadcast S1x1 (Scalar.ofBits .f32 0x3F800000#32))
    (exp (subf (broadcast S1x1 (Scalar.ofBits .f32 0x00000000#32)) x)))

/-- The sum of a row of 384. -/
def total (x : FVec F S1x384 .f32) : F .f32 :=
  extractAt ![0, 0, 0] (shapeCast S1x1x1 (multiReduction .add [1, 2] S1 (shapeCast S1x1x384 x shapeCasts_S1x384_S1x1x384)
    0x00000000#32 reduces_S1x1x384_S1 (.inl rfl) rfl) shapeCasts_S1_S1x1x1) inpos_S1x1x1_p0_0_0

/-- A row of 1024 against another, a number. -/
def row1 (x : FVec F S1x1024 .f32) (w : Vec F S1x1024 .f32) : FVec F S1x1 .f32 :=
  matmul dot_S1x1024_S1x1024_S1x1_1_1_0_0_n_n none x (shapeCast S1x1024 w shapeCasts_S1x1024_S1x1024) (constant S1x1 .f32 0x00000000#32)

/-- One less a number. -/
def co (n : FVec F S1x1 .f32) : FVec F S1x1 .f32 := subf (broadcast S1x1 (Scalar.ofBits .f32 0x3F800000#32)) n

namespace In

variable (i : In F)

def ask : FVec F S32x32 .f32 :=
  skew (View.ld i.x6 (Rect.unit (s := S32x32) ![0, 0] S32x32.size inb_S32x32_S32x32_0_0))
def mat : FVec F S32x32 .f32 := subf eye i.ask
def qc : FVec F S32x32 .f32 := sq (newton i.mat 20) (addf eye i.ask)

variable (b : Fin 2)

def xb (x : Vec F S2x1024x1024 .f32) : FVec F S1024x1024 .f32 :=
  shapeCast S1024x1024 (View.ld x (Rect.unit (s := S2x1024x1024) ![b.val, 0, 0] S1x1024x1024.size (inb_x b)))
    shapeCasts_S1x1024x1024_S1024x1024
def info : FVec F S1x64 .f32 :=
  matmul dot_S1x64_S64x64_S1x64_1_1_0_0_n_n none
    (matmul dot_S1x1024_S64x1024_S1x64_1_1_0_0_n_n none (mean (xb b i.x1))
      (View.ld i.x4 (Rect.unit (s := S64x1024) ![0, 0] S64x1024.size inb_S64x1024_S64x1024_0_0)) (constant S1x64 .f32 0x00000000#32))
    (shapeCast S64x64 (View.ld i.x2 (Rect.unit (s := S2x64x64) ![b.val, 0, 0] S1x64x64.size (inb_rag b))) shapeCasts_S1x64x64_S64x64)
    (constant S1x64 .f32 0x00000000#32)
/-- The rows with the retrieved information added. -/
def y1 : FVec F S1024x1024 .f32 :=
  addf (xb b i.x1) (broadcastTo S1024x1024 (mulf (broadcast S1x1024 (Scalar.ofBits .f32 0x3DCCCCCD#32))
    (matmul dot_S1x64_S1024x64_S1x1024_1_1_0_0_n_n none (i.info b)
      (View.ld i.x5 (Rect.unit (s := S1024x64) ![0, 0] S1024x64.size inb_S1024x64_S1024x64_0_0)) (constant S1x1024 .f32 0x00000000#32)))
    broadcasts_S1x1024_S1024x1024)
def t1 : FVec F S1024x32 .f32 :=
  matmul dot_S1024x1024_S32x1024_S1024x32_1_1_0_0_n_n none (truncf .bf16 (i.y1 b) bitsLt_bf16_f32)
    (shapeCast S32x1024 (View.ld i.x7 (Rect.unit (s := S32x1024) ![0, 0] S32x1024.size inb_S32x1024_S32x1024_0_0))
      shapeCasts_S32x1024_S32x1024) (constant S1024x32 .f32 0x00000000#32)
def t2 : FVec F S1024x32 .f32 :=
  matmul dot_S1024x32_S32x32_S1024x32_1_1_0_0_n_n none (i.t1 b) i.qc (constant S1024x32 .f32 0x00000000#32)
/-- The rows with the rotated part added. -/
def y2 : FVec F S1024x1024 .f32 :=
  addf (i.y1 b) (matmul dot_S1024x32_S1024x32_S1024x1024_1_1_0_0_n_n none (truncf .bf16 (i.t2 b) bitsLt_bf16_f32)
    (shapeCast S1024x32 (View.ld i.x8 (Rect.unit (s := S1024x32) ![0, 0] S1024x32.size inb_S1024x32_S1024x32_0_0))
      shapeCasts_S1024x32_S1024x32) (constant S1024x1024 .f32 0x00000000#32))
def y2r : FVec F S1024x1024 .bf16 := truncf .bf16 (i.y2 b) bitsLt_bf16_f32
def logit : FVec F S1024x8 .f32 :=
  matmul dot_S1024x1024_S8x1024_S1024x8_1_1_0_0_n_n none (i.y2r b)
    (shapeCast S8x1024 (View.ld i.x9 (Rect.unit (s := S8x1024) ![0, 0] S8x1024.size inb_S8x1024_S8x1024_0_0))
      shapeCasts_S8x1024_S8x1024) (constant S1024x8 .f32 0x00000000#32)
def prob : FVec F S1024x8 .f32 := soft (i.logit b)
/-- One expert's part. -/
def expert (e : Fin 8) : FVec F S1024x1024 .f32 :=
  matmul dot_S1024x8_S8x1024_S1024x1024_1_0_0_1_n_n none
    (truncf .bf16 (mulf (matmul dot_S1024x1024_S1024x8_S1024x8_1_0_0_1_n_n none (i.y2r b)
        (shapeCast S1024x8 (View.ld i.x10 (Rect.unit (s := S8x1024x8) ![e.val, 0, 0] S1x1024x8.size (inb_la e)))
          shapeCasts_S1x1024x8_S1024x8) (constant S1024x8 .f32 0x00000000#32))
      (broadcastTo S1024x8 (extractStridedSlice S1024x1 ![0, e.val] (gate (i.prob b)) (sl_gate e)) broadcasts_S1024x1_S1024x8))
      bitsLt_bf16_f32)
    (shapeCast S8x1024 (View.ld i.x11 (Rect.unit (s := S8x8x1024) ![e.val, 0, 0] S1x8x1024.size (inb_lb e)))
      shapeCasts_S1x8x1024_S8x1024) (constant S1024x1024 .f32 0x00000000#32)
/-- The first `n` experts' parts. -/
def experts (n : ℕ) : FVec F S1024x1024 .f32 :=
  Nat.rec (broadcast S1024x1024 (Scalar.ofBits .f32 0x00000000#32)) (fun k acc => addf acc (i.expert b (m8 k))) n
def x2n : FVec F S1024x1024 .f32 := addf (i.y2 b) (i.experts b 8)
def aux : FVec F S8x8 .f32 :=
  concatenate S8x8 0
    [⟨S1x8, shapeCast S1x8 (multiReduction .add [0] S8 (i.prob b) 0x00000000#32 reduces_S1024x8_S8 (.inl rfl) rfl) shapeCasts_S8_S1x8⟩,
     ⟨S1x8, shapeCast S1x8 (multiReduction .add [0] S8 (top (i.prob b)) 0x00000000#32 reduces_S1024x8_S8 (.inl rfl) rfl) shapeCasts_S8_S1x8⟩,
     ⟨S6x8, broadcast S6x8 (Scalar.ofBits .f32 0x00000000#32)⟩] concatenates_S1x8_S1x8_S6x8_S8x8_d0
/-- The novelty. -/
def nov : FVec F S1x1 .f32 :=
  sigm (addf (addf (row1 (mean (xb b i.x0)) (View.ld i.x12 (Rect.unit (s := S1x1024) ![0, 0] S1x1024.size inb_S1x1024_S1x1024_0_0)))
    (row1 (mean (i.x2n b)) (View.ld i.x13 (Rect.unit (s := S1x1024) ![0, 0] S1x1024.size inb_S1x1024_S1x1024_0_0))))
    (broadcast S1x1 (View.ld i.x14 (Rect.unit (s := S1) ![0] S1.size inb_S1_S1_0)
      (Shape.Idx.first (numel1_S1.symm ▸ Nat.one_pos)))))
def x3n : FVec F S1024x1024 .f32 :=
  addf (mulf (broadcastTo S1024x1024 (i.nov b) broadcasts_S1x1_S1024x1024) (i.x2n b))
    (mulf (broadcastTo S1024x1024 (co (i.nov b)) broadcasts_S1x1_S1024x1024) (xb b i.x0))
def post : FVec F S1x1024 .f32 :=
  addf (mulf (broadcastTo S1x1024 (i.nov b) broadcasts_S1x1_S1x1024) (mean (i.x2n b)))
    (mulf (broadcastTo S1x1024 (co (i.nov b)) broadcasts_S1x1_S1x1024) (mean (xb b i.x0)))
def hq : FVec F S1x384 .f32 :=
  matmul dot_S1x1024_S384x1024_S1x384_1_1_0_0_n_n none (i.post b)
    (View.ld i.x15 (Rect.unit (s := S384x1024) ![0, 0] S384x1024.size inb_S384x1024_S384x1024_0_0)) (constant S1x384 .f32 0x00000000#32)
def mem : FVec F S1x384 .f32 :=
  shapeCast S1x384 (View.ld i.x3 (Rect.unit (s := S2x1x384) ![b.val, 0, 0] S1x1x384.size (inb_mem b))) shapeCasts_S1x1x384_S1x384
/-- The cosine of the query and the memory. -/
def sim : F .f32 :=
  Scalar.divf (total (mulf (i.hq b) (i.mem b)))
    (Scalar.addf (Scalar.mulf (Scalar.sqrt (total (mulf (i.hq b) (i.hq b)))) (Scalar.sqrt (total (mulf (i.mem b) (i.mem b)))))
      (Scalar.ofBits .f32 0x322BCC77#32))
def gm : FVec F S1x1 .f32 :=
  sigm (addf (addf (row1 (i.post b) (View.ld i.x17 (Rect.unit (s := S1x1024) ![0, 0] S1x1024.size inb_S1x1024_S1x1024_0_0)))
    (matmul dot_S1x384_S1x384_S1x1_1_1_0_0_n_n none (i.mem b)
      (shapeCast S1x384 (View.ld i.x18 (Rect.unit (s := S1x384) ![0, 0] S1x384.size inb_S1x384_S1x384_0_0)) shapeCasts_S1x384_S1x384)
      (constant S1x1 .f32 0x00000000#32)))
    (broadcast S1x1 (View.ld i.x19 (Rect.unit (s := S1) ![0] S1.size inb_S1_S1_0)
      (Shape.Idx.first (numel1_S1.symm ▸ Nat.one_pos)))))
def out : FVec F S1024x1024 .f32 :=
  addf (i.x3n b) (broadcastTo S1024x1024 (mulf (broadcastTo S1x1024 (mulf (broadcast S1x1 (i.sim b)) (i.gm b)) broadcasts_S1x1_S1x1024)
    (matmul dot_S1x384_S1024x384_S1x1024_1_1_0_0_n_n none (i.mem b)
      (View.ld i.x16 (Rect.unit (s := S1024x384) ![0, 0] S1024x384.size inb_S1024x384_S1024x384_0_0)) (constant S1x1024 .f32 0x00000000#32)))
    broadcasts_S1x1024_S1024x1024)

/-- What batch row `b` stores into the first output. -/
def q20 (b : Fin 2) : View.Piece (Elt F) S2x1024x1024 .f32 :=
  ⟨Rect.unit (s := S2x1024x1024) ![b.val, 0, 0] S1x1024x1024.size (inb_x b),
    shapeCast S1x1024x1024 (i.out b) shapeCasts_S1024x1024_S1x1024x1024⟩
/-- What batch row `b` stores into the second output. -/
def q21 (b : Fin 2) : View.Piece (Elt F) S2x8x8 .f32 :=
  ⟨Rect.unit (s := S2x8x8) ![b.val, 0, 0] S1x8x8.size (inb_aux b), shapeCast S1x8x8 (i.aux b) shapeCasts_S8x8_S1x8x8⟩

end In

end Cert.TailIdeal.Fold
-- ==== Proof.TBridge.lean ====
/-
  The pieces that the tail call's run leaves in its two output buffers are the ones that TFold writes down.
-/
module

public import proofs.«01_k».proof.Proof.TFold

@[expose] public section

set_option maxRecDepth 65536

noncomputable section

namespace Cert.TailIdeal.Fold

open Idealize.ShloMosaic Idealize.ShloMosaic.Tactic
open Cert.TailIdeal Cert.TailIdeal.Gen

variable {F : FTy → Type} [FloatOps F]

variable
  (c : Dev nD) (arg0 : Memref sig .tc .vmem S2x1024x1024 .f32) (harg0 : arg0.IsWhole)
  (arg1 : Memref sig .tc .vmem S2x1024x1024 .f32) (harg1 : arg1.IsWhole) (arg2 : Memref sig .tc .vmem S2x64x64 .f32)
  (harg2 : arg2.IsWhole) (arg3 : Memref sig .tc .vmem S2x1x384 .f32) (harg3 : arg3.IsWhole)
  (arg4 : Memref sig .tc .vmem S64x1024 .f32) (harg4 : arg4.IsWhole) (arg5 : Memref sig .tc .vmem S1024x64 .f32)
  (harg5 : arg5.IsWhole) (arg6 : Memref sig .tc .vmem S32x32 .f32) (harg6 : arg6.IsWhole)
  (arg7 : Memref sig .tc .vmem S32x1024 .bf16) (harg7 : arg7.IsWhole) (arg8 : Memref sig .tc .vmem S1024x32 .bf16)
  (harg8 : arg8.IsWhole) (arg9 : Memref sig .tc .vmem S8x1024 .bf16) (harg9 : arg9.IsWhole)
  (arg10 : Memref sig .tc .vmem S8x1024x8 .bf16) (harg10 : arg10.IsWhole) (arg11 : Memref sig .tc .vmem S8x8x1024 .bf16)
  (harg11 : arg11.IsWhole) (arg12 : Memref sig .tc .vmem S1x1024 .f32) (harg12 : arg12.IsWhole)
  (arg13 : Memref sig .tc .vmem S1x1024 .f32) (harg13 : arg13.IsWhole) (arg14 : Memref sig .tc .smem S1 .f32)
  (harg14 : arg14.IsWhole) (arg15 : Memref sig .tc .vmem S384x1024 .f32) (harg15 : arg15.IsWhole)
  (arg16 : Memref sig .tc .vmem S1024x384 .f32) (harg16 : arg16.IsWhole) (arg17 : Memref sig .tc .vmem S1x1024 .f32)
  (harg17 : arg17.IsWhole) (arg18 : Memref sig .tc .vmem S1x384 .f32) (harg18 : arg18.IsWhole)
  (arg19 : Memref sig .tc .smem S1 .f32) (harg19 : arg19.IsWhole) (arg20 : Memref sig .tc .vmem S2x1024x1024 .f32)
  (harg20 : arg20.IsWhole) (arg21 : Memref sig .tc .vmem S2x8x8 .f32) (harg21 : arg21.IsWhole)
  (x0 : Vec F S2x1024x1024 .f32) (x1 : Vec F S2x1024x1024 .f32) (x2 : Vec F S2x64x64 .f32) (x3 : Vec F S2x1x384 .f32)
  (x4 : Vec F S64x1024 .f32) (x5 : Vec F S1024x64 .f32) (x6 : Vec F S32x32 .f32) (x7 : Vec F S32x1024 .bf16)
  (x8 : Vec F S1024x32 .bf16) (x9 : Vec F S8x1024 .bf16) (x10 : Vec F S8x1024x8 .bf16) (x11 : Vec F S8x8x1024 .bf16)
  (x12 : Vec F S1x1024 .f32) (x13 : Vec F S1x1024 .f32) (x14 : Vec F S1 .f32) (x15 : Vec F S384x1024 .f32)
  (x16 : Vec F S1024x384 .f32) (x17 : Vec F S1x1024 .f32) (x18 : Vec F S1x384 .f32) (x19 : Vec F S1 .f32)

/-- The pieces in the first output's buffer. -/
theorem run20 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19).1 =
    (let Q : In F := ⟨arg0.view.read (Elt F) (harg0.unread x0), arg1.view.read (Elt F) (harg1.unread x1), arg2.view.read (Elt F) (harg2.unread x2), arg3.view.read (Elt F) (harg3.unread x3), arg4.view.read (Elt F) (harg4.unread x4), arg5.view.read (Elt F) (harg5.unread x5), arg6.view.read (Elt F) (harg6.unread x6), arg7.view.read (Elt F) (harg7.unread x7), arg8.view.read (Elt F) (harg8.unread x8), arg9.view.read (Elt F) (harg9.unread x9), arg10.view.read (Elt F) (harg10.unread x10), arg11.view.read (Elt F) (harg11.unread x11), arg12.view.read (Elt F) (harg12.unread x12), arg13.view.read (Elt F) (harg13.unread x13), arg14.view.read (Elt F) (harg14.unread x14), arg15.view.read (Elt F) (harg15.unread x15), arg16.view.read (Elt F) (harg16.unread x16), arg17.view.read (Elt F) (harg17.unread x17), arg18.view.read (Elt F) (harg18.unread x18), arg19.view.read (Elt F) (harg19.unread x19)⟩
     [Q.q20 1, Q.q20 0]) := by
  sl_kernel_rfl

/-- The pieces in the second output's buffer. -/
theorem run21 : (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19).2.1 =
    (let Q : In F := ⟨arg0.view.read (Elt F) (harg0.unread x0), arg1.view.read (Elt F) (harg1.unread x1), arg2.view.read (Elt F) (harg2.unread x2), arg3.view.read (Elt F) (harg3.unread x3), arg4.view.read (Elt F) (harg4.unread x4), arg5.view.read (Elt F) (harg5.unread x5), arg6.view.read (Elt F) (harg6.unread x6), arg7.view.read (Elt F) (harg7.unread x7), arg8.view.read (Elt F) (harg8.unread x8), arg9.view.read (Elt F) (harg9.unread x9), arg10.view.read (Elt F) (harg10.unread x10), arg11.view.read (Elt F) (harg11.unread x11), arg12.view.read (Elt F) (harg12.unread x12), arg13.view.read (Elt F) (harg13.unread x13), arg14.view.read (Elt F) (harg14.unread x14), arg15.view.read (Elt F) (harg15.unread x15), arg16.view.read (Elt F) (harg16.unread x16), arg17.view.read (Elt F) (harg17.unread x17), arg18.view.read (Elt F) (harg18.unread x18), arg19.view.read (Elt F) (harg19.unread x19)⟩
     [Q.q21 1, Q.q21 0]) := by
  sl_kernel_rfl

end Cert.TailIdeal.Fold
-- ==== Proof.TSpec.lean ====
/-
  What the tail's two programs compute, written at an index over the extended reals and naming neither program, with the
  facts about it that the two sides share.
-/
module

public import proofs.«01_k».proof.Proof.Spec

@[expose] public section

set_option maxRecDepth 16384

noncomputable section

namespace Cert.TSpec

open Idealize.ShloMosaic Cert.Spec

/-! ## Maxima, the softmax, the logistic function -/

/-- The largest value of a row. -/
def vmax {n : ℕ} (f : Fin n → EReal) : EReal := Finset.fold max (Ideal.ofBits .f32 0xFF800000#32) f Finset.univ

/-- The word of minus infinity. -/
theorem ofBits_bot : Ideal.ofBits .f32 0xFF800000#32 = ⊥ := by simp [Ideal.ofBits, Ideal.ieee]

/-- Every entry of a vector is at most the maximum. -/
theorem le_vmax {n : ℕ} (f : Fin n → EReal) (i : Fin n) : f i ≤ vmax f :=
  Finset.le_fold_max _ |>.2 (.inr ⟨i, Finset.mem_univ _, le_rfl⟩)

/-- The largest value is one of the values. -/
theorem vmax_mem {n : ℕ} [NeZero n] (f : Fin n → EReal) : ∃ i, vmax f = f i := by
  obtain ⟨i, -, hi⟩ := Finset.exists_max_image Finset.univ f ⟨0, Finset.mem_univ _⟩
  exact ⟨i, le_antisymm (Finset.fold_max_le _ |>.2 ⟨ofBits_bot ▸ bot_le, hi⟩) (le_vmax f i)⟩

/-- A row's exponentials, less its largest value. -/
def ex {n : ℕ} (l : Fin n → EReal) (e : Fin n) : EReal := Ideal.exp (l e - vmax l)
/-- The softmax of a row. -/
def prob {n : ℕ} (l : Fin n → EReal) (e : Fin n) : EReal := Ideal.div (ex l e) (∑ x, ex l x)

/-- The softmax of real numbers is nowhere negative. -/
theorem prob_nonneg {n : ℕ} [NeZero n] {l : Fin n → EReal} (h : ∀ e, IsReal (l e)) (e : Fin n) : 0 ≤ prob l e := by
  obtain ⟨k, hk⟩ := vmax_mem l
  have hx : ∀ x, ex l x = ((Real.exp ((l x).toReal - (l k).toReal) : ℝ) : EReal) := fun x => by
    rw [ex, hk, (h x).eq, (h k).eq, ← EReal.coe_sub, Ideal.exp_coe]; simp
  have hs : 0 < ∑ x, Real.exp ((l x).toReal - (l k).toReal) :=
    Finset.sum_pos (fun x _ => Real.exp_pos _) ⟨0, Finset.mem_univ _⟩
  rw [prob, Finset.sum_congr rfl fun x _ => hx x, ← coe_sum, Ideal.div_coe hs.ne', hx e, ← EReal.coe_mul]
  exact EReal.coe_nonneg.2 (by positivity)

/-- `1/(1 + exp(−x))`. -/
def sigm (x : EReal) : EReal := Ideal.div 1 (1 + Ideal.exp (-x))

/-- It is a real number between 0 and 1 wherever it is taken. -/
theorem sigm_real (x : EReal) : ∃ r : ℝ, 0 ≤ r ∧ r ≤ 1 ∧ sigm x = (r : EReal) := by
  induction x with
  | bot => exact ⟨0, le_rfl, zero_le_one, by
    have h : (1 : EReal) + ⊤ = ⊤ := EReal.add_top_of_ne_bot (by decide)
    simp [sigm, Ideal.div, h]⟩
  | top => exact ⟨1, zero_le_one, le_rfl, by simp [sigm, Ideal.div]⟩
  | coe r =>
    have hp : 0 < 1 + Real.exp (-r) := by positivity
    refine ⟨1 / (1 + Real.exp (-r)), by positivity, ?_, ?_⟩
    · rw [div_le_one hp]; linarith [Real.exp_pos (-r)]
    · rw [sigm, ← EReal.coe_neg, Ideal.exp_coe, ← EReal.coe_one, ← EReal.coe_add, Ideal.div_coe hp.ne', ← EReal.coe_mul, one_mul]

/-- The word of 1/1024. -/
theorem ofBits_inv : Ideal.ofBits .f32 0x3A800000#32 = ((1 / 1024 : ℝ) : EReal) := by
  simp [Ideal.ofBits, Ideal.ieee, -EReal.coe_mul]; norm_num

/-- A mean by a product. -/
theorem mean_mul (f : Fin 1024 → EReal) : (∑ d, f d) * Ideal.ofBits .f32 0x3A800000#32 = mean f := by
  rw [mean, ofBits_1024, Ideal.div_coe (by norm_num), ofBits_inv]

/-- A factor that is a real number and not negative goes into a sum. -/
theorem mul_sum {ι : Type} {c : ℝ} (hc : 0 ≤ c) (s : Finset ι) (f : ι → EReal) :
    ∑ i ∈ s, (c : EReal) * f i = (c : EReal) * ∑ i ∈ s, f i := by
  classical
  induction s using Finset.induction_on with
  | empty => simp
  | insert i s hi ih =>
    rw [Finset.sum_insert hi, Finset.sum_insert hi, ih,
      EReal.left_distrib_of_nonneg_of_ne_top (EReal.coe_nonneg.2 hc) (EReal.coe_ne_top c)]

/-- The mean of a mix is the mix of the means. -/
theorem mean_mix (x : EReal) (f g : Fin 1024 → EReal) :
    mean (fun t => sigm x * f t + (1 - sigm x) * g t) = sigm x * mean f + (1 - sigm x) * mean g := by
  obtain ⟨r, h0, h1, hr⟩ := sigm_real x
  have hq : (0 : EReal) ≤ ((1 / 1024 : ℝ) : EReal) := EReal.coe_nonneg.2 (by norm_num)
  rw [hr, ← EReal.coe_one, ← EReal.coe_sub]
  simp only [← mean_mul, ofBits_inv]
  rw [Finset.sum_add_distrib, mul_sum h0, mul_sum (sub_nonneg.2 h1),
    EReal.right_distrib_of_nonneg_of_ne_top hq (EReal.coe_ne_top _), mul_assoc, mul_assoc]

/-! ## The two chosen experts -/

/-- An element comes before another: it is larger, or equal and further left. -/
def Before {n : ℕ} (f : Fin n → EReal) (j e : Fin n) : Prop := f e < f j ∨ f j = f e ∧ j < e
/-- An element comes before all others. -/
def Lead {n : ℕ} (f : Fin n → EReal) (e : Fin n) : Prop := ∀ j, j ≠ e → Before f e j

open Classical in
/-- How many elements come before. -/
def count {n : ℕ} (f : Fin n → EReal) (e : Fin n) : ℕ := (Finset.univ.filter fun j => Before f j e).card

open Classical in
/-- The mask of the two first elements. -/
def top {n : ℕ} (f : Fin n → EReal) (e : Fin n) : EReal := if count f e < 2 then 1 else 0

/-- No expert comes before itself. -/
theorem Before.irrefl {n : ℕ} {f : Fin n → EReal} {e : Fin n} : ¬ Before f e e := fun
  | .inl h => lt_irrefl _ h
  | .inr h => lt_irrefl _ h.2

/-- Of two experts at most one comes before the other. -/
theorem Before.asymm {n : ℕ} {f : Fin n → EReal} {i j : Fin n} (h : Before f i j) : ¬ Before f j i := fun g => by
  rcases h with h | ⟨h, h'⟩ <;> rcases g with g | ⟨g, g'⟩
  · exact lt_asymm h g
  · exact h.ne g
  · exact g.ne h
  · exact lt_asymm h' g'

/-- Of two different experts one comes before the other. -/
theorem Before.total {n : ℕ} {f : Fin n → EReal} {i j : Fin n} (h : i ≠ j) : Before f i j ∨ Before f j i := by
  rcases lt_trichotomy (f i) (f j) with g | g | g
  · exact .inr (.inl g)
  · rcases lt_or_gt_of_ne h with q | q
    · exact .inl (.inr ⟨g, q⟩)
    · exact .inr (.inr ⟨g.symm, q⟩)
  · exact .inl (.inl g)

/-- The leading element is where the largest value first stands. -/
theorem lead_iff {n : ℕ} [NeZero n] (f : Fin n → EReal) (e : Fin n) :
    Lead f e ↔ f e = vmax f ∧ ∀ j < e, f j ≠ vmax f := by
  constructor
  · intro h
    obtain ⟨k, hk⟩ := vmax_mem f
    have hle : ∀ j, f j ≤ f e := fun j => by
      by_cases q : j = e
      · rw [q]
      · rcases h j q with g | g
        · exact g.le
        · exact g.1.symm.le
    have he : f e = vmax f := le_antisymm (le_vmax f e) (hk ▸ hle k)
    refine ⟨he, fun j hj g => ?_⟩
    rcases h j hj.ne with q | q
    · exact absurd (g.trans he.symm) q.ne
    · exact lt_asymm hj q.2
  · rintro ⟨he, h⟩ j hj
    rcases lt_or_gt_of_ne hj with q | q
    · exact .inl (lt_of_le_of_ne (he ▸ le_vmax f j) fun g => h j q (g.trans he))
    · rcases (he ▸ le_vmax f j : f j ≤ f e).lt_or_eq with g | g
      · exact .inl g
      · exact .inr ⟨g.symm, q⟩

/-- Some element leads. -/
theorem exists_lead {n : ℕ} [NeZero n] (f : Fin n → EReal) : ∃ e, Lead f e := by
  classical
  obtain ⟨k, hk⟩ := vmax_mem f
  have hne : (Finset.univ.filter fun e => f e = vmax f).Nonempty := ⟨k, by simp [hk]⟩
  refine ⟨Finset.min' _ hne, (lead_iff f _).2 ⟨(Finset.mem_filter.1 (Finset.min'_mem _ hne)).2, fun j hj g => ?_⟩⟩
  exact absurd (Finset.min'_le _ j (Finset.mem_filter.2 ⟨Finset.mem_univ _, g⟩)) (not_le.2 hj)

open Classical in
/-- The elements that lead, or lead when the first leader is put below all, are those with fewer than two before them. -/
theorem lead_or {n : ℕ} [NeZero n] (f : Fin n → EReal) (c : EReal) (hc : ∀ e, c < f e) (e : Fin n) :
    Lead f e ∨ Lead (fun x => if Lead f x then c else f x) e ↔ count f e < 2 := by
  obtain ⟨k, hk⟩ := exists_lead f
  have huniq : ∀ x, Lead f x ↔ x = k := fun x =>
    ⟨fun h => by_contra fun q => (h k (Ne.symm q)).asymm (hk x q), fun h => h ▸ hk⟩
  simp only [huniq]
  by_cases he : e = k
  · subst he
    refine iff_of_true (.inl rfl) ?_
    rw [count, Finset.filter_eq_empty_iff.2 fun j _ => ?_]
    · exact Nat.two_pos
    · by_cases q : j = e
      · rw [q]; exact Before.irrefl
      · exact (hk j q).asymm
  · have hmem : k ∈ Finset.univ.filter fun j => Before f j e := by simp [hk e he]
    constructor
    · rintro (h | h)
      · exact absurd h he
      · refine lt_of_le_of_lt (Finset.card_le_card (t := {k}) fun j hj => ?_) (by simp)
        rw [Finset.mem_singleton]
        by_contra q
        have hj' := (Finset.mem_filter.1 hj).2
        have hje : j ≠ e := fun g => Before.irrefl (g ▸ hj')
        have hb := h j hje
        simp only [Before, if_neg q, if_neg he] at hb
        exact Before.asymm hj' hb
    · intro h
      refine .inr fun j hj => ?_
      simp only [Before, if_neg he]
      by_cases q : j = k
      · rw [if_pos q]; exact .inl (hc e)
      · rw [if_neg q]
        refine (Before.total hj).resolve_left fun g => ?_
        refine absurd (Finset.one_lt_card.2 ⟨j, ?_, k, hmem, q⟩) (by rw [count] at h; omega)
        simp [g]

/-! ## The tail -/

/-- The argument arrays, by coordinates. -/
structure Args where
  x : Fin 2 → Fin 1024 → Fin 1024 → EReal
  x1 : Fin 2 → Fin 1024 → Fin 1024 → EReal
  mem : Fin 2 → Fin 384 → EReal
  rag : Fin 2 → Fin 64 → Fin 64 → EReal
  wsk : Fin 32 → Fin 32 → EReal
  win : Fin 32 → Fin 1024 → EReal
  wout : Fin 1024 → Fin 32 → EReal
  wrt : Fin 8 → Fin 1024 → EReal
  la : Fin 8 → Fin 1024 → Fin 8 → EReal
  lb : Fin 8 → Fin 8 → Fin 1024 → EReal
  wnov : Fin 2048 → EReal
  bnov : EReal
  wrq : Fin 64 → Fin 1024 → EReal
  wro : Fin 1024 → Fin 64 → EReal
  wmq : Fin 384 → Fin 1024 → EReal
  wmp : Fin 1024 → Fin 384 → EReal
  wmg : Fin 1408 → EReal
  bmg : EReal

namespace Args

variable (a : Args)

/-- The skew square. -/
def ask (i j : Fin 32) : EReal := Ideal.ofBits .f32 0x3F000000#32 * (a.wsk i j - a.wsk j i)
/-- The identity. -/
def eye (i j : Fin 32) : EReal := if i = j then 1 else 0
/-- The square to be inverted. -/
def mat (i j : Fin 32) : EReal := eye i j - a.ask i j
/-- The largest column sum of absolute values. -/
def n1 : EReal := vmax fun j => ∑ i, max (a.mat i j) (-(a.mat i j))
/-- The largest row sum of absolute values. -/
def ninf : EReal := vmax fun i => ∑ j, max (a.mat i j) (-(a.mat i j))
/-- The iteration for the inverse, after `n` steps. -/
def newton : ℕ → Fin 32 → Fin 32 → EReal
  | 0 => fun i j => Ideal.div (a.mat j i) (a.n1 * a.ninf)
  | n + 1 => fun i j => ∑ k, newton n i k * (Ideal.ofBits .f32 0x40000000#32 * eye k j - ∑ l, a.mat k l * newton n l j)
/-- The rotation. -/
def qc (i j : Fin 32) : EReal := ∑ k, a.newton 20 i k * (eye k j + a.ask k j)

/-- The retrieved information. -/
def info (b : Fin 2) (j : Fin 64) : EReal :=
  ∑ n, (∑ d, mean (fun t => a.x1 b t d) * a.wrq n d) * a.rag b j n
/-- The rows with the retrieved information added. -/
def y1 (b : Fin 2) (t d : Fin 1024) : EReal :=
  a.x1 b t d + Ideal.ofBits .f32 0x3DCCCCCD#32 * ∑ k, a.info b k * a.wro d k
def t1 (b : Fin 2) (t : Fin 1024) (i : Fin 32) : EReal := ∑ d, a.y1 b t d * a.win i d
def t2 (b : Fin 2) (t : Fin 1024) (i : Fin 32) : EReal := ∑ k, a.t1 b t k * a.qc i k
/-- The rows with the rotated part added. -/
def y2 (b : Fin 2) (t d : Fin 1024) : EReal := a.y1 b t d + ∑ i, a.t2 b t i * a.wout d i
/-- The router's values. -/
def logit (b : Fin 2) (t : Fin 1024) (e : Fin 8) : EReal := ∑ d, a.y2 b t d * a.wrt e d
/-- Their softmax. -/
def pr (b : Fin 2) (t : Fin 1024) (e : Fin 8) : EReal := prob (a.logit b t) e
/-- The mask of the two chosen experts. -/
def mask (b : Fin 2) (t : Fin 1024) (e : Fin 8) : EReal := top (a.pr b t) e
/-- The chosen experts' shares. -/
def gate (b : Fin 2) (t : Fin 1024) (e : Fin 8) : EReal :=
  Ideal.div (a.pr b t e * a.mask b t e) ((∑ x, a.pr b t x * a.mask b t x) + Ideal.ofBits .f32 0x3089705F#32)
/-- One expert's part. -/
def expert (b : Fin 2) (t d : Fin 1024) (e : Fin 8) : EReal :=
  ∑ r, (∑ q, a.y2 b t q * a.la e q r) * a.gate b t e * a.lb e r d
/-- The rows with the experts' parts added. -/
def x2 (b : Fin 2) (t d : Fin 1024) : EReal := a.y2 b t d + ∑ e, a.expert b t d e
/-- The novelty's argument. -/
def novArg (b : Fin 2) : EReal :=
  (∑ d : Fin 1024, mean (fun t => a.x b t d) * a.wnov ⟨d.val, by omega⟩)
    + (∑ d : Fin 1024, mean (fun t => a.x2 b t d) * a.wnov ⟨1024 + d.val, by omega⟩) + a.bnov
/-- The novelty. -/
def nov (b : Fin 2) : EReal := sigm (a.novArg b)
/-- The mix of the rows before and after. -/
def x3 (b : Fin 2) (t d : Fin 1024) : EReal := a.nov b * a.x2 b t d + (1 - a.nov b) * a.x b t d
/-- Its mean. -/
def post (b : Fin 2) (d : Fin 1024) : EReal := mean fun t => a.x3 b t d
/-- The memory's query. -/
def hq (b : Fin 2) (k : Fin 384) : EReal := ∑ d, a.post b d * a.wmq k d
/-- The cosine of the query and the memory. -/
def sim (b : Fin 2) : EReal :=
  Ideal.div (∑ k, a.hq b k * a.mem b k)
    (Ideal.sqrt (∑ k, a.hq b k * a.hq b k) * Ideal.sqrt (∑ k, a.mem b k * a.mem b k) + Ideal.ofBits .f32 0x322BCC77#32)
/-- The memory's gate. -/
def gm (b : Fin 2) : EReal :=
  sigm ((∑ d : Fin 1024, a.post b d * a.wmg ⟨d.val, by omega⟩) + (∑ k : Fin 384, a.mem b k * a.wmg ⟨1024 + k.val, by omega⟩) + a.bmg)
/-- The first result. -/
def x4 (b : Fin 2) (t d : Fin 1024) : EReal := a.x3 b t d + a.sim b * a.gm b * ∑ k, a.mem b k * a.wmp d k
/-- The second result: the sums of the softmax and of the mask over the rows, and zeros. -/
def sums (b : Fin 2) (r e : Fin 8) : EReal :=
  if r.val < 1 then ∑ t, a.pr b t e else if r.val - 1 < 1 then ∑ t, a.mask b t e else 0

/-- The mean of the mix is the mix of the means. -/
theorem post_eq (b : Fin 2) (d : Fin 1024) :
    a.post b d = a.nov b * mean (fun t => a.x2 b t d) + (1 - a.nov b) * mean (fun t => a.x b t d) :=
  mean_mix (a.novArg b) (fun t => a.x2 b t d) (fun t => a.x b t d)

/-- Every array that the router's values depend on holds real numbers. -/
structure Fin (a : Args) : Prop where
  x1 : ∀ b t d, IsReal (a.x1 b t d)
  rag : ∀ b i j, IsReal (a.rag b i j)
  wsk : ∀ i j, IsReal (a.wsk i j)
  win : ∀ i d, IsReal (a.win i d)
  wout : ∀ d i, IsReal (a.wout d i)
  wrt : ∀ e d, IsReal (a.wrt e d)
  wrq : ∀ n d, IsReal (a.wrq n d)
  wro : ∀ d n, IsReal (a.wro d n)

/-- The constant two is a real number. -/
theorem real_two : IsReal (Ideal.ofBits .f32 0x40000000#32) := by
  refine IsReal.of_eq (r := 2) ?_
  simp [Ideal.ofBits, Ideal.ieee, -EReal.coe_mul]; norm_num
/-- The constant of a tenth is a real number. -/
theorem real_tenth : IsReal (Ideal.ofBits .f32 0x3DCCCCCD#32) := by
  refine IsReal.of_eq (r := 13421773 / 134217728) ?_
  simp [Ideal.ofBits, Ideal.ieee, -EReal.coe_mul]; norm_num

variable {a} (ha : a.Fin)
include ha

/-- The skew-symmetric matrix holds real numbers. -/
theorem Fin.r_ask (i j) : IsReal (a.ask i j) := ofBits_half.mul ((ha.wsk i j).sub (ha.wsk j i))
/-- The identity matrix holds real numbers. -/
theorem r_eye (i j) : IsReal (eye i j) := by
  rw [eye]; split
  · exact .one
  · exact .zero
/-- The matrix to be inverted holds real numbers. -/
theorem Fin.r_mat (i j) : IsReal (a.mat i j) := (r_eye ha i j).sub (ha.r_ask i j)

/-- The diagonal of the square to be inverted is one. -/
theorem Fin.mat_diag (i) : a.mat i i = 1 := by
  rw [mat, eye, if_pos rfl, ask, (ha.wsk i i).eq, ← EReal.coe_sub, sub_self, EReal.coe_zero, mul_zero, sub_zero]

/-- The largest of sums of absolute values, one of them at least one, is a real number not below one. -/
theorem norm_real {f : _root_.Fin 32 → _root_.Fin 32 → EReal} (h : ∀ i j, IsReal (f i j)) (h1 : f 0 0 = 1) :
    ∃ r : ℝ, 1 ≤ r ∧ vmax (fun j => ∑ i, max (f i j) (-(f i j))) = (r : EReal) := by
  obtain ⟨k, hk⟩ := vmax_mem fun j => ∑ i, max (f i j) (-(f i j))
  have hr : IsReal (∑ i, max (f i k) (-(f i k))) := .sum fun i => (h i k).max (h i k).neg
  have hpos : ∀ i, 0 ≤ max (f i 0) (-(f i 0)) := fun i => by
    rw [(h i 0).eq, ← EReal.coe_neg]
    rcases le_total 0 (f i 0).toReal with q | q
    · exact le_max_of_le_left (EReal.coe_nonneg.2 q)
    · exact le_max_of_le_right (EReal.coe_nonneg.2 (neg_nonneg.2 q))
  have hle : (1 : EReal) ≤ ∑ i, max (f i k) (-(f i k)) := by
    rw [← hk]
    refine le_trans ?_ (le_vmax _ 0)
    refine le_trans ?_ (Finset.single_le_sum (fun i _ => hpos i) (Finset.mem_univ 0))
    rw [h1]; exact le_max_left _ _
  refine ⟨_, ?_, hk.trans hr.eq⟩
  rw [hr.eq] at hle
  exact EReal.coe_le_coe_iff.1 hle

/-- The product of the two norms is a real number and not zero. -/
theorem Fin.norms : ∃ r : ℝ, r ≠ 0 ∧ a.n1 * a.ninf = (r : EReal) := by
  obtain ⟨p, hp, ep⟩ := norm_real ha (f := a.mat) ha.r_mat (ha.mat_diag 0)
  obtain ⟨q, hq, eq⟩ := norm_real ha (f := fun i j => a.mat j i) (fun i j => ha.r_mat j i) (ha.mat_diag 0)
  refine ⟨p * q, by positivity, ?_⟩
  rw [EReal.coe_mul, ← ep, ← eq]; rfl

/-- The iteration's start, by a product. -/
theorem Fin.newton_zero (i j) : a.mat j i * Ideal.div 1 (a.n1 * a.ninf) = a.newton 0 i j := by
  obtain ⟨r, hr, e⟩ := ha.norms
  simp only [newton]
  rw [e, Ideal.div_coe hr, Ideal.div_coe hr, one_mul]

/-- Every estimate of the inverse holds real numbers. -/
theorem Fin.r_newton (n : ℕ) : ∀ i j, IsReal (a.newton n i j) := by
  induction n with
  | zero =>
    intro i j
    obtain ⟨r, hr, e⟩ := ha.norms
    simp only [newton]
    rw [e, Ideal.div_coe hr]
    exact (ha.r_mat j i).mul (.coe _)
  | succ n ih =>
    exact fun i j => .sum fun k => (ih i k).mul ((real_two.mul (r_eye ha k j)).sub (.sum fun l => (ha.r_mat k l).mul (ih l j)))
/-- The rotation holds real numbers. -/
theorem Fin.r_qc (i j) : IsReal (a.qc i j) := .sum fun k => (ha.r_newton 20 i k).mul ((r_eye ha k j).add (ha.r_ask k j))
/-- What is read from the compressed state is real. -/
theorem Fin.r_info (b j) : IsReal (a.info b j) :=
  .sum fun n => (IsReal.sum fun d => (IsReal.mean fun t => ha.x1 b t d).mul (ha.wrq n d)).mul (ha.rag b j n)
/-- The rows with the compressed state added are real. -/
theorem Fin.r_y1 (b t d) : IsReal (a.y1 b t d) :=
  (ha.x1 b t d).add (real_tenth.mul (.sum fun k => (ha.r_info b k).mul (ha.wro d k)))
/-- The rows projected to the rotated subspace are real. -/
theorem Fin.r_t1 (b t i) : IsReal (a.t1 b t i) := .sum fun d => (ha.r_y1 b t d).mul (ha.win i d)
/-- The rotated projections are real. -/
theorem Fin.r_t2 (b t i) : IsReal (a.t2 b t i) := .sum fun k => (ha.r_t1 b t k).mul (ha.r_qc i k)
/-- The rows after the rotation are real. -/
theorem Fin.r_y2 (b t d) : IsReal (a.y2 b t d) := (ha.r_y1 b t d).add (.sum fun i => (ha.r_t2 b t i).mul (ha.wout d i))
/-- The router's logits are real. -/
theorem Fin.r_logit (b t e) : IsReal (a.logit b t e) := .sum fun d => (ha.r_y2 b t d).mul (ha.wrt e d)
/-- The softmax is nowhere negative. -/
theorem Fin.pr_nonneg (b t e) : 0 ≤ a.pr b t e := prob_nonneg (ha.r_logit b t) e

end Args

end Cert.TSpec
-- ==== Proof.TValue.lean ====
/-
  The tail call's body read at an index, as values of the arguments.
-/
module

public import proofs.«01_k».proof.Proof.TFold
public import proofs.«01_k».proof.Proof.TSpec
public import proofs.«01_k».proof.Proof.KOut
public import Idealize.ShloMosaic.Lib.Pointwise
public import Idealize.ShloMosaic.Lib.WordCmp

@[expose] public section

set_option maxRecDepth 16384

noncomputable section

namespace Cert.TailIdeal.Fold

open Idealize.ShloMosaic Idealize.ShloMosaic.View
open Cert.TailIdeal Cert.TailIdeal.Gen
open Cert.KernelIdeal.Fold (bit_float ld_row cast_row canon_two)

/-! ## The pure steps -/

/-- Numbers below 2³¹ are equal as words when they are equal. -/
theorem eq_ofNat {i j : ℕ} (hi : i < 2 ^ 31) (hj : j < 2 ^ 31) :
    IntOp.cmpi .eq (BitVec.ofNat 32 i) (BitVec.ofNat 32 j) = BitVec.ofBool (decide (i = j)) :=
  WordCmp.cmpi_eq_ofNat (by omega) (by omega)

/-- An entry of the skew-symmetric part. -/
theorem skew_at (w : FVec Ideal S32x32 .f32) (i j : Fin 32) :
    skew w (ix2 i j) = Ideal.ofBits .f32 0x3F000000#32 * (w (ix2 i j) - w (ix2 j i)) := by
  pointwise [skew]

/-- An entry of the identity matrix. -/
theorem eye_at (i j : Fin 32) : eye (F := Ideal) (ix2 i j) = TSpec.Args.eye i j := by
  pointwise [eye]
  rw [eq_ofNat (by omega) (by omega), bit_float, TSpec.Args.eye]
  simp only [Fin.ext_iff]

/-- The largest sum of absolute values down a column. -/
theorem colmax_at (a : FVec Ideal S32x32 .f32) :
    colmax a = TSpec.vmax fun j : Fin 32 => ∑ i : Fin 32, max (a (ix2 i j)) (-(a (ix2 i j))) := by
  pointwise [colmax, TSpec.vmax, Ideal.absf_def]

/-- The largest sum of absolute values along a row. -/
theorem rowmax_at (a : FVec Ideal S32x32 .f32) :
    rowmax a = TSpec.vmax fun i : Fin 32 => ∑ j : Fin 32, max (a (ix2 i j)) (-(a (ix2 i j))) := by
  pointwise [rowmax, TSpec.vmax, Ideal.absf_def]

/-- An entry of the first estimate of the inverse. -/
theorem first_at (a : FVec Ideal S32x32 .f32) (i j : Fin 32) :
    first a (ix2 i j) = a (ix2 j i) * Ideal.div 1 (colmax a * rowmax a) := by
  pointwise [first]

/-- An entry of the product of two square matrices. -/
theorem sq_at (a b : FVec Ideal S32x32 .f32) (i j : Fin 32) :
    sq a b (ix2 i j) = ∑ k : Fin 32, a (ix2 i k) * b (ix2 k j) := by
  pointwise [sq]

/-- An entry of the next estimate of the inverse. -/
theorem step_at (a y : FVec Ideal S32x32 .f32) (i j : Fin 32) : step a y (ix2 i j) =
    ∑ k : Fin 32, y (ix2 i k) * (Ideal.ofBits .f32 0x40000000#32 * TSpec.Args.eye k j - ∑ l : Fin 32, a (ix2 k l) * y (ix2 l j)) := by
  pointwise [step, sq_at, eye_at]

/-- An entry of the mean over the rows. -/
theorem mean_at (x : FVec Ideal S1024x1024 .f32) (o : Fin 1) (d : Fin 1024) :
    mean x (ix2 o d) = Spec.mean fun t => x (ix2 t d) := by
  rw [← TSpec.mean_mul]
  pointwise [mean]

/-- The largest entry of a row, at every entry of the row. -/
theorem rmax_at (p : FVec Ideal S1024x8 .f32) (t : Fin 1024) (e : Fin 8) :
    rmax p (ix2 t e) = TSpec.vmax fun x : Fin 8 => p (ix2 t x) := by
  pointwise [rmax, TSpec.vmax]

/-- An exponential of the softmax. -/
theorem expo_at (l : FVec Ideal S1024x8 .f32) (t : Fin 1024) (e : Fin 8) :
    expo l (ix2 t e) = TSpec.ex (fun x => l (ix2 t x)) e := by
  pointwise [expo, rmax_at, TSpec.ex]

/-- The sum of a row. -/
theorem rsum_at (p : FVec Ideal S1024x8 .f32) (t : Fin 1024) (o : Fin 1) : rsum p (ix2 t o) = ∑ x : Fin 8, p (ix2 t x) := by
  pointwise [rsum]

/-- An entry of the softmax. -/
theorem soft_at (l : FVec Ideal S1024x8 .f32) (t : Fin 1024) (e : Fin 8) :
    soft l (ix2 t e) = TSpec.prob (fun x => l (ix2 t x)) e := by
  pointwise [soft, expo_at, rsum_at, TSpec.prob]

/-- The least column number at which one of eight bits is set, or eight, is a given one when its bit is the first. -/
theorem first_bit_eight : ∀ (b0 b1 b2 b3 b4 b5 b6 b7 : Bool) (e : Fin 8),
    IntOp.cmpi .eq (BitVec.ofNat 32 e.val) (Finset.fold IntOp.minsi 2147483647#32
      (fun x : Fin 8 => if ![b0, b1, b2, b3, b4, b5, b6, b7] x = true then BitVec.ofNat 32 x.val else 8#32) Finset.univ)
    = BitVec.ofBool (decide (![b0, b1, b2, b3, b4, b5, b6, b7] e = true ∧ ∀ j < e, ![b0, b1, b2, b3, b4, b5, b6, b7] j ≠ true)) := by
  decide +kernel

/-- The same of the bits as a function. -/
theorem first_bit (q : Fin 8 → Bool) (e : Fin 8) :
    IntOp.cmpi .eq (BitVec.ofNat 32 e.val) (Finset.fold IntOp.minsi 2147483647#32
      (fun x : Fin 8 => if q x = true then BitVec.ofNat 32 x.val else 8#32) Finset.univ)
    = BitVec.ofBool (decide (q e = true ∧ ∀ j < e, q j ≠ true)) := by
  have h : q = ![q 0, q 1, q 2, q 3, q 4, q 5, q 6, q 7] := funext fun x => by
    match x with
    | ⟨0, _⟩ => rfl | ⟨1, _⟩ => rfl | ⟨2, _⟩ => rfl | ⟨3, _⟩ => rfl
    | ⟨4, _⟩ => rfl | ⟨5, _⟩ => rfl | ⟨6, _⟩ => rfl | ⟨7, _⟩ => rfl
  have k := first_bit_eight (q 0) (q 1) (q 2) (q 3) (q 4) (q 5) (q 6) (q 7) e
  rw [← h] at k
  exact k

/-- The kernel marks the first expert that has the largest value. -/
theorem hit_at (p : FVec Ideal S1024x8 .f32) (t : Fin 1024) (e : Fin 8) [Decidable (TSpec.Lead (fun x => p (ix2 t x)) e)] :
    hit p (ix2 t e) = BitVec.ofBool (decide (TSpec.Lead (fun x => p (ix2 t x)) e)) := by
  classical
  have h := first_bit (fun x => decide (p (ix2 t x) = TSpec.vmax fun x : Fin 8 => p (ix2 t x))) e
  have g : hit p (ix2 t e) = IntOp.cmpi .eq (BitVec.ofNat 32 e.val) (Finset.fold IntOp.minsi 2147483647#32
      (fun x : Fin 8 => if p (ix2 t x) = TSpec.vmax (fun x : Fin 8 => p (ix2 t x)) then BitVec.ofNat 32 x.val else 8#32) Finset.univ) := by
    pointwise [hit, col, rmax_at]
  have f : (fun x : Fin 8 => if p (ix2 t x) = TSpec.vmax (fun x : Fin 8 => p (ix2 t x)) then BitVec.ofNat 32 x.val else 8#32)
      = fun x : Fin 8 => if decide (p (ix2 t x) = TSpec.vmax fun x : Fin 8 => p (ix2 t x)) = true then BitVec.ofNat 32 x.val
        else 8#32 := by
    funext x
    by_cases q : p (ix2 t x) = TSpec.vmax (fun x : Fin 8 => p (ix2 t x))
    · rw [if_pos q, if_pos (decide_eq_true q)]
    · rw [if_neg q, if_neg (by rw [decide_eq_false q]; decide)]
  rw [f] at g
  refine (g.trans h).trans (congrArg _ (decide_eq_decide.2 ?_))
  rw [TSpec.lead_iff]
  exact and_congr decide_eq_true_iff (forall_congr' fun j => forall_congr' fun _ => not_congr decide_eq_true_iff)

/-- The word of minus one. -/
theorem ofBits_neg : Ideal.ofBits .f32 0xBF800000#32 = ((-1 : ℝ) : EReal) := by
  simp [Ideal.ofBits, Ideal.ieee, -EReal.coe_mul]; norm_num

open Classical in
/-- The values with the marked expert's set to minus one. -/
theorem rest_at (p : FVec Ideal S1024x8 .f32) (t : Fin 1024) (e : Fin 8) : rest p (ix2 t e) =
    if TSpec.Lead (fun x => p (ix2 t x)) e then Ideal.ofBits .f32 0xBF800000#32 else p (ix2 t e) := by
  pointwise [rest, hit_at]

/-- The kernel's mask is one at the two experts that fewer than two others come before. -/
theorem top_at (p : FVec Ideal S1024x8 .f32) (t : Fin 1024) (hp : ∀ x : Fin 8, 0 ≤ p (ix2 t x)) (e : Fin 8) :
    top p (ix2 t e) = TSpec.top (fun x => p (ix2 t x)) e := by
  classical
  have h := TSpec.lead_or (fun x => p (ix2 t x)) (Ideal.ofBits .f32 0xBF800000#32) (fun x => lt_of_lt_of_le (by
    rw [ofBits_neg, ← EReal.coe_zero]; exact EReal.coe_lt_coe_iff.2 (by norm_num)) (hp x)) e
  have g : top p (ix2 t e) = FloatOps.sitofp (F := Ideal) .f32 (BitVec.setWidth 32
      (IntOp.ori (hit p (ix2 t e)) (hit (rest p) (ix2 t e)))) := by
    pointwise [top]
  have k : IntOp.ori (hit p (ix2 t e)) (hit (rest p) (ix2 t e)) =
      BitVec.ofBool (decide (TSpec.count (fun x => p (ix2 t x)) e < 2)) := by
    rw [hit_at, hit_at, ← decide_eq_decide.2 h]
    simp only [rest_at]
    rw [Bool.decide_or]
    show BitVec.ofBool _ ||| BitVec.ofBool _ = _
    rw [BitVec.ofBool_or_ofBool]
  rw [g, k, bit_float, TSpec.top]

/-- A gate: a masked probability over the sum of those of its row. -/
theorem gate_at (p : FVec Ideal S1024x8 .f32) (t : Fin 1024) (e : Fin 8) : gate p (ix2 t e) =
    Ideal.div (p (ix2 t e) * top p (ix2 t e)) ((∑ x : Fin 8, p (ix2 t x) * top p (ix2 t x)) + Ideal.ofBits .f32 0x3089705F#32) := by
  pointwise [gate, rsum_at]

/-- The sigmoid of one number. -/
theorem sigm_at (x : FVec Ideal S1x1 .f32) : sigm x (ix2 0 0) = TSpec.sigm (x (ix2 0 0)) := by
  pointwise [sigm, TSpec.sigm]
  rw [zero_sub]

/-- The sum of a memory-sized row. -/
theorem total_at (x : FVec Ideal S1x384 .f32) : total x = ∑ k : Fin 384, x (ix2 0 k) := by
  pointwise [total]
  exact Fin.sum_univ_one _

/-- The inner product of two rows of the width of x. -/
theorem row1_at (x : FVec Ideal S1x1024 .f32) (w : Vec Ideal S1x1024 .f32) :
    row1 x w (ix2 0 0) = ∑ d : Fin 1024, x (ix2 0 d) * w (ix2 0 d) := by
  pointwise [row1]

/-- One minus a number. -/
theorem co_at (n : FVec Ideal S1x1 .f32) : co n (ix2 0 0) = 1 - n (ix2 0 0) := by
  pointwise [co]

/-! ## The body over the arguments -/

/-- The blocks hold the arguments. -/
structure Of (i : In Ideal) (a : TSpec.Args) : Prop where
  x0 : ∀ b t d, i.x0 (ix3 b t d) = a.x b t d
  x1 : ∀ b t d, i.x1 (ix3 b t d) = a.x1 b t d
  x2 : ∀ b j n, i.x2 (ix3 b j n) = a.rag b j n
  x3 : ∀ b k, i.x3 (ix3 b 0 k) = a.mem b k
  x4 : ∀ n d, i.x4 (ix2 n d) = a.wrq n d
  x5 : ∀ d n, i.x5 (ix2 d n) = a.wro d n
  x6 : ∀ k l, i.x6 (ix2 k l) = a.wsk k l
  x7 : ∀ k d, i.x7 (ix2 k d) = a.win k d
  x8 : ∀ d k, i.x8 (ix2 d k) = a.wout d k
  x9 : ∀ e d, i.x9 (ix2 e d) = a.wrt e d
  x10 : ∀ e d r, i.x10 (ix3 e d r) = a.la e d r
  x11 : ∀ e r d, i.x11 (ix3 e r d) = a.lb e r d
  x12 : ∀ d : Fin 1024, i.x12 (ix2 0 d) = a.wnov ⟨d.val, by omega⟩
  x13 : ∀ d : Fin 1024, i.x13 (ix2 0 d) = a.wnov ⟨1024 + d.val, by omega⟩
  x14 : i.x14 (ix1 0) = a.bnov
  x15 : ∀ k d, i.x15 (ix2 k d) = a.wmq k d
  x16 : ∀ d k, i.x16 (ix2 d k) = a.wmp d k
  x17 : ∀ d : Fin 1024, i.x17 (ix2 0 d) = a.wmg ⟨d.val, by omega⟩
  x18 : ∀ k : Fin 384, i.x18 (ix2 0 k) = a.wmg ⟨1024 + k.val, by omega⟩
  x19 : i.x19 (ix1 0) = a.bmg

variable {i : In Ideal} {a : TSpec.Args} (o : Of i a) (ha : a.Fin)

namespace Of
include o

/-- The kernel's skew-symmetric matrix is the specification's. -/
theorem ask (k l : Fin 32) : i.ask (ix2 k l) = a.ask k l := by
  pointwise [In.ask, skew_at, TSpec.Args.ask, o.x6]

/-- The kernel's matrix to be inverted is the specification's. -/
theorem mat (k l : Fin 32) : i.mat (ix2 k l) = a.mat k l := by
  pointwise [In.mat, eye_at, TSpec.Args.mat, o.ask]

/-- One batch element of x. -/
theorem xb (b : Fin 2) (t d : Fin 1024) : In.xb b i.x0 (ix2 t d) = a.x b t d :=
  (ld_row (α := Elt Ideal) i.x0 b (inb_x b) shapeCasts_S1x1024x1024_S1024x1024 t d).trans (o.x0 b t d)

/-- One batch element of x1. -/
theorem xb1 (b : Fin 2) (t d : Fin 1024) : In.xb b i.x1 (ix2 t d) = a.x1 b t d :=
  (ld_row (α := Elt Ideal) i.x1 b (inb_x b) shapeCasts_S1x1024x1024_S1024x1024 t d).trans (o.x1 b t d)

/-- The memory vector of one batch element. -/
theorem mem (b : Fin 2) (k : Fin 384) : i.mem b (ix2 0 k) = a.mem b k :=
  (ld_row (α := Elt Ideal) i.x3 b (inb_mem b) shapeCasts_S1x1x384_S1x384 0 k).trans (o.x3 b k)

/-- What the kernel reads from the compressed state. -/
theorem info (b : Fin 2) (j : Fin 64) : i.info b (ix2 0 j) = a.info b j := by
  have h : ∀ j n : Fin 64, shapeCast S64x64 (View.ld i.x2 (Rect.unit (s := S2x64x64) ![b.val, 0, 0] S1x64x64.size (inb_rag b)))
      shapeCasts_S1x64x64_S64x64 (ix2 j n) = a.rag b j n := fun j n =>
    (ld_row (α := Elt Ideal) i.x2 b (inb_rag b) shapeCasts_S1x64x64_S64x64 j n).trans (o.x2 b j n)
  rw [In.info]
  generalize shapeCast S64x64 (View.ld i.x2 (Rect.unit (s := S2x64x64) ![b.val, 0, 0] S1x64x64.size (inb_rag b)))
    shapeCasts_S1x64x64_S64x64 = A at h ⊢
  pointwise [mean_at, o.xb1, o.x4, h, TSpec.Args.info]

/-- The kernel's rows after the compressed state is added. -/
theorem y1 (b : Fin 2) (t d : Fin 1024) : i.y1 b (ix2 t d) = a.y1 b t d := by
  pointwise [In.y1, o.xb1, o.info, o.x5, TSpec.Args.y1]

/-- The kernel's projections to the rotated subspace. -/
theorem t1 (b : Fin 2) (t : Fin 1024) (k : Fin 32) : i.t1 b (ix2 t k) = a.t1 b t k := by
  pointwise [In.t1, o.y1, o.x7, TSpec.Args.t1]

include ha

/-- The kernel's estimates of the inverse are the specification's. -/
theorem newton (n : ℕ) : ∀ k l : Fin 32, Fold.newton i.mat n (ix2 k l) = a.newton n k l := by
  induction n with
  | zero =>
    intro k l
    refine (first_at i.mat k l).trans ?_
    rw [colmax_at, rowmax_at, ← ha.newton_zero]
    simp only [o.mat]
    rfl
  | succ n ih =>
    intro k l
    refine (step_at i.mat _ k l).trans ?_
    simp only [o.mat]
    exact Finset.sum_congr rfl fun x _ => congrArg₂ _ (ih k x) (congrArg _ (Finset.sum_congr rfl fun y _ => congrArg _ (ih y l)))

/-- The kernel's rotation is the specification's. -/
theorem qc (k l : Fin 32) : i.qc (ix2 k l) = a.qc k l := by
  pointwise [In.qc, sq_at, eye_at, o.ask, o.newton ha, TSpec.Args.qc]

/-- The kernel's rotated projections. -/
theorem t2 (b : Fin 2) (t : Fin 1024) (k : Fin 32) : i.t2 b (ix2 t k) = a.t2 b t k := by
  pointwise [In.t2, o.t1, o.qc ha, TSpec.Args.t2]

/-- The kernel's rows after the rotation. -/
theorem y2 (b : Fin 2) (t d : Fin 1024) : i.y2 b (ix2 t d) = a.y2 b t d := by
  pointwise [In.y2, o.y1, o.t2 ha, o.x8, TSpec.Args.y2]

/-- The same rows after the cast, which is the identity over the extended reals. -/
theorem y2r (b : Fin 2) (t d : Fin 1024) : i.y2r b (ix2 t d) = a.y2 b t d := by
  pointwise [In.y2r, o.y2 ha]

/-- The kernel's router logits. -/
theorem logit (b : Fin 2) (t : Fin 1024) (e : Fin 8) : i.logit b (ix2 t e) = a.logit b t e := by
  pointwise [In.logit, o.y2r ha, o.x9, TSpec.Args.logit]

/-- The kernel's router probabilities. -/
theorem prob (b : Fin 2) (t : Fin 1024) (e : Fin 8) : i.prob b (ix2 t e) = a.pr b t e := by
  rw [In.prob, soft_at, TSpec.Args.pr]
  simp only [o.logit ha]

/-- The kernel's mask of the two chosen experts. -/
theorem top (b : Fin 2) (t : Fin 1024) (e : Fin 8) : Fold.top (i.prob b) (ix2 t e) = a.mask b t e := by
  rw [top_at _ _ (fun x => by rw [o.prob ha]; exact ha.pr_nonneg b t x), TSpec.Args.mask]
  simp only [o.prob ha]

/-- The kernel's gates. -/
theorem gate (b : Fin 2) (t : Fin 1024) (e : Fin 8) : Fold.gate (i.prob b) (ix2 t e) = a.gate b t e := by
  rw [gate_at, TSpec.Args.gate]
  simp only [o.prob ha, o.top ha]

/-- What one expert adds in the kernel. -/
theorem expert (b : Fin 2) (e : Fin 8) (t d : Fin 1024) : i.expert b e (ix2 t d) = a.expert b t d e := by
  have h : ∀ (q : Fin 1024) (r : Fin 8), shapeCast S1024x8 (View.ld i.x10 (Rect.unit (s := S8x1024x8) ![e.val, 0, 0] S1x1024x8.size (inb_la e)))
      shapeCasts_S1x1024x8_S1024x8 (ix2 q r) = a.la e q r := fun q r =>
    (ld_row (α := Elt Ideal) i.x10 e (inb_la e) shapeCasts_S1x1024x8_S1024x8 q r).trans (o.x10 e q r)
  have g : ∀ (r : Fin 8) (q : Fin 1024), shapeCast S8x1024 (View.ld i.x11 (Rect.unit (s := S8x8x1024) ![e.val, 0, 0] S1x8x1024.size (inb_lb e)))
      shapeCasts_S1x8x1024_S8x1024 (ix2 r q) = a.lb e r q := fun r q =>
    (ld_row (α := Elt Ideal) i.x11 e (inb_lb e) shapeCasts_S1x8x1024_S8x1024 r q).trans (o.x11 e r q)
  rw [In.expert]
  generalize shapeCast S1024x8 (View.ld i.x10 (Rect.unit (s := S8x1024x8) ![e.val, 0, 0] S1x1024x8.size (inb_la e)))
    shapeCasts_S1x1024x8_S1024x8 = A at h ⊢
  generalize shapeCast S8x1024 (View.ld i.x11 (Rect.unit (s := S8x8x1024) ![e.val, 0, 0] S1x8x1024.size (inb_lb e)))
    shapeCasts_S1x8x1024_S8x1024 = B at g ⊢
  pointwise [o.y2r ha, o.gate ha, h, g, TSpec.Args.expert]

/-- The kernel's rows after the experts are added. -/
theorem x2n (b : Fin 2) (t d : Fin 1024) : i.x2n b (ix2 t d) = a.x2 b t d := by
  have h : i.x2n b (ix2 t d) = a.y2 b t d + ((((((((0 + i.expert b 0 (ix2 t d)) + i.expert b 1 (ix2 t d)) + i.expert b 2 (ix2 t d))
      + i.expert b 3 (ix2 t d)) + i.expert b 4 (ix2 t d)) + i.expert b 5 (ix2 t d)) + i.expert b 6 (ix2 t d)) + i.expert b 7 (ix2 t d)) := by
    rw [← o.y2 ha]
    show i.y2 b (ix2 t d) + ((((((((Ideal.ofBits .f32 0x00000000#32 + i.expert b 0 (ix2 t d)) + i.expert b 1 (ix2 t d)) + i.expert b 2 (ix2 t d))
      + i.expert b 3 (ix2 t d)) + i.expert b 4 (ix2 t d)) + i.expert b 5 (ix2 t d)) + i.expert b 6 (ix2 t d)) + i.expert b 7 (ix2 t d)) = _
    rw [show Ideal.ofBits .f32 0x00000000#32 = (0 : EReal) by simp [Ideal.ofBits, Ideal.ieee]]
  rw [h, TSpec.Args.x2, Fin.sum_univ_eight, zero_add]
  simp only [o.expert ha]

/-- The kernel's novelty. -/
theorem novelty : ∀ b : Fin 2, i.nov b (ix2 0 0) = a.nov b := by
  intro b
  rw [In.nov, sigm_at, TSpec.Args.nov, TSpec.Args.novArg]
  congr 1
  pointwise [row1_at, mean_at, o.xb, o.x2n ha, o.x12, o.x13]
  exact congrArg _ o.x14

/-- The kernel's rows blended by the novelty. -/
theorem x3n (b : Fin 2) (t d : Fin 1024) : i.x3n b (ix2 t d) = a.x3 b t d := by
  pointwise [In.x3n, o.novelty ha, co_at, o.x2n ha, o.xb, TSpec.Args.x3]

/-- The mean of the blended rows, which the kernel blends from the means. -/
theorem post (b : Fin 2) (d : Fin 1024) : i.post b (ix2 0 d) = a.post b d := by
  rw [a.post_eq]
  pointwise [In.post, o.novelty ha, co_at, mean_at, o.x2n ha, o.xb]

/-- The kernel's memory query. -/
theorem hq (b : Fin 2) (k : Fin 384) : i.hq b (ix2 0 k) = a.hq b k := by
  pointwise [In.hq, o.post ha, o.x15, TSpec.Args.hq]

/-- The kernel's cosine similarity. -/
theorem sim (b : Fin 2) : i.sim b = a.sim b := by
  pointwise [In.sim, total_at, o.hq ha, o.mem, TSpec.Args.sim]
  rfl

/-- The kernel's memory gate. -/
theorem gm (b : Fin 2) : i.gm b (ix2 0 0) = a.gm b := by
  rw [In.gm, sigm_at, TSpec.Args.gm]
  congr 1
  pointwise [row1_at, o.post ha, o.mem, o.x17, o.x18]
  exact congrArg _ o.x19

/-- The first result of the kernel is the specification's. -/
theorem out (b : Fin 2) (t d : Fin 1024) : i.out b (ix2 t d) = a.x4 b t d := by
  pointwise [In.out, o.x3n ha, o.sim ha, o.gm ha, o.mem, o.x16, TSpec.Args.x4]

/-- The second result of the kernel is the specification's. -/
theorem aux (b : Fin 2) (r e : Fin 8) : i.aux b (ix2 r e) = a.sums b r e := by
  pointwise [In.aux, o.prob ha, o.top ha, TSpec.Args.sums]
  simp only [dite_eq_ite]

/-- The first output. -/
theorem res20 (b : Fin 2) (t d : Fin 1024) : View.canon [i.q20 1, i.q20 0] (ix3 b t d) = a.x4 b t d := by
  refine (canon_two inb_x (fun b => shapeCast S1x1024x1024 (i.out b) shapeCasts_S1024x1024_S1x1024x1024) b t d).trans ?_
  exact (cast_row _ _ t d).trans (o.out ha b t d)

/-- The second output. -/
theorem res21 (b : Fin 2) (r e : Fin 8) : View.canon [i.q21 1, i.q21 0] (ix3 b r e) = a.sums b r e := by
  refine (canon_two inb_aux (fun b => shapeCast S1x8x8 (i.aux b) shapeCasts_S8x8_S1x8x8) b r e).trans ?_
  exact (cast_row _ _ r e).trans (o.aux ha b r e)

end Of

end Cert.TailIdeal.Fold
-- ==== Proof.TArgs.lean ====
/-
  The tail's eighteen argument arrays as arrays of extended reals, and by coordinates.
-/
module

public import proofs.«01_k».proof.Proof.TSpec
public import Idealize.ShloMosaic.Lib.Pointwise

@[expose] public section

noncomputable section

namespace Cert

open Idealize.ShloMosaic

/-- The argument arrays in the order in which the tail's programs take them. -/
structure TArr where
  a0 : (⟨3, ![2, 1024, 1024]⟩ : Shape).Idx → EReal
  a1 : (⟨3, ![2, 1024, 1024]⟩ : Shape).Idx → EReal
  a2 : (⟨2, ![2, 384]⟩ : Shape).Idx → EReal
  a3 : (⟨3, ![2, 64, 64]⟩ : Shape).Idx → EReal
  a4 : (⟨2, ![32, 32]⟩ : Shape).Idx → EReal
  a5 : (⟨2, ![32, 1024]⟩ : Shape).Idx → EReal
  a6 : (⟨2, ![1024, 32]⟩ : Shape).Idx → EReal
  a7 : (⟨2, ![8, 1024]⟩ : Shape).Idx → EReal
  a8 : (⟨3, ![8, 1024, 8]⟩ : Shape).Idx → EReal
  a9 : (⟨3, ![8, 8, 1024]⟩ : Shape).Idx → EReal
  a10 : (⟨2, ![1, 2048]⟩ : Shape).Idx → EReal
  a11 : (⟨1, ![1]⟩ : Shape).Idx → EReal
  a12 : (⟨2, ![64, 1024]⟩ : Shape).Idx → EReal
  a13 : (⟨2, ![1024, 64]⟩ : Shape).Idx → EReal
  a14 : (⟨2, ![384, 1024]⟩ : Shape).Idx → EReal
  a15 : (⟨2, ![1024, 384]⟩ : Shape).Idx → EReal
  a16 : (⟨2, ![1, 1408]⟩ : Shape).Idx → EReal
  a17 : (⟨1, ![1]⟩ : Shape).Idx → EReal

/-- The arrays by coordinates. -/
def TArr.args (A : TArr) : TSpec.Args where
  x b t d := A.a0 (ix3 b t d)
  x1 b t d := A.a1 (ix3 b t d)
  mem b k := A.a2 (ix2 b k)
  rag b j n := A.a3 (ix3 b j n)
  wsk i j := A.a4 (ix2 i j)
  win i d := A.a5 (ix2 i d)
  wout d i := A.a6 (ix2 d i)
  wrt e d := A.a7 (ix2 e d)
  la e d r := A.a8 (ix3 e d r)
  lb e r d := A.a9 (ix3 e r d)
  wnov d := A.a10 (ix2 0 d)
  bnov := A.a11 (ix1 0)
  wrq n d := A.a12 (ix2 n d)
  wro d n := A.a13 (ix2 d n)
  wmq k d := A.a14 (ix2 k d)
  wmp d k := A.a15 (ix2 d k)
  wmg d := A.a16 (ix2 0 d)
  bmg := A.a17 (ix1 0)

end Cert
-- ==== Proof.THost.lean ====
/-
  The tail's argument arrays, and the blocks that the tail call's body reads, as the host operations before the region
  prepare them from the arguments.
-/
module

public import proofs.«01_k».proof.Proof.TValue
public import proofs.«01_k».proof.Proof.TArgs
public import Idealize.ShloMosaic.Lib.Pipeline.ValueKit
public import Idealize.ShloMosaic.Lib.StableHlo.ReadAt

@[expose] public section

set_option maxRecDepth 16384

noncomputable section

namespace Cert.TailIdeal.Host

open Idealize.ShloMosaic Idealize.ShloMosaic.TcCoe Idealize.SL.Sem
open Cert.TailIdeal Cert.TailIdeal.Gen

variable (m : (ℓ : Loc nD τ sig) → Buf (Elt Ideal) ℓ)

/-- The argument arrays in core `c`'s memory. -/
def arr (c : Dev nD) : TArr :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12), m ((c : Thread nD τ).loc main_arg13), m ((c : Thread nD τ).loc main_arg14),
   m ((c : Thread nD τ).loc main_arg15), m ((c : Thread nD τ).loc main_arg16), m ((c : Thread nD τ).loc main_arg17)⟩

/-- The blocks that the body reads at the one grid point. -/
def inp (c : Dev nD) : Fold.In Ideal :=
  ⟨iblk m c 0 t0_0, iblk m c 1 t0_0, iblk m c 2 t0_0, iblk m c 3 t0_0, iblk m c 4 t0_0, iblk m c 5 t0_0, iblk m c 6 t0_0,
   iblk m c 7 t0_0, iblk m c 8 t0_0, iblk m c 9 t0_0, iblk m c 10 t0_0, iblk m c 11 t0_0, iblk m c 12 t0_0, iblk m c 13 t0_0,
   iblk m c 14 t0_0, iblk m c 15 t0_0, iblk m c 16 t0_0, iblk m c 17 t0_0, iblk m c 18 t0_0, iblk m c 19 t0_0⟩

set_option maxHeartbeats 4000000 in
/-- At the one grid point every window's block is the whole of its array. -/
theorem blocks (c : Dev nD) : (inp m c).x0 = V m c main_arg0
    ∧ (inp m c).x1 = V m c main_arg1
    ∧ (inp m c).x2 = V m c main_arg3
    ∧ (inp m c).x3 = V m c main_v4
    ∧ (inp m c).x4 = V m c main_arg12
    ∧ (inp m c).x5 = V m c main_arg13
    ∧ (inp m c).x6 = V m c main_arg4
    ∧ (inp m c).x7 = V m c main_v5
    ∧ (inp m c).x8 = V m c main_v6
    ∧ (inp m c).x9 = V m c main_v7
    ∧ (inp m c).x10 = V m c main_v8
    ∧ (inp m c).x11 = V m c main_v9
    ∧ (inp m c).x12 = V m c main_v0
    ∧ (inp m c).x13 = V m c main_v1
    ∧ (inp m c).x14 = V m c main_arg11
    ∧ (inp m c).x15 = V m c main_arg14
    ∧ (inp m c).x16 = V m c main_arg15
    ∧ (inp m c).x17 = V m c main_v2
    ∧ (inp m c).x18 = V m c main_v3
    ∧ (inp m c).x19 = V m c main_arg17 := by
  have e : (∀ a, win0_0.index t0_0 a = 0) ∧ (∀ a, win0_1.index t0_0 a = 0) ∧ (∀ a, win0_2.index t0_0 a = 0) ∧ (∀ a, win0_3.index t0_0 a = 0) ∧ (∀ a, win0_4.index t0_0 a = 0) ∧ (∀ a, win0_5.index t0_0 a = 0) ∧ (∀ a, win0_6.index t0_0 a = 0) ∧ (∀ a, win0_7.index t0_0 a = 0) ∧ (∀ a, win0_8.index t0_0 a = 0) ∧ (∀ a, win0_9.index t0_0 a = 0) ∧ (∀ a, win0_10.index t0_0 a = 0) ∧ (∀ a, win0_11.index t0_0 a = 0) ∧ (∀ a, win0_12.index t0_0 a = 0) ∧ (∀ a, win0_13.index t0_0 a = 0) ∧ (∀ a, win0_14.index t0_0 a = 0) ∧ (∀ a, win0_15.index t0_0 a = 0) ∧ (∀ a, win0_16.index t0_0 a = 0) ∧ (∀ a, win0_17.index t0_0 a = 0) ∧ (∀ a, win0_18.index t0_0 a = 0) ∧ (∀ a, win0_19.index t0_0 a = 0) := by
    decide +kernel
  refine ⟨?_, ?_, ?_, ?_, ?_, ?_, ?_, ?_, ?_, ?_, ?_, ?_, ?_, ?_, ?_, ?_, ?_, ?_, ?_, ?_⟩ <;>
    (funext j; dsimp only [inp]; blk_simp [iblk]; exact congrArg _ (by blk_ext [e]))

/-- The blocks hold the arguments: as they are, rounded, or a part of a row. -/
theorem of (c : Dev nD) : Fold.Of (inp m c) (arr m c).args := by
  obtain ⟨h0, h1, h2, h3, h4, h5, h6, h7, h8, h9, h10, h11, h12, h13, h14, h15, h16, h17, h18, h19⟩ := blocks m c
  constructor
  · intro b t d; rw [h0, V_main_arg0]; rfl
  · intro b t d; rw [h1, V_main_arg1]; rfl
  · intro b j n; rw [h2, V_main_arg3]; rfl
  · intro b k; rw [h3]; dsimp only [TArr.args, arr]; unfold V; after_reads_at
  · intro n d; rw [h4, V_main_arg12]; rfl
  · intro n d; rw [h5, V_main_arg13]; rfl
  · intro n d; rw [h6, V_main_arg4]; rfl
  · intro n d; rw [h7]; dsimp only [TArr.args, arr]; unfold V; after_reads_at
  · intro n d; rw [h8]; dsimp only [TArr.args, arr]; unfold V; after_reads_at
  · intro n d; rw [h9]; dsimp only [TArr.args, arr]; unfold V; after_reads_at
  · intro n d r; rw [h10]; dsimp only [TArr.args, arr]; unfold V; after_reads_at
  · intro n d r; rw [h11]; dsimp only [TArr.args, arr]; unfold V; after_reads_at
  · intro d; rw [h12]; dsimp only [TArr.args, arr]; unfold V; after_reads_at
  · intro d; rw [h13]; dsimp only [TArr.args, arr]; unfold V; after_reads_at
  · rw [h14, V_main_arg11]; rfl
  · intro n d; rw [h15, V_main_arg14]; rfl
  · intro n d; rw [h16, V_main_arg15]; rfl
  · intro d; rw [h17]; dsimp only [TArr.args, arr]; unfold V; after_reads_at
  · intro d; rw [h18]; dsimp only [TArr.args, arr]; unfold V; after_reads_at
  · rw [h19, V_main_arg17]; rfl

end Cert.TailIdeal.Host
-- ==== Proof.TArr.lean ====
/-
  The tail call's result arrays, as the pieces that its body leaves, read from the blocks.
-/
module

public import proofs.«01_k».proof.Proof.TBridge
public import proofs.«01_k».proof.Proof.THost
public import proofs.«01_k».proof.Proof.Gen.TailIdeal.Value

@[expose] public section

set_option maxRecDepth 16384

noncomputable section

namespace Cert.TailIdeal.Fold

open Idealize.ShloMosaic
open Cert.TailIdeal Cert.TailIdeal.Gen

section
variable
  (c : Dev nD) (arg0 : Memref sig .tc .vmem S2x1024x1024 .f32) (harg0 : arg0.IsWhole)
  (arg1 : Memref sig .tc .vmem S2x1024x1024 .f32) (harg1 : arg1.IsWhole) (arg2 : Memref sig .tc .vmem S2x64x64 .f32)
  (harg2 : arg2.IsWhole) (arg3 : Memref sig .tc .vmem S2x1x384 .f32) (harg3 : arg3.IsWhole)
  (arg4 : Memref sig .tc .vmem S64x1024 .f32) (harg4 : arg4.IsWhole) (arg5 : Memref sig .tc .vmem S1024x64 .f32)
  (harg5 : arg5.IsWhole) (arg6 : Memref sig .tc .vmem S32x32 .f32) (harg6 : arg6.IsWhole)
  (arg7 : Memref sig .tc .vmem S32x1024 .bf16) (harg7 : arg7.IsWhole) (arg8 : Memref sig .tc .vmem S1024x32 .bf16)
  (harg8 : arg8.IsWhole) (arg9 : Memref sig .tc .vmem S8x1024 .bf16) (harg9 : arg9.IsWhole)
  (arg10 : Memref sig .tc .vmem S8x1024x8 .bf16) (harg10 : arg10.IsWhole) (arg11 : Memref sig .tc .vmem S8x8x1024 .bf16)
  (harg11 : arg11.IsWhole) (arg12 : Memref sig .tc .vmem S1x1024 .f32) (harg12 : arg12.IsWhole)
  (arg13 : Memref sig .tc .vmem S1x1024 .f32) (harg13 : arg13.IsWhole) (arg14 : Memref sig .tc .smem S1 .f32)
  (harg14 : arg14.IsWhole) (arg15 : Memref sig .tc .vmem S384x1024 .f32) (harg15 : arg15.IsWhole)
  (arg16 : Memref sig .tc .vmem S1024x384 .f32) (harg16 : arg16.IsWhole) (arg17 : Memref sig .tc .vmem S1x1024 .f32)
  (harg17 : arg17.IsWhole) (arg18 : Memref sig .tc .vmem S1x384 .f32) (harg18 : arg18.IsWhole)
  (arg19 : Memref sig .tc .smem S1 .f32) (harg19 : arg19.IsWhole) (arg20 : Memref sig .tc .vmem S2x1024x1024 .f32)
  (harg20 : arg20.IsWhole) (arg21 : Memref sig .tc .vmem S2x8x8 .f32) (harg21 : arg21.IsWhole)
  (x0 : Vec Ideal S2x1024x1024 .f32) (x1 : Vec Ideal S2x1024x1024 .f32) (x2 : Vec Ideal S2x64x64 .f32) (x3 : Vec Ideal S2x1x384 .f32)
  (x4 : Vec Ideal S64x1024 .f32) (x5 : Vec Ideal S1024x64 .f32) (x6 : Vec Ideal S32x32 .f32) (x7 : Vec Ideal S32x1024 .bf16)
  (x8 : Vec Ideal S1024x32 .bf16) (x9 : Vec Ideal S8x1024 .bf16) (x10 : Vec Ideal S8x1024x8 .bf16) (x11 : Vec Ideal S8x8x1024 .bf16)
  (x12 : Vec Ideal S1x1024 .f32) (x13 : Vec Ideal S1x1024 .f32) (x14 : Vec Ideal S1 .f32) (x15 : Vec Ideal S384x1024 .f32)
  (x16 : Vec Ideal S1024x384 .f32) (x17 : Vec Ideal S1x1024 .f32) (x18 : Vec Ideal S1x384 .f32) (x19 : Vec Ideal S1 .f32)

/-- What the body leaves in the first output's buffer, as its pieces over the blocks. -/
theorem out20 : out0_A_20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 =
    View.canon (let Q : In Ideal := ⟨x0, x1, x2, x3, x4, x5, x6, x7, x8, x9, x10, x11, x12, x13, x14, x15, x16, x17, x18, x19⟩; [Q.q20 1, Q.q20 0]) := by
  unfold out0_A_20
  rw [View.read_writes_junk_eq_canon, run20]
  simp only [Memref.IsWhole.read_unread]

/-- What the body leaves in the second output's buffer, as its pieces over the blocks. -/
theorem out21 : out0_A_21 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 =
    View.canon (let Q : In Ideal := ⟨x0, x1, x2, x3, x4, x5, x6, x7, x8, x9, x10, x11, x12, x13, x14, x15, x16, x17, x18, x19⟩; [Q.q21 1, Q.q21 0]) := by
  unfold out0_A_21
  rw [View.read_writes_junk_eq_canon, run21]
  simp only [Memref.IsWhole.read_unread]

end

end Cert.TailIdeal.Fold

namespace Cert.TailIdeal.Host

open Idealize.ShloMosaic Idealize.ShloMosaic.TcCoe Idealize.SL.Sem
open Cert.TailIdeal Cert.TailIdeal.Gen

variable (m : (ℓ : Loc nD τ sig) → Buf (Elt Ideal) ℓ)

/-- The first result's array: the pieces left in its buffer. -/
theorem arr20 (c : Dev nD) : (dats m 0 c).arrAt 20 cfg0.N = View.canon [(inp m c).q20 1, (inp m c).q20 0] := by
  refine (dats m 0 c).arrAt_eq_of_after_last 20 t0_0 (by decide +kernel) _ fun j => ?_
  have h : (outsAt0 m c t0_0).1 = View.canon [(inp m c).q20 1, (inp m c).q20 0] := by
    dsimp only [outsAt0]
    rw [Fold.out20]
    rfl
  blk_simp
  rw [after0_20, h] <;> rfl

/-- The second result's array: the pieces left in its buffer. -/
theorem arr21 (c : Dev nD) : (dats m 0 c).arrAt 21 cfg0.N = View.canon [(inp m c).q21 1, (inp m c).q21 0] := by
  refine (dats m 0 c).arrAt_eq_of_after_last 21 t0_0 (by decide +kernel) _ fun j => ?_
  have h : (outsAt0 m c t0_0).2 = View.canon [(inp m c).q21 1, (inp m c).q21 0] := by
    dsimp only [outsAt0]
    rw [Fold.out21]
    rfl
  blk_simp
  rw [after0_21, h] <;> rfl

end Cert.TailIdeal.Host
-- ==== Proof.TRef.lean ====
/-
  The tail's reference read at an index, as values of the arguments.
-/
module

public import proofs.«01_k».proof.Proof.Gen.TailReferenceIdeal.Run
public import proofs.«01_k».proof.Proof.TArgs
public import Idealize.ShloMosaic.Lib.Pointwise
public import Idealize.ShloMosaic.Lib.WordCmp

@[expose] public section

set_option maxRecDepth 16384

noncomputable section

namespace Cert.TailReferenceIdeal.Ref

open Idealize.ShloMosaic
open Cert.TailReferenceIdeal Cert.TailReferenceIdeal.Gen Cert.TailReferenceIdeal.Value

variable (V : Valuation τ sig (Elt Ideal))

/-- The argument arrays. -/
def arr : TArr :=
  ⟨V (Proc.devRef .tc main_arg0), V (Proc.devRef .tc main_arg1), V (Proc.devRef .tc main_arg2), V (Proc.devRef .tc main_arg3),
   V (Proc.devRef .tc main_arg4), V (Proc.devRef .tc main_arg5), V (Proc.devRef .tc main_arg6), V (Proc.devRef .tc main_arg7),
   V (Proc.devRef .tc main_arg8), V (Proc.devRef .tc main_arg9), V (Proc.devRef .tc main_arg10), V (Proc.devRef .tc main_arg11),
   V (Proc.devRef .tc main_arg12), V (Proc.devRef .tc main_arg13), V (Proc.devRef .tc main_arg14), V (Proc.devRef .tc main_arg15),
   V (Proc.devRef .tc main_arg16), V (Proc.devRef .tc main_arg17)⟩

/-- The arguments by coordinates. -/
def args : TSpec.Args := (arr V).args

/-- Argument 0 of the reference is the field of the specification's arguments that is read from it. -/
theorem g0 (b : Fin 2) (t d : Fin 1024) : V (Proc.devRef .tc main_arg0) (ix3 b t d) = (args V).x b t d := rfl
/-- Argument 1 of the reference is the field of the specification's arguments that is read from it. -/
theorem g1 (b : Fin 2) (t d : Fin 1024) : V (Proc.devRef .tc main_arg1) (ix3 b t d) = (args V).x1 b t d := rfl
/-- Argument 2 of the reference is the field of the specification's arguments that is read from it. -/
theorem g2 (b : Fin 2) (k : Fin 384) : V (Proc.devRef .tc main_arg2) (ix2 b k) = (args V).mem b k := rfl
/-- Argument 3 of the reference is the field of the specification's arguments that is read from it. -/
theorem g3 (b : Fin 2) (j n : Fin 64) : V (Proc.devRef .tc main_arg3) (ix3 b j n) = (args V).rag b j n := rfl
/-- Argument 4 of the reference is the field of the specification's arguments that is read from it. -/
theorem g4 (i j : Fin 32) : V (Proc.devRef .tc main_arg4) (ix2 i j) = (args V).wsk i j := rfl
/-- Argument 5 of the reference is the field of the specification's arguments that is read from it. -/
theorem g5 (i : Fin 32) (d : Fin 1024) : V (Proc.devRef .tc main_arg5) (ix2 i d) = (args V).win i d := rfl
/-- Argument 6 of the reference is the field of the specification's arguments that is read from it. -/
theorem g6 (d : Fin 1024) (i : Fin 32) : V (Proc.devRef .tc main_arg6) (ix2 d i) = (args V).wout d i := rfl
/-- Argument 7 of the reference is the field of the specification's arguments that is read from it. -/
theorem g7 (e : Fin 8) (d : Fin 1024) : V (Proc.devRef .tc main_arg7) (ix2 e d) = (args V).wrt e d := rfl
/-- Argument 8 of the reference is the field of the specification's arguments that is read from it. -/
theorem g8 (e : Fin 8) (d : Fin 1024) (r : Fin 8) : V (Proc.devRef .tc main_arg8) (ix3 e d r) = (args V).la e d r := rfl
/-- Argument 9 of the reference is the field of the specification's arguments that is read from it. -/
theorem g9 (e r : Fin 8) (d : Fin 1024) : V (Proc.devRef .tc main_arg9) (ix3 e r d) = (args V).lb e r d := rfl
/-- Argument 10 of the reference is the field of the specification's arguments that is read from it. -/
theorem g10 (d : Fin 2048) : V (Proc.devRef .tc main_arg10) (ix2 0 d) = (args V).wnov d := rfl
/-- Argument 11 of the reference is the field of the specification's arguments that is read from it. -/
theorem g11 : V (Proc.devRef .tc main_arg11) (ix1 0) = (args V).bnov := rfl
/-- Argument 12 of the reference is the field of the specification's arguments that is read from it. -/
theorem g12 (n : Fin 64) (d : Fin 1024) : V (Proc.devRef .tc main_arg12) (ix2 n d) = (args V).wrq n d := rfl
/-- Argument 13 of the reference is the field of the specification's arguments that is read from it. -/
theorem g13 (d : Fin 1024) (n : Fin 64) : V (Proc.devRef .tc main_arg13) (ix2 d n) = (args V).wro d n := rfl
/-- Argument 14 of the reference is the field of the specification's arguments that is read from it. -/
theorem g14 (k : Fin 384) (d : Fin 1024) : V (Proc.devRef .tc main_arg14) (ix2 k d) = (args V).wmq k d := rfl
/-- Argument 15 of the reference is the field of the specification's arguments that is read from it. -/
theorem g15 (d : Fin 1024) (k : Fin 384) : V (Proc.devRef .tc main_arg15) (ix2 d k) = (args V).wmp d k := rfl
/-- Argument 16 of the reference is the field of the specification's arguments that is read from it. -/
theorem g16 (d : Fin 1408) : V (Proc.devRef .tc main_arg16) (ix2 0 d) = (args V).wmg d := rfl
/-- Argument 17 of the reference is the field of the specification's arguments that is read from it. -/
theorem g17 : V (Proc.devRef .tc main_arg17) (ix1 0) = (args V).bmg := rfl

/-- A comparison's bit read as a float is 1 or 0. -/
theorem bit_float (p : Prop) [Decidable p] :
    FloatOps.uitofp (F := Ideal) .f32 (BitVec.ofBool (decide p)) = if p then (1 : EReal) else 0 := by
  by_cases h : p <;> simp [h, FloatOps.uitofp]

/-- The reference's rows after the compressed state is added. -/
theorem v12 (b : Fin 2) (t d : Fin 1024) : res_main_v12 V (ix3 b t d) = (args V).y1 b t d := by
  unfold res_main_v12
  pointwise [g1, g3, g12, g13, TSpec.Args.y1, TSpec.Args.info, Spec.mean]
  simp only [mul_comm]

/-- The skew-symmetric matrix in the reference. -/
theorem v16 (i j : Fin 32) : res_main_v16 V (ix2 i j) = (args V).ask i j := by
  unfold res_main_v16
  pointwise [g4, TSpec.Args.ask]

/-- The identity matrix in the reference. -/
theorem v22 (i j : Fin 32) : res_main_v22 V (ix2 i j) = TSpec.Args.eye i j := by
  have h : res_main_v22 V (ix2 i j) = FloatOps.uitofp (F := Ideal) .f32
      (IntOp.cmpi .eq (IntOp.addi (BitVec.ofNat 32 i.val) 0#32) (BitVec.ofNat 32 j.val)) := by
    unfold res_main_v22
    pointwise
  rw [h, show IntOp.addi (BitVec.ofNat 32 i.val) 0#32 = BitVec.ofNat 32 i.val from BitVec.add_zero _,
    WordCmp.cmpi_eq_ofNat (by omega) (by omega), bit_float, TSpec.Args.eye]
  simp only [Fin.ext_iff]

/-- The identity matrix where the Newton steps use it. -/
theorem v29 (i j : Fin 32) : res_main_v29 V (ix2 i j) = TSpec.Args.eye i j := v22 V i j

/-- The matrix to be inverted in the reference. -/
theorem v23 (i j : Fin 32) : res_main_v23 V (ix2 i j) = (args V).mat i j := by
  unfold res_main_v23
  pointwise [v22, v16, TSpec.Args.mat]

/-- The first estimate of the inverse in the reference. -/
theorem v39 (i j : Fin 32) : res_main_v39 V (ix2 i j) = (args V).newton 0 i j := by
  unfold res_main_v39
  pointwise [v23, TSpec.Args.newton, TSpec.Args.n1, TSpec.Args.ninf, TSpec.vmax, Ideal.absf_def]

/-- One step of the iteration for the inverse. -/
def step (y : FVec Ideal S32x32 .f32) : FVec Ideal S32x32 .f32 :=
  Host.dotGeneral dot_S32x32_S32x32_S32x32_1_0_0_1_n_n none (φ₁ := .f32) (φ₂ := .f32) y (subf (mulf (broadcastInDim S32x32 ![] bcast_S_S32x32
    (constant S_ .f32 0x40000000#32)) (res_main_v29 V)) (Host.dotGeneral dot_S32x32_S32x32_S32x32_1_0_0_1_n_n none (φ₁ := .f32) (φ₂ := .f32)
      (res_main_v23 V) y))

variable {V} in
/-- One Newton step of the reference turns an estimate into the next. -/
theorem step_at {y : FVec Ideal S32x32 .f32} {n : ℕ} (h : ∀ i j : Fin 32, y (ix2 i j) = (args V).newton n i j) :
    ∀ i j : Fin 32, step V y (ix2 i j) = (args V).newton (n + 1) i j := by
  intro i j
  pointwise [step, v29, v23, h, TSpec.Args.newton]

/-- The iteration after nineteen steps. -/
theorem v134 : ∀ i j : Fin 32, res_main_v134 V (ix2 i j) = (args V).newton 19 i j :=
  step_at (y := res_main_v129 V) <| step_at (y := res_main_v124 V) <| step_at (y := res_main_v119 V) <|
  step_at (y := res_main_v114 V) <| step_at (y := res_main_v109 V) <| step_at (y := res_main_v104 V) <|
  step_at (y := res_main_v99 V) <| step_at (y := res_main_v94 V) <| step_at (y := res_main_v89 V) <|
  step_at (y := res_main_v84 V) <| step_at (y := res_main_v79 V) <| step_at (y := res_main_v74 V) <|
  step_at (y := res_main_v69 V) <| step_at (y := res_main_v64 V) <| step_at (y := res_main_v59 V) <|
  step_at (y := res_main_v54 V) <| step_at (y := res_main_v49 V) <| step_at (y := res_main_v44 V) <|
  step_at (y := res_main_v39 V) <| v39 V

/-- The reference's rows after the rotation. -/
theorem v148 (b : Fin 2) (t d : Fin 1024) : res_main_v148 V (ix3 b t d) = (args V).y2 b t d := by
  have h : ∀ i j : Fin 32, step V (res_main_v134 V) (ix2 i j) = (args V).newton 20 i j := step_at (v134 V)
  unfold res_main_v148
  rw [show Host.dotGeneral dot_S32x32_S32x32_S32x32_1_0_0_1_n_n none (res_main_v134 V) _ = step V (res_main_v134 V) from rfl]
  pointwise [v12, v16, v22, h, g5, g6, TSpec.Args.y2, TSpec.Args.t2, TSpec.Args.t1, TSpec.Args.qc]

/-- The router's logits in the reference. -/
theorem v150 (b : Fin 2) (t : Fin 1024) (e : Fin 8) : res_main_v150 V (ix3 b t e) = (args V).logit b t e := by
  unfold res_main_v150
  pointwise [v148, g7, TSpec.Args.logit]

/-- The exponentials of the softmax in the reference. -/
theorem v157 (b : Fin 2) (t : Fin 1024) (e : Fin 8) : res_main_v157 V (ix3 b t e) = TSpec.ex ((args V).logit b t) e := by
  unfold res_main_v157
  have r : S2x1024x8.Reduces [2] S2x1024 := by decide
  have e : ∀ x : Fin 8, r.lift (ix2 b t) x = ix3 b t x := fun x => funext fun
    | ⟨0, _⟩ => rfl | ⟨1, _⟩ => rfl | ⟨2, _⟩ => rfl
  have h : Host.reduce FloatOps.maximumf (res_main_v150 V) (constant (F := Ideal) S_ .f32 0xFF800000#32)
      reducesTo_S2x1024x8_S2x1024_d2 h_S_ (ix2 b t) = TSpec.vmax ((args V).logit b t) := by
    refine (Host.reduce_eq_fold_single (FloatOps.maximumf (F := Ideal) (φ := .f32)) _ _ reducesTo_S2x1024x8_S2x1024_d2 r h_S_ _).trans ?_
    exact congrArg (fun f => Finset.fold max (Ideal.ofBits .f32 0xFF800000#32) f Finset.univ)
      (funext fun x => (congrArg (res_main_v150 V) (e x)).trans (v150 V b t x))
  generalize Host.reduce FloatOps.maximumf (res_main_v150 V) (constant (F := Ideal) S_ .f32 0xFF800000#32)
      reducesTo_S2x1024x8_S2x1024_d2 h_S_ = z at h ⊢
  pointwise [v150, TSpec.ex, h, TSpec.ofBits_bot]
  rw [max_eq_right bot_le]

/-- The router's probabilities in the reference. -/
theorem v161 (b : Fin 2) (t : Fin 1024) (e : Fin 8) : res_main_v161 V (ix3 b t e) = (args V).pr b t e := by
  unfold res_main_v161
  pointwise [v157, TSpec.Args.pr, TSpec.prob]

/-- The bits of the constant two are the real number two. -/
theorem ofBits_two : Ideal.ofBits .f32 0x40000000#32 = ((2 : ℝ) : EReal) := by
  simp [Ideal.ofBits, Ideal.ieee, -EReal.coe_mul]; norm_num

/-- The conjunction of two decisions, as bits, is the decision of the conjunction. -/
theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The disjunction of two decisions, as bits, is the decision of the disjunction. -/
theorem or_bit (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

open Classical in
/-- The sum of the comparisons' bits is the count of what comes before. -/
theorem sum_before (f : Fin 8 → EReal) (e : Fin 8) :
    (∑ x : Fin 8, if TSpec.Before f x e then (1 : EReal) else 0) = ((TSpec.count f e : ℝ) : EReal) := by
  have h : ∀ x : Fin 8, (if TSpec.Before f x e then (1 : EReal) else 0) = (((if TSpec.Before f x e then 1 else 0 : ℝ)) : EReal) :=
    fun x => by split <;> rfl
  rw [Finset.sum_congr rfl fun x _ => h x, ← Spec.coe_sum, Finset.sum_boole, TSpec.count]

open Classical in
/-- The mask of the two chosen experts in the reference. -/
theorem v181 (b : Fin 2) (t : Fin 1024) (e : Fin 8) : res_main_v181 V (ix3 b t e) = (args V).mask b t e := by
  have h : res_main_v181 V (ix3 b t e) = FloatOps.uitofp (F := Ideal) .f32 (BitVec.ofBool (decide
      ((∑ x : Fin 8, FloatOps.uitofp (F := Ideal) .f32 (IntOp.ori (BitVec.ofBool (decide ((args V).pr b t e < (args V).pr b t x)))
        (IntOp.andi (BitVec.ofBool (decide ((args V).pr b t x = (args V).pr b t e)))
          (IntOp.cmpi .slt (BitVec.ofNat 32 x.val) (BitVec.ofNat 32 e.val))))) < Ideal.ofBits .f32 0x40000000#32))) := by
    unfold res_main_v181 res_main_v164 res_main_v165
    pointwise [v161]
  have k : ∀ x : Fin 8, FloatOps.uitofp (F := Ideal) .f32 (IntOp.ori (BitVec.ofBool (decide ((args V).pr b t e < (args V).pr b t x)))
        (IntOp.andi (BitVec.ofBool (decide ((args V).pr b t x = (args V).pr b t e)))
          (IntOp.cmpi .slt (BitVec.ofNat 32 x.val) (BitVec.ofNat 32 e.val))))
      = if TSpec.Before ((args V).pr b t) x e then (1 : EReal) else 0 := fun x => by
    rw [WordCmp.cmpi_slt_ofNat (by omega) (by omega), and_bit, or_bit, bit_float]
    exact if_congr Iff.rfl rfl rfl
  simp only [k, sum_before, ofBits_two, EReal.coe_lt_coe_iff, bit_float] at h
  rw [h, TSpec.Args.mask, TSpec.top]
  refine if_congr ?_ rfl rfl
  exact_mod_cast Iff.rfl

/-- The masked probabilities in the reference. -/
theorem v182 (b : Fin 2) (t : Fin 1024) (e : Fin 8) : res_main_v182 V (ix3 b t e) = (args V).pr b t e * (args V).mask b t e := by
  unfold res_main_v182
  pointwise [v161, v181]

/-- The reference's rows after the experts are added. -/
theorem v194 (b : Fin 2) (t d : Fin 1024) : res_main_v194 V (ix3 b t d) = (args V).x2 b t d := by
  unfold res_main_v194
  pointwise [v148, v182, g8, g9, TSpec.Args.x2, TSpec.Args.expert, TSpec.Args.gate]

/-- The novelty of one batch element in the reference. -/
theorem v214 (b : Fin 2) : res_main_v214 V (ix3 b 0 0) = (args V).nov b := by
  unfold res_main_v214
  pointwise [v194, g0, g10, g11, TSpec.Args.nov, TSpec.sigm, TSpec.Args.novArg, Spec.mean]

/-- The rows blended by the novelty in the reference. -/
theorem v221 (b : Fin 2) (t d : Fin 1024) : res_main_v221 V (ix3 b t d) = (args V).x3 b t d := by
  unfold res_main_v221
  pointwise [v214, v194, g0, TSpec.Args.x3]

/-- The mean of the blended rows in the reference. -/
theorem v224 (b : Fin 2) (d : Fin 1024) : res_main_v224 V (ix2 b d) = (args V).post b d := by
  unfold res_main_v224
  pointwise [v221, TSpec.Args.post, Spec.mean]

/-- The memory query in the reference. -/
theorem v226 (b : Fin 2) (k : Fin 384) : res_main_v226 V (ix2 b k) = (args V).hq b k := by
  unfold res_main_v226
  pointwise [v224, g14, TSpec.Args.hq]

end Cert.TailReferenceIdeal.Ref
-- ==== Proof.TRun.lean ====
/-
  What the tail's reference leaves, at an index, as values of the arguments.
-/
module

public import proofs.«01_k».proof.Proof.TRef

@[expose] public section

set_option maxRecDepth 16384

noncomputable section

namespace Cert.TailReferenceIdeal.Ref

open Idealize.ShloMosaic Idealize.ShloMosaic.TcCoe Idealize.ShloMosaic.StableHlo Idealize.SL.Sem
open Cert.TailReferenceIdeal Cert.TailReferenceIdeal.Gen Cert.TailReferenceIdeal.Value

/-- The reference runs, leaves the two results the specification gives, and keeps its arguments. -/
theorem run_args (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 2) (t d : Fin 1024), r.2.mem ((c.tc : Thread nD τ).loc main_v260) (ix3 b t d) = (args (launchContents m c)).x4 b t d)
      ∧ (∀ (b : Fin 2) (q e : Fin 8), r.2.mem ((c.tc : Thread nD τ).loc main_v266) (ix3 b q e) = (args (launchContents m c)).sums b q e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) := by
  refine (θ_run defs _ _).mono (fun r h c => ?_) (Value.run m ρ)
  obtain ⟨h20, h21, hk⟩ := h c
  refine ⟨fun b t d => ?_, fun b q e => ?_, hk⟩
  · rw [h20]
    generalize launchContents m c = V
    pointwise [v221, v224, v226, g2, g15, g16, g17, TSpec.Args.x4, TSpec.Args.sim, TSpec.Args.gm, TSpec.sigm]
  · rw [h21]
    generalize launchContents m c = V
    pointwise [v161, v181, TSpec.Args.sums]
    simp only [dite_eq_ite]

end Cert.TailReferenceIdeal.Ref

end
-- ==== Proof.TEqual.lean ====
/-
  The tail's two programs leave equal results: both are the specification's values at every index. And what the tail's
  precondition says.
-/
module

public import proofs.«01_k».proof.Proof.TArr
public import proofs.«01_k».proof.Proof.TRun
public import proofs.«01_k».proof.Proof.Equal
public import proofs.«01_k».proof.Proof.Finite
public import proofs.«01_k».proof.Pre_finite_tail

@[expose] public section

set_option maxRecDepth 16384

noncomputable section

namespace Cert.TEqual

open Idealize.ShloMosaic Idealize.ShloMosaic.TcCoe Idealize.ShloMosaic.StableHlo Idealize.SL.Sem
open Cert.TailIdeal Cert.TailIdeal.Gen

section
open Cert.Pre_finite_tail

/-- The precondition: the arrays that the router's values depend on hold real numbers. -/
theorem fin_of [hPre_finite_tail : Cert.Pre_finite_tail.Facts] (A : TArr)
    (e : Cert.Pre_finite_tail.fn (F := Ideal) A.a0 A.a1 A.a2 A.a3 A.a4 A.a5 A.a6 A.a7 A.a8 A.a9 A.a10 A.a11 A.a12 A.a13 A.a14 A.a15
      A.a16 A.a17 = fun _ => 1#1) : A.args.Fin := by
  have h := congrFun e (fun k => k.elim0)
  unfold fn fn_part1 fn_part2 at h
  obtain ⟨h, e13⟩ := IntOp.andi_eq_one.1 h
  obtain ⟨h, e12⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨e1, e3⟩ := IntOp.andi_eq_one.1 h
  exact {
    x1 := fun b t d => Cert.Finite.real_of _ _ _ _ _ e1 (ix3 b t d)
    rag := fun b i j => Cert.Finite.real_of _ _ _ _ _ e3 (ix3 b i j)
    wsk := fun i j => Cert.Finite.real_of _ _ _ _ _ e4 (ix2 i j)
    win := fun i d => Cert.Finite.real_of _ _ _ _ _ e5 (ix2 i d)
    wout := fun d i => Cert.Finite.real_of _ _ _ _ _ e6 (ix2 d i)
    wrt := fun e d => Cert.Finite.real_of _ _ _ _ _ e7 (ix2 e d)
    wrq := fun n d => Cert.Finite.real_of _ _ _ _ _ e12 (ix2 n d)
    wro := fun d n => Cert.Finite.real_of _ _ _ _ _ e13 (ix2 d n) }

end

variable (m : (ℓ : Loc nD τ sig) → Buf (Elt Ideal) ℓ) (c : Dev nD)

/-- Equal argument arrays in the two programs' memories. -/
theorem args_eq (m' : (ℓ : Loc Cert.TailReferenceIdeal.nD Cert.TailReferenceIdeal.τ Cert.TailReferenceIdeal.sig) → Buf (Elt Ideal) ℓ)
    (h0 : m' ((c.tc : Thread Cert.TailReferenceIdeal.nD Cert.TailReferenceIdeal.τ).loc Cert.TailReferenceIdeal.main_arg0) = m ((c.tc : Thread nD τ).loc main_arg0))
    (h1 : m' ((c.tc : Thread Cert.TailReferenceIdeal.nD Cert.TailReferenceIdeal.τ).loc Cert.TailReferenceIdeal.main_arg1) = m ((c.tc : Thread nD τ).loc main_arg1))
    (h2 : m' ((c.tc : Thread Cert.TailReferenceIdeal.nD Cert.TailReferenceIdeal.τ).loc Cert.TailReferenceIdeal.main_arg2) = m ((c.tc : Thread nD τ).loc main_arg2))
    (h3 : m' ((c.tc : Thread Cert.TailReferenceIdeal.nD Cert.TailReferenceIdeal.τ).loc Cert.TailReferenceIdeal.main_arg3) = m ((c.tc : Thread nD τ).loc main_arg3))
    (h4 : m' ((c.tc : Thread Cert.TailReferenceIdeal.nD Cert.TailReferenceIdeal.τ).loc Cert.TailReferenceIdeal.main_arg4) = m ((c.tc : Thread nD τ).loc main_arg4))
    (h5 : m' ((c.tc : Thread Cert.TailReferenceIdeal.nD Cert.TailReferenceIdeal.τ).loc Cert.TailReferenceIdeal.main_arg5) = m ((c.tc : Thread nD τ).loc main_arg5))
    (h6 : m' ((c.tc : Thread Cert.TailReferenceIdeal.nD Cert.TailReferenceIdeal.τ).loc Cert.TailReferenceIdeal.main_arg6) = m ((c.tc : Thread nD τ).loc main_arg6))
    (h7 : m' ((c.tc : Thread Cert.TailReferenceIdeal.nD Cert.TailReferenceIdeal.τ).loc Cert.TailReferenceIdeal.main_arg7) = m ((c.tc : Thread nD τ).loc main_arg7))
    (h8 : m' ((c.tc : Thread Cert.TailReferenceIdeal.nD Cert.TailReferenceIdeal.τ).loc Cert.TailReferenceIdeal.main_arg8) = m ((c.tc : Thread nD τ).loc main_arg8))
    (h9 : m' ((c.tc : Thread Cert.TailReferenceIdeal.nD Cert.TailReferenceIdeal.τ).loc Cert.TailReferenceIdeal.main_arg9) = m ((c.tc : Thread nD τ).loc main_arg9))
    (h10 : m' ((c.tc : Thread Cert.TailReferenceIdeal.nD Cert.TailReferenceIdeal.τ).loc Cert.TailReferenceIdeal.main_arg10) = m ((c.tc : Thread nD τ).loc main_arg10))
    (h11 : m' ((c.tc : Thread Cert.TailReferenceIdeal.nD Cert.TailReferenceIdeal.τ).loc Cert.TailReferenceIdeal.main_arg11) = m ((c.tc : Thread nD τ).loc main_arg11))
    (h12 : m' ((c.tc : Thread Cert.TailReferenceIdeal.nD Cert.TailReferenceIdeal.τ).loc Cert.TailReferenceIdeal.main_arg12) = m ((c.tc : Thread nD τ).loc main_arg12))
    (h13 : m' ((c.tc : Thread Cert.TailReferenceIdeal.nD Cert.TailReferenceIdeal.τ).loc Cert.TailReferenceIdeal.main_arg13) = m ((c.tc : Thread nD τ).loc main_arg13))
    (h14 : m' ((c.tc : Thread Cert.TailReferenceIdeal.nD Cert.TailReferenceIdeal.τ).loc Cert.TailReferenceIdeal.main_arg14) = m ((c.tc : Thread nD τ).loc main_arg14))
    (h15 : m' ((c.tc : Thread Cert.TailReferenceIdeal.nD Cert.TailReferenceIdeal.τ).loc Cert.TailReferenceIdeal.main_arg15) = m ((c.tc : Thread nD τ).loc main_arg15))
    (h16 : m' ((c.tc : Thread Cert.TailReferenceIdeal.nD Cert.TailReferenceIdeal.τ).loc Cert.TailReferenceIdeal.main_arg16) = m ((c.tc : Thread nD τ).loc main_arg16))
    (h17 : m' ((c.tc : Thread Cert.TailReferenceIdeal.nD Cert.TailReferenceIdeal.τ).loc Cert.TailReferenceIdeal.main_arg17) = m ((c.tc : Thread nD τ).loc main_arg17)) :
    Cert.TailReferenceIdeal.Ref.args (StableHlo.launchContents m' c) = (Host.arr m c).args := by
  refine congrArg TArr.args ?_
  unfold Host.arr
  rw [← h0, ← h1, ← h2, ← h3, ← h4, ← h5, ← h6, ← h7, ← h8, ← h9, ← h10, ← h11, ← h12, ← h13, ← h14, ← h15, ← h16, ← h17]
  rfl

/-- The first result: the layer's output. -/
theorem eq20 (ha : (Host.arr m c).args.Fin) {f : (⟨3, ![2, 1024, 1024]⟩ : Shape).Idx → EReal}
    (h : ∀ (b : Fin 2) (t d : Fin 1024), f (ix3 b t d) = (Host.arr m c).args.x4 b t d) : f = (dats m 0 c).arrAt 20 cfg0.N :=
  (Cert.Equal.ext3 fun b t d => (h b t d).trans ((Host.of m c).res20 ha b t d).symm).trans (Host.arr20 m c).symm

/-- The second result: the sums that the auxiliary value is made of. -/
theorem eq21 (ha : (Host.arr m c).args.Fin) {f : (⟨3, ![2, 8, 8]⟩ : Shape).Idx → EReal}
    (h : ∀ (b : Fin 2) (q e : Fin 8), f (ix3 b q e) = (Host.arr m c).args.sums b q e) : f = (dats m 0 c).arrAt 21 cfg0.N :=
  (Cert.Equal.ext3 fun b q e => (h b q e).trans ((Host.of m c).res21 ha b q e).symm).trans (Host.arr21 m c).symm

end Cert.TEqual

end
-- ==== Proof.lean ====
module

public import proofs.«01_k».proof.Proof.Gen.ReferenceIdeal.Step
public import proofs.«01_k».proof.Proof.Gen.ReferenceIdeal.Run
public import proofs.«01_k».proof.Proof.Gen.KernelIdeal.Value
public import proofs.«01_k».proof.Proof.Equal
public import proofs.«01_k».proof.Proof.Finite
public import proofs.«01_k».proof.Proof.TEqual
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.TailIdeal.Value
public import proofs.«01_k».proof.Proof.Gen.TailReferenceIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailReferenceIdeal
public import proofs.«01_k».proof.Proof.Gen.Pre_finite_tail
public import Idealize.ShloMosaic.Adequacy
public import Idealize.ShloMosaic.Init

@[expose] public section

noncomputable section

namespace Cert.Proof

open Idealize.ShloMosaic Idealize.SL.Sem

/-- The reference keeps its arguments and ends with every counter at zero: it declares no semaphore. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Exec.run m ρ)

/-- Over the extended reals the kernel and the reference leave the same five results, for real arguments. -/
theorem same : Cert.algebraic_KernelIdeal_ReferenceIdeal_pre_finite := by
  intro m g m' g' hp hagree
  have hf : ∀ c, (Cert.KernelIdeal.Host.arr m c).args.Fin := fun c => Cert.Finite.fin_of (Cert.KernelIdeal.Host.arr m c) (hp c)
  have he : ∀ c, Cert.ReferenceIdeal.Exec.arr m' c = Cert.KernelIdeal.Host.arr m c := by
    intro c
    obtain ⟨h0, h1, h2, h3, h4, h5, h6, h7, h8, h9, h10, h11, h12, h13, h14, h15, h16, h17, h18, h19, h20⟩ := hagree c
    exact Cert.Equal.arr_eq m c m' h0 h1 h2 h3 h4 h5 h6 h7 h8 h9 h10 h11 h12 h13 h14 h15 h16 h17 h18 h19 h20
  refine ⟨fun c => (Cert.KernelIdeal.Gen.dats m 0 c).arrAt 17 Cert.KernelIdeal.cfg0.N,
    fun c => (Cert.KernelIdeal.Gen.dats m 0 c).arrAt 18 Cert.KernelIdeal.cfg0.N,
    fun c => (Cert.KernelIdeal.Gen.dats m 0 c).arrAt 19 Cert.KernelIdeal.cfg0.N,
    fun c => (Cert.KernelIdeal.Gen.dats m 0 c).arrAt 20 Cert.KernelIdeal.cfg0.N,
    fun c => (Cert.KernelIdeal.Gen.dats m 0 c).arrAt 21 Cert.KernelIdeal.cfg0.N,
    Cert.KernelIdeal.Value.run_blocks m g, ?_⟩
  refine (θ_run Cert.ReferenceIdeal.defs _ _).mono (fun r h c => ?_)
    (Cert.ReferenceIdeal.Exec.run m' g')
  obtain ⟨r17, r18, r19, r20, r21, hargs⟩ := h c
  have e17 := Cert.Equal.eq17 m c (hf c)
  have e18 := Cert.Equal.eq18 m c (hf c)
  have e19 := Cert.Equal.eq19 m c (hf c)
  have e20 := Cert.Equal.eq20 m c
  have e21 := Cert.Equal.eq21 m c
  rw [← he c] at e17 e18 e19 e20 e21
  exact ⟨r17.trans e17.symm, r18.trans e18.symm, r19.trans e19.symm, r20.trans e20.symm, r21.trans e21.symm, hargs⟩

/-- The tail's reference keeps its arguments and ends with every counter at zero: it declares no semaphore. -/
theorem frame_tail_reference : Cert.quiescent_TailReferenceIdeal := fun m ρ _ =>
  (θ_run Cert.TailReferenceIdeal.defs _ _).mono
    (fun r h => ⟨fun c => (h c).2.2, sem_eq_zero_of_no_sems (by decide) r.2⟩)
    (Cert.TailReferenceIdeal.Ref.run_args m ρ)

/-- Over the extended reals the tail call and its reference leave the same two results, where the router's values are real. -/
theorem same_tail : Cert.algebraic_TailIdeal_TailReferenceIdeal_pre_finite_tail := by
  intro m g m' g' hp hagree
  have hf : ∀ c, (Cert.TailIdeal.Host.arr m c).args.Fin := fun c => Cert.TEqual.fin_of (Cert.TailIdeal.Host.arr m c) (hp c)
  have he : ∀ c, Cert.TailReferenceIdeal.Ref.args (StableHlo.launchContents m' c) = (Cert.TailIdeal.Host.arr m c).args := by
    intro c
    obtain ⟨h0, h1, h2, h3, h4, h5, h6, h7, h8, h9, h10, h11, h12, h13, h14, h15, h16, h17⟩ := hagree c
    exact Cert.TEqual.args_eq m c m' h0 h1 h2 h3 h4 h5 h6 h7 h8 h9 h10 h11 h12 h13 h14 h15 h16 h17
  refine ⟨fun c => (Cert.TailIdeal.Gen.dats m 0 c).arrAt 20 Cert.TailIdeal.cfg0.N,
    fun c => (Cert.TailIdeal.Gen.dats m 0 c).arrAt 21 Cert.TailIdeal.cfg0.N,
    Cert.TailIdeal.Value.run_blocks m g, ?_⟩
  refine (θ_run Cert.TailReferenceIdeal.defs _ _).mono (fun r h c => ?_) (Cert.TailReferenceIdeal.Ref.run_args m' g')
  obtain ⟨r20, r21, hargs⟩ := h c
  simp only [he c] at r20 r21
  exact ⟨Cert.TEqual.eq20 m c (hf c) r20, Cert.TEqual.eq21 m c (hf c) r21, hargs⟩

/-- The certificate's claims: of each of the two calls the three frames, its rules, and the equal results. -/
theorem claim : Cert.Claim :=
  ⟨Cert.Kernel.Gen.facts, Cert.KernelIdeal.Gen.facts, Cert.ReferenceIdeal.Gen.facts, Cert.Tail.Gen.facts,
    Cert.TailIdeal.Gen.facts, Cert.TailReferenceIdeal.Gen.facts, Cert.Pre_finite.Gen.facts, Cert.Pre_finite_tail.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Tail.Gen.frame m ρ,
    fun m ρ _ => Cert.TailIdeal.Gen.frame m ρ,
    fun m ρ _ => Cert.TailIdeal.Gen.frame m ρ,
    frame_tail_reference,
    fun m ρ _ => frame_tail_reference m ρ trivial,
    IdealRules.named_const.statement Cert.KernelIdeal.κ "mask" .f32 0xF149F2CA#32 ⊥ rfl,
    same,
    trivial,
    same_tail⟩

end Cert.Proof

end
